-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_params [hPre_finite_params : Cert.Pre_finite_params.Facts] (m : (ℓ : Loc Cert.KernelIdeal.nD Cert.KernelIdeal.τ Cert.KernelIdeal.sig) → Buf (Elt Ideal) ℓ) : Prop :=
  ∀ c : Dev Cert.KernelIdeal.nD,
    (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_params [hPre_finite_params : Cert.Pre_finite_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelRkv (m : (ℓ : Loc Cert.KernelRkv.nD Cert.KernelRkv.τ Cert.KernelRkv.sig) → Buf (Elt Bits) ℓ) : Prop :=
  True

def Pre_KernelRkvIdeal (m : (ℓ : Loc Cert.KernelRkvIdeal.nD Cert.KernelRkvIdeal.τ Cert.KernelRkvIdeal.sig) → Buf (Elt Ideal) ℓ) : Prop :=
  True

def Pre_ReferenceRkvIdeal (m : (ℓ : Loc Cert.ReferenceRkvIdeal.nD Cert.ReferenceRkvIdeal.τ Cert.ReferenceRkvIdeal.sig) → Buf (Elt Ideal) ℓ) : Prop :=
  True

def Pre_KernelLora (m : (ℓ : Loc Cert.KernelLora.nD Cert.KernelLora.τ Cert.KernelLora.sig) → Buf (Elt Bits) ℓ) : Prop :=
  True

def Pre_KernelLoraIdeal (m : (ℓ : Loc Cert.KernelLoraIdeal.nD Cert.KernelLoraIdeal.τ Cert.KernelLoraIdeal.sig) → Buf (Elt Ideal) ℓ) : Prop :=
  True

def Pre_ReferenceLoraIdeal (m : (ℓ : Loc Cert.ReferenceLoraIdeal.nD Cert.ReferenceLoraIdeal.τ Cert.ReferenceLoraIdeal.sig) → Buf (Elt Ideal) ℓ) : Prop :=
  True

def Pre_KernelGateA (m : (ℓ : Loc Cert.KernelGateA.nD Cert.KernelGateA.τ Cert.KernelGateA.sig) → Buf (Elt Bits) ℓ) : Prop :=
  True

def Pre_KernelGateAIdeal (m : (ℓ : Loc Cert.KernelGateAIdeal.nD Cert.KernelGateAIdeal.τ Cert.KernelGateAIdeal.sig) → Buf (Elt Ideal) ℓ) : Prop :=
  True

def Pre_ReferenceGateAIdeal (m : (ℓ : Loc Cert.ReferenceGateAIdeal.nD Cert.ReferenceGateAIdeal.τ Cert.ReferenceGateAIdeal.sig) → Buf (Elt Ideal) ℓ) : Prop :=
  True

def Pre_KernelBranchB (m : (ℓ : Loc Cert.KernelBranchB.nD Cert.KernelBranchB.τ Cert.KernelBranchB.sig) → Buf (Elt Bits) ℓ) : Prop :=
  True

def Pre_KernelBranchBIdeal (m : (ℓ : Loc Cert.KernelBranchBIdeal.nD Cert.KernelBranchBIdeal.τ Cert.KernelBranchBIdeal.sig) → Buf (Elt Ideal) ℓ) : Prop :=
  True

def Pre_ReferenceBranchBIdeal (m : (ℓ : Loc Cert.ReferenceBranchBIdeal.nD Cert.ReferenceBranchBIdeal.τ Cert.ReferenceBranchBIdeal.sig) → Buf (Elt Ideal) ℓ) : Prop :=
  True

def Pre_KernelBranchC (m : (ℓ : Loc Cert.KernelBranchC.nD Cert.KernelBranchC.τ Cert.KernelBranchC.sig) → Buf (Elt Bits) ℓ) : Prop :=
  True

def Pre_KernelBranchCIdeal (m : (ℓ : Loc Cert.KernelBranchCIdeal.nD Cert.KernelBranchCIdeal.τ Cert.KernelBranchCIdeal.sig) → Buf (Elt Ideal) ℓ) : Prop :=
  True

def Pre_ReferenceBranchCIdeal (m : (ℓ : Loc Cert.ReferenceBranchCIdeal.nD Cert.ReferenceBranchCIdeal.τ Cert.ReferenceBranchCIdeal.sig) → Buf (Elt Ideal) ℓ) : Prop :=
  True

def Pre_KernelBranchM (m : (ℓ : Loc Cert.KernelBranchM.nD Cert.KernelBranchM.τ Cert.KernelBranchM.sig) → Buf (Elt Bits) ℓ) : Prop :=
  True

def Pre_KernelBranchMIdeal (m : (ℓ : Loc Cert.KernelBranchMIdeal.nD Cert.KernelBranchMIdeal.τ Cert.KernelBranchMIdeal.sig) → Buf (Elt Ideal) ℓ) : Prop :=
  True

def Pre_ReferenceBranchMIdeal (m : (ℓ : Loc Cert.ReferenceBranchMIdeal.nD Cert.ReferenceBranchMIdeal.τ Cert.ReferenceBranchMIdeal.sig) → Buf (Elt Ideal) ℓ) : Prop :=
  True

def Pre_KernelMemKv (m : (ℓ : Loc Cert.KernelMemKv.nD Cert.KernelMemKv.τ Cert.KernelMemKv.sig) → Buf (Elt Bits) ℓ) : Prop :=
  True

def Pre_KernelMemKvIdeal (m : (ℓ : Loc Cert.KernelMemKvIdeal.nD Cert.KernelMemKvIdeal.τ Cert.KernelMemKvIdeal.sig) → Buf (Elt Ideal) ℓ) : Prop :=
  True

def Pre_ReferenceMemKvIdeal (m : (ℓ : Loc Cert.ReferenceMemKvIdeal.nD Cert.ReferenceMemKvIdeal.τ Cert.ReferenceMemKvIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNormMem (m : (ℓ : Loc Cert.KernelNormMem.nD Cert.KernelNormMem.τ Cert.KernelNormMem.sig) → Buf (Elt Bits) ℓ) : Prop :=
  True

def Pre_KernelNormMemIdeal (m : (ℓ : Loc Cert.KernelNormMemIdeal.nD Cert.KernelNormMemIdeal.τ Cert.KernelNormMemIdeal.sig) → Buf (Elt Ideal) ℓ) : Prop :=
  True

def Pre_ReferenceNormMemIdeal (m : (ℓ : Loc Cert.ReferenceNormMemIdeal.nD Cert.ReferenceNormMemIdeal.τ Cert.ReferenceNormMemIdeal.sig) → Buf (Elt Ideal) ℓ) : Prop :=
  True

def Pre_KernelMemAttn (m : (ℓ : Loc Cert.KernelMemAttn.nD Cert.KernelMemAttn.τ Cert.KernelMemAttn.sig) → Buf (Elt Bits) ℓ) : Prop :=
  True

def Pre_KernelMemAttnIdeal (m : (ℓ : Loc Cert.KernelMemAttnIdeal.nD Cert.KernelMemAttnIdeal.τ Cert.KernelMemAttnIdeal.sig) → Buf (Elt Ideal) ℓ) : Prop :=
  True

def Pre_ReferenceMemAttnIdeal (m : (ℓ : Loc Cert.ReferenceMemAttnIdeal.nD Cert.ReferenceMemAttnIdeal.τ Cert.ReferenceMemAttnIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelSgu (m : (ℓ : Loc Cert.KernelSgu.nD Cert.KernelSgu.τ Cert.KernelSgu.sig) → Buf (Elt Bits) ℓ) : Prop :=
  True

def Pre_KernelSguIdeal (m : (ℓ : Loc Cert.KernelSguIdeal.nD Cert.KernelSguIdeal.τ Cert.KernelSguIdeal.sig) → Buf (Elt Ideal) ℓ) : Prop :=
  True

def Pre_KernelSguIdeal_above_bottom [hPre_above_bottom : Cert.Pre_above_bottom.Facts] (m : (ℓ : Loc Cert.KernelSguIdeal.nD Cert.KernelSguIdeal.τ Cert.KernelSguIdeal.sig) → Buf (Elt Ideal) ℓ) : Prop :=
  ∀ c : Dev Cert.KernelSguIdeal.nD,
    (Cert.Pre_above_bottom.fn (F := Ideal) (m ((c.tc : Thread Cert.KernelSguIdeal.nD Cert.KernelSguIdeal.τ).loc Cert.KernelSguIdeal.main_arg0)) (m ((c.tc : Thread Cert.KernelSguIdeal.nD Cert.KernelSguIdeal.τ).loc Cert.KernelSguIdeal.main_arg1)) (m ((c.tc : Thread Cert.KernelSguIdeal.nD Cert.KernelSguIdeal.τ).loc Cert.KernelSguIdeal.main_arg2)) (m ((c.tc : Thread Cert.KernelSguIdeal.nD Cert.KernelSguIdeal.τ).loc Cert.KernelSguIdeal.main_arg3)) (m ((c.tc : Thread Cert.KernelSguIdeal.nD Cert.KernelSguIdeal.τ).loc Cert.KernelSguIdeal.main_arg4))) = (fun _ => 1#1)

def Pre_ReferenceSguIdeal (m : (ℓ : Loc Cert.ReferenceSguIdeal.nD Cert.ReferenceSguIdeal.τ Cert.ReferenceSguIdeal.sig) → Buf (Elt Ideal) ℓ) : Prop :=
  True

def Pre_ReferenceSguIdeal_above_bottom [hPre_above_bottom : Cert.Pre_above_bottom.Facts] (m : (ℓ : Loc Cert.ReferenceSguIdeal.nD Cert.ReferenceSguIdeal.τ Cert.ReferenceSguIdeal.sig) → Buf (Elt Ideal) ℓ) : Prop :=
  ∀ c : Dev Cert.ReferenceSguIdeal.nD,
    (Cert.Pre_above_bottom.fn (F := Ideal) (m ((c.tc : Thread Cert.ReferenceSguIdeal.nD Cert.ReferenceSguIdeal.τ).loc Cert.ReferenceSguIdeal.main_arg0)) (m ((c.tc : Thread Cert.ReferenceSguIdeal.nD Cert.ReferenceSguIdeal.τ).loc Cert.ReferenceSguIdeal.main_arg1)) (m ((c.tc : Thread Cert.ReferenceSguIdeal.nD Cert.ReferenceSguIdeal.τ).loc Cert.ReferenceSguIdeal.main_arg2)) (m ((c.tc : Thread Cert.ReferenceSguIdeal.nD Cert.ReferenceSguIdeal.τ).loc Cert.ReferenceSguIdeal.main_arg3)) (m ((c.tc : Thread Cert.ReferenceSguIdeal.nD Cert.ReferenceSguIdeal.τ).loc Cert.ReferenceSguIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_params [hKernelIdeal : Cert.KernelIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_params [hReferenceIdeal : Cert.ReferenceIdeal.Facts] [hPre_finite_params : Cert.Pre_finite_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5))
      ∧ r.2.sem = fun _ => 0)

def quiescent_KernelRkv [hKernelRkv : Cert.KernelRkv.Facts] : Prop :=
  ∀ (m : (ℓ : Loc Cert.KernelRkv.nD Cert.KernelRkv.τ Cert.KernelRkv.sig) → Buf (Elt Bits) ℓ) (g : Dev Cert.KernelRkv.nD → PrngReg), Pre_KernelRkv m →
    θ_run (Cert.KernelRkv.defs (F := Bits)) (onTc (τ := Cert.KernelRkv.τ) (Cert.KernelRkv.main (F := Bits))) ⟨m, fun _ => 0, g⟩ (fun r => (∀ c : Dev Cert.KernelRkv.nD,
      r.2.mem ((c.tc : Thread Cert.KernelRkv.nD Cert.KernelRkv.τ).loc Cert.KernelRkv.main_arg0) = m ((c.tc : Thread Cert.KernelRkv.nD Cert.KernelRkv.τ).loc Cert.KernelRkv.main_arg0)
      ∧ r.2.mem ((c.tc : Thread Cert.KernelRkv.nD Cert.KernelRkv.τ).loc Cert.KernelRkv.main_arg1) = m ((c.tc : Thread Cert.KernelRkv.nD Cert.KernelRkv.τ).loc Cert.KernelRkv.main_arg1))
      ∧ r.2.sem = fun _ => 0)

def quiescent_KernelRkvIdeal [hKernelRkvIdeal : Cert.KernelRkvIdeal.Facts] : Prop :=
  ∀ (m : (ℓ : Loc Cert.KernelRkvIdeal.nD Cert.KernelRkvIdeal.τ Cert.KernelRkvIdeal.sig) → Buf (Elt Ideal) ℓ) (g : Dev Cert.KernelRkvIdeal.nD → PrngReg), Pre_KernelRkvIdeal m →
    θ_run (Cert.KernelRkvIdeal.defs (F := Ideal)) (onTc (τ := Cert.KernelRkvIdeal.τ) (Cert.KernelRkvIdeal.main (F := Ideal))) ⟨m, fun _ => 0, g⟩ (fun r => (∀ c : Dev Cert.KernelRkvIdeal.nD,
      r.2.mem ((c.tc : Thread Cert.KernelRkvIdeal.nD Cert.KernelRkvIdeal.τ).loc Cert.KernelRkvIdeal.main_arg0) = m ((c.tc : Thread Cert.KernelRkvIdeal.nD Cert.KernelRkvIdeal.τ).loc Cert.KernelRkvIdeal.main_arg0)
      ∧ r.2.mem ((c.tc : Thread Cert.KernelRkvIdeal.nD Cert.KernelRkvIdeal.τ).loc Cert.KernelRkvIdeal.main_arg1) = m ((c.tc : Thread Cert.KernelRkvIdeal.nD Cert.KernelRkvIdeal.τ).loc Cert.KernelRkvIdeal.main_arg1))
      ∧ r.2.sem = fun _ => 0)

def quiescent_ReferenceRkvIdeal [hReferenceRkvIdeal : Cert.ReferenceRkvIdeal.Facts] : Prop :=
  ∀ (m : (ℓ : Loc Cert.ReferenceRkvIdeal.nD Cert.ReferenceRkvIdeal.τ Cert.ReferenceRkvIdeal.sig) → Buf (Elt Ideal) ℓ) (g : Dev Cert.ReferenceRkvIdeal.nD → PrngReg), Pre_ReferenceRkvIdeal m →
    θ_run (Cert.ReferenceRkvIdeal.defs (F := Ideal)) (onTc (τ := Cert.ReferenceRkvIdeal.τ) (Cert.ReferenceRkvIdeal.main (F := Ideal))) ⟨m, fun _ => 0, g⟩ (fun r => (∀ c : Dev Cert.ReferenceRkvIdeal.nD,
      r.2.mem ((c.tc : Thread Cert.ReferenceRkvIdeal.nD Cert.ReferenceRkvIdeal.τ).loc Cert.ReferenceRkvIdeal.main_arg0) = m ((c.tc : Thread Cert.ReferenceRkvIdeal.nD Cert.ReferenceRkvIdeal.τ).loc Cert.ReferenceRkvIdeal.main_arg0)
      ∧ r.2.mem ((c.tc : Thread Cert.ReferenceRkvIdeal.nD Cert.ReferenceRkvIdeal.τ).loc Cert.ReferenceRkvIdeal.main_arg1) = m ((c.tc : Thread Cert.ReferenceRkvIdeal.nD Cert.ReferenceRkvIdeal.τ).loc Cert.ReferenceRkvIdeal.main_arg1))
      ∧ r.2.sem = fun _ => 0)

def quiescent_KernelLora [hKernelLora : Cert.KernelLora.Facts] : Prop :=
  ∀ (m : (ℓ : Loc Cert.KernelLora.nD Cert.KernelLora.τ Cert.KernelLora.sig) → Buf (Elt Bits) ℓ) (g : Dev Cert.KernelLora.nD → PrngReg), Pre_KernelLora m →
    θ_run (Cert.KernelLora.defs (F := Bits)) (onTc (τ := Cert.KernelLora.τ) (Cert.KernelLora.main (F := Bits))) ⟨m, fun _ => 0, g⟩ (fun r => (∀ c : Dev Cert.KernelLora.nD,
      r.2.mem ((c.tc : Thread Cert.KernelLora.nD Cert.KernelLora.τ).loc Cert.KernelLora.main_arg0) = m ((c.tc : Thread Cert.KernelLora.nD Cert.KernelLora.τ).loc Cert.KernelLora.main_arg0)
      ∧ r.2.mem ((c.tc : Thread Cert.KernelLora.nD Cert.KernelLora.τ).loc Cert.KernelLora.main_arg1) = m ((c.tc : Thread Cert.KernelLora.nD Cert.KernelLora.τ).loc Cert.KernelLora.main_arg1))
      ∧ r.2.sem = fun _ => 0)

def quiescent_KernelLoraIdeal [hKernelLoraIdeal : Cert.KernelLoraIdeal.Facts] : Prop :=
  ∀ (m : (ℓ : Loc Cert.KernelLoraIdeal.nD Cert.KernelLoraIdeal.τ Cert.KernelLoraIdeal.sig) → Buf (Elt Ideal) ℓ) (g : Dev Cert.KernelLoraIdeal.nD → PrngReg), Pre_KernelLoraIdeal m →
    θ_run (Cert.KernelLoraIdeal.defs (F := Ideal)) (onTc (τ := Cert.KernelLoraIdeal.τ) (Cert.KernelLoraIdeal.main (F := Ideal))) ⟨m, fun _ => 0, g⟩ (fun r => (∀ c : Dev Cert.KernelLoraIdeal.nD,
      r.2.mem ((c.tc : Thread Cert.KernelLoraIdeal.nD Cert.KernelLoraIdeal.τ).loc Cert.KernelLoraIdeal.main_arg0) = m ((c.tc : Thread Cert.KernelLoraIdeal.nD Cert.KernelLoraIdeal.τ).loc Cert.KernelLoraIdeal.main_arg0)
      ∧ r.2.mem ((c.tc : Thread Cert.KernelLoraIdeal.nD Cert.KernelLoraIdeal.τ).loc Cert.KernelLoraIdeal.main_arg1) = m ((c.tc : Thread Cert.KernelLoraIdeal.nD Cert.KernelLoraIdeal.τ).loc Cert.KernelLoraIdeal.main_arg1))
      ∧ r.2.sem = fun _ => 0)

def quiescent_ReferenceLoraIdeal [hReferenceLoraIdeal : Cert.ReferenceLoraIdeal.Facts] : Prop :=
  ∀ (m : (ℓ : Loc Cert.ReferenceLoraIdeal.nD Cert.ReferenceLoraIdeal.τ Cert.ReferenceLoraIdeal.sig) → Buf (Elt Ideal) ℓ) (g : Dev Cert.ReferenceLoraIdeal.nD → PrngReg), Pre_ReferenceLoraIdeal m →
    θ_run (Cert.ReferenceLoraIdeal.defs (F := Ideal)) (onTc (τ := Cert.ReferenceLoraIdeal.τ) (Cert.ReferenceLoraIdeal.main (F := Ideal))) ⟨m, fun _ => 0, g⟩ (fun r => (∀ c : Dev Cert.ReferenceLoraIdeal.nD,
      r.2.mem ((c.tc : Thread Cert.ReferenceLoraIdeal.nD Cert.ReferenceLoraIdeal.τ).loc Cert.ReferenceLoraIdeal.main_arg0) = m ((c.tc : Thread Cert.ReferenceLoraIdeal.nD Cert.ReferenceLoraIdeal.τ).loc Cert.ReferenceLoraIdeal.main_arg0)
      ∧ r.2.mem ((c.tc : Thread Cert.ReferenceLoraIdeal.nD Cert.ReferenceLoraIdeal.τ).loc Cert.ReferenceLoraIdeal.main_arg1) = m ((c.tc : Thread Cert.ReferenceLoraIdeal.nD Cert.ReferenceLoraIdeal.τ).loc Cert.ReferenceLoraIdeal.main_arg1))
      ∧ r.2.sem = fun _ => 0)

def quiescent_KernelGateA [hKernelGateA : Cert.KernelGateA.Facts] : Prop :=
  ∀ (m : (ℓ : Loc Cert.KernelGateA.nD Cert.KernelGateA.τ Cert.KernelGateA.sig) → Buf (Elt Bits) ℓ) (g : Dev Cert.KernelGateA.nD → PrngReg), Pre_KernelGateA m →
    θ_run (Cert.KernelGateA.defs (F := Bits)) (onTc (τ := Cert.KernelGateA.τ) (Cert.KernelGateA.main (F := Bits))) ⟨m, fun _ => 0, g⟩ (fun r => (∀ c : Dev Cert.KernelGateA.nD,
      r.2.mem ((c.tc : Thread Cert.KernelGateA.nD Cert.KernelGateA.τ).loc Cert.KernelGateA.main_arg0) = m ((c.tc : Thread Cert.KernelGateA.nD Cert.KernelGateA.τ).loc Cert.KernelGateA.main_arg0)
      ∧ r.2.mem ((c.tc : Thread Cert.KernelGateA.nD Cert.KernelGateA.τ).loc Cert.KernelGateA.main_arg1) = m ((c.tc : Thread Cert.KernelGateA.nD Cert.KernelGateA.τ).loc Cert.KernelGateA.main_arg1)
      ∧ r.2.mem ((c.tc : Thread Cert.KernelGateA.nD Cert.KernelGateA.τ).loc Cert.KernelGateA.main_arg2) = m ((c.tc : Thread Cert.KernelGateA.nD Cert.KernelGateA.τ).loc Cert.KernelGateA.main_arg2))
      ∧ r.2.sem = fun _ => 0)

def quiescent_KernelGateAIdeal [hKernelGateAIdeal : Cert.KernelGateAIdeal.Facts] : Prop :=
  ∀ (m : (ℓ : Loc Cert.KernelGateAIdeal.nD Cert.KernelGateAIdeal.τ Cert.KernelGateAIdeal.sig) → Buf (Elt Ideal) ℓ) (g : Dev Cert.KernelGateAIdeal.nD → PrngReg), Pre_KernelGateAIdeal m →
    θ_run (Cert.KernelGateAIdeal.defs (F := Ideal)) (onTc (τ := Cert.KernelGateAIdeal.τ) (Cert.KernelGateAIdeal.main (F := Ideal))) ⟨m, fun _ => 0, g⟩ (fun r => (∀ c : Dev Cert.KernelGateAIdeal.nD,
      r.2.mem ((c.tc : Thread Cert.KernelGateAIdeal.nD Cert.KernelGateAIdeal.τ).loc Cert.KernelGateAIdeal.main_arg0) = m ((c.tc : Thread Cert.KernelGateAIdeal.nD Cert.KernelGateAIdeal.τ).loc Cert.KernelGateAIdeal.main_arg0)
      ∧ r.2.mem ((c.tc : Thread Cert.KernelGateAIdeal.nD Cert.KernelGateAIdeal.τ).loc Cert.KernelGateAIdeal.main_arg1) = m ((c.tc : Thread Cert.KernelGateAIdeal.nD Cert.KernelGateAIdeal.τ).loc Cert.KernelGateAIdeal.main_arg1)
      ∧ r.2.mem ((c.tc : Thread Cert.KernelGateAIdeal.nD Cert.KernelGateAIdeal.τ).loc Cert.KernelGateAIdeal.main_arg2) = m ((c.tc : Thread Cert.KernelGateAIdeal.nD Cert.KernelGateAIdeal.τ).loc Cert.KernelGateAIdeal.main_arg2))
      ∧ r.2.sem = fun _ => 0)

def quiescent_ReferenceGateAIdeal [hReferenceGateAIdeal : Cert.ReferenceGateAIdeal.Facts] : Prop :=
  ∀ (m : (ℓ : Loc Cert.ReferenceGateAIdeal.nD Cert.ReferenceGateAIdeal.τ Cert.ReferenceGateAIdeal.sig) → Buf (Elt Ideal) ℓ) (g : Dev Cert.ReferenceGateAIdeal.nD → PrngReg), Pre_ReferenceGateAIdeal m →
    θ_run (Cert.ReferenceGateAIdeal.defs (F := Ideal)) (onTc (τ := Cert.ReferenceGateAIdeal.τ) (Cert.ReferenceGateAIdeal.main (F := Ideal))) ⟨m, fun _ => 0, g⟩ (fun r => (∀ c : Dev Cert.ReferenceGateAIdeal.nD,
      r.2.mem ((c.tc : Thread Cert.ReferenceGateAIdeal.nD Cert.ReferenceGateAIdeal.τ).loc Cert.ReferenceGateAIdeal.main_arg0) = m ((c.tc : Thread Cert.ReferenceGateAIdeal.nD Cert.ReferenceGateAIdeal.τ).loc Cert.ReferenceGateAIdeal.main_arg0)
      ∧ r.2.mem ((c.tc : Thread Cert.ReferenceGateAIdeal.nD Cert.ReferenceGateAIdeal.τ).loc Cert.ReferenceGateAIdeal.main_arg1) = m ((c.tc : Thread Cert.ReferenceGateAIdeal.nD Cert.ReferenceGateAIdeal.τ).loc Cert.ReferenceGateAIdeal.main_arg1)
      ∧ r.2.mem ((c.tc : Thread Cert.ReferenceGateAIdeal.nD Cert.ReferenceGateAIdeal.τ).loc Cert.ReferenceGateAIdeal.main_arg2) = m ((c.tc : Thread Cert.ReferenceGateAIdeal.nD Cert.ReferenceGateAIdeal.τ).loc Cert.ReferenceGateAIdeal.main_arg2))
      ∧ r.2.sem = fun _ => 0)

def quiescent_KernelBranchB [hKernelBranchB : Cert.KernelBranchB.Facts] : Prop :=
  ∀ (m : (ℓ : Loc Cert.KernelBranchB.nD Cert.KernelBranchB.τ Cert.KernelBranchB.sig) → Buf (Elt Bits) ℓ) (g : Dev Cert.KernelBranchB.nD → PrngReg), Pre_KernelBranchB m →
    θ_run (Cert.KernelBranchB.defs (F := Bits)) (onTc (τ := Cert.KernelBranchB.τ) (Cert.KernelBranchB.main (F := Bits))) ⟨m, fun _ => 0, g⟩ (fun r => (∀ c : Dev Cert.KernelBranchB.nD,
      r.2.mem ((c.tc : Thread Cert.KernelBranchB.nD Cert.KernelBranchB.τ).loc Cert.KernelBranchB.main_arg0) = m ((c.tc : Thread Cert.KernelBranchB.nD Cert.KernelBranchB.τ).loc Cert.KernelBranchB.main_arg0)
      ∧ r.2.mem ((c.tc : Thread Cert.KernelBranchB.nD Cert.KernelBranchB.τ).loc Cert.KernelBranchB.main_arg1) = m ((c.tc : Thread Cert.KernelBranchB.nD Cert.KernelBranchB.τ).loc Cert.KernelBranchB.main_arg1))
      ∧ r.2.sem = fun _ => 0)

def quiescent_KernelBranchBIdeal [hKernelBranchBIdeal : Cert.KernelBranchBIdeal.Facts] : Prop :=
  ∀ (m : (ℓ : Loc Cert.KernelBranchBIdeal.nD Cert.KernelBranchBIdeal.τ Cert.KernelBranchBIdeal.sig) → Buf (Elt Ideal) ℓ) (g : Dev Cert.KernelBranchBIdeal.nD → PrngReg), Pre_KernelBranchBIdeal m →
    θ_run (Cert.KernelBranchBIdeal.defs (F := Ideal)) (onTc (τ := Cert.KernelBranchBIdeal.τ) (Cert.KernelBranchBIdeal.main (F := Ideal))) ⟨m, fun _ => 0, g⟩ (fun r => (∀ c : Dev Cert.KernelBranchBIdeal.nD,
      r.2.mem ((c.tc : Thread Cert.KernelBranchBIdeal.nD Cert.KernelBranchBIdeal.τ).loc Cert.KernelBranchBIdeal.main_arg0) = m ((c.tc : Thread Cert.KernelBranchBIdeal.nD Cert.KernelBranchBIdeal.τ).loc Cert.KernelBranchBIdeal.main_arg0)
      ∧ r.2.mem ((c.tc : Thread Cert.KernelBranchBIdeal.nD Cert.KernelBranchBIdeal.τ).loc Cert.KernelBranchBIdeal.main_arg1) = m ((c.tc : Thread Cert.KernelBranchBIdeal.nD Cert.KernelBranchBIdeal.τ).loc Cert.KernelBranchBIdeal.main_arg1))
      ∧ r.2.sem = fun _ => 0)

def quiescent_ReferenceBranchBIdeal [hReferenceBranchBIdeal : Cert.ReferenceBranchBIdeal.Facts] : Prop :=
  ∀ (m : (ℓ : Loc Cert.ReferenceBranchBIdeal.nD Cert.ReferenceBranchBIdeal.τ Cert.ReferenceBranchBIdeal.sig) → Buf (Elt Ideal) ℓ) (g : Dev Cert.ReferenceBranchBIdeal.nD → PrngReg), Pre_ReferenceBranchBIdeal m →
    θ_run (Cert.ReferenceBranchBIdeal.defs (F := Ideal)) (onTc (τ := Cert.ReferenceBranchBIdeal.τ) (Cert.ReferenceBranchBIdeal.main (F := Ideal))) ⟨m, fun _ => 0, g⟩ (fun r => (∀ c : Dev Cert.ReferenceBranchBIdeal.nD,
      r.2.mem ((c.tc : Thread Cert.ReferenceBranchBIdeal.nD Cert.ReferenceBranchBIdeal.τ).loc Cert.ReferenceBranchBIdeal.main_arg0) = m ((c.tc : Thread Cert.ReferenceBranchBIdeal.nD Cert.ReferenceBranchBIdeal.τ).loc Cert.ReferenceBranchBIdeal.main_arg0)
      ∧ r.2.mem ((c.tc : Thread Cert.ReferenceBranchBIdeal.nD Cert.ReferenceBranchBIdeal.τ).loc Cert.ReferenceBranchBIdeal.main_arg1) = m ((c.tc : Thread Cert.ReferenceBranchBIdeal.nD Cert.ReferenceBranchBIdeal.τ).loc Cert.ReferenceBranchBIdeal.main_arg1))
      ∧ r.2.sem = fun _ => 0)

def quiescent_KernelBranchC [hKernelBranchC : Cert.KernelBranchC.Facts] : Prop :=
  ∀ (m : (ℓ : Loc Cert.KernelBranchC.nD Cert.KernelBranchC.τ Cert.KernelBranchC.sig) → Buf (Elt Bits) ℓ) (g : Dev Cert.KernelBranchC.nD → PrngReg), Pre_KernelBranchC m →
    θ_run (Cert.KernelBranchC.defs (F := Bits)) (onTc (τ := Cert.KernelBranchC.τ) (Cert.KernelBranchC.main (F := Bits))) ⟨m, fun _ => 0, g⟩ (fun r => (∀ c : Dev Cert.KernelBranchC.nD,
      r.2.mem ((c.tc : Thread Cert.KernelBranchC.nD Cert.KernelBranchC.τ).loc Cert.KernelBranchC.main_arg0) = m ((c.tc : Thread Cert.KernelBranchC.nD Cert.KernelBranchC.τ).loc Cert.KernelBranchC.main_arg0)
      ∧ r.2.mem ((c.tc : Thread Cert.KernelBranchC.nD Cert.KernelBranchC.τ).loc Cert.KernelBranchC.main_arg1) = m ((c.tc : Thread Cert.KernelBranchC.nD Cert.KernelBranchC.τ).loc Cert.KernelBranchC.main_arg1)
      ∧ r.2.mem ((c.tc : Thread Cert.KernelBranchC.nD Cert.KernelBranchC.τ).loc Cert.KernelBranchC.main_arg2) = m ((c.tc : Thread Cert.KernelBranchC.nD Cert.KernelBranchC.τ).loc Cert.KernelBranchC.main_arg2))
      ∧ r.2.sem = fun _ => 0)

def quiescent_KernelBranchCIdeal [hKernelBranchCIdeal : Cert.KernelBranchCIdeal.Facts] : Prop :=
  ∀ (m : (ℓ : Loc Cert.KernelBranchCIdeal.nD Cert.KernelBranchCIdeal.τ Cert.KernelBranchCIdeal.sig) → Buf (Elt Ideal) ℓ) (g : Dev Cert.KernelBranchCIdeal.nD → PrngReg), Pre_KernelBranchCIdeal m →
    θ_run (Cert.KernelBranchCIdeal.defs (F := Ideal)) (onTc (τ := Cert.KernelBranchCIdeal.τ) (Cert.KernelBranchCIdeal.main (F := Ideal))) ⟨m, fun _ => 0, g⟩ (fun r => (∀ c : Dev Cert.KernelBranchCIdeal.nD,
      r.2.mem ((c.tc : Thread Cert.KernelBranchCIdeal.nD Cert.KernelBranchCIdeal.τ).loc Cert.KernelBranchCIdeal.main_arg0) = m ((c.tc : Thread Cert.KernelBranchCIdeal.nD Cert.KernelBranchCIdeal.τ).loc Cert.KernelBranchCIdeal.main_arg0)
      ∧ r.2.mem ((c.tc : Thread Cert.KernelBranchCIdeal.nD Cert.KernelBranchCIdeal.τ).loc Cert.KernelBranchCIdeal.main_arg1) = m ((c.tc : Thread Cert.KernelBranchCIdeal.nD Cert.KernelBranchCIdeal.τ).loc Cert.KernelBranchCIdeal.main_arg1)
      ∧ r.2.mem ((c.tc : Thread Cert.KernelBranchCIdeal.nD Cert.KernelBranchCIdeal.τ).loc Cert.KernelBranchCIdeal.main_arg2) = m ((c.tc : Thread Cert.KernelBranchCIdeal.nD Cert.KernelBranchCIdeal.τ).loc Cert.KernelBranchCIdeal.main_arg2))
      ∧ r.2.sem = fun _ => 0)

def quiescent_ReferenceBranchCIdeal [hReferenceBranchCIdeal : Cert.ReferenceBranchCIdeal.Facts] : Prop :=
  ∀ (m : (ℓ : Loc Cert.ReferenceBranchCIdeal.nD Cert.ReferenceBranchCIdeal.τ Cert.ReferenceBranchCIdeal.sig) → Buf (Elt Ideal) ℓ) (g : Dev Cert.ReferenceBranchCIdeal.nD → PrngReg), Pre_ReferenceBranchCIdeal m →
    θ_run (Cert.ReferenceBranchCIdeal.defs (F := Ideal)) (onTc (τ := Cert.ReferenceBranchCIdeal.τ) (Cert.ReferenceBranchCIdeal.main (F := Ideal))) ⟨m, fun _ => 0, g⟩ (fun r => (∀ c : Dev Cert.ReferenceBranchCIdeal.nD,
      r.2.mem ((c.tc : Thread Cert.ReferenceBranchCIdeal.nD Cert.ReferenceBranchCIdeal.τ).loc Cert.ReferenceBranchCIdeal.main_arg0) = m ((c.tc : Thread Cert.ReferenceBranchCIdeal.nD Cert.ReferenceBranchCIdeal.τ).loc Cert.ReferenceBranchCIdeal.main_arg0)
      ∧ r.2.mem ((c.tc : Thread Cert.ReferenceBranchCIdeal.nD Cert.ReferenceBranchCIdeal.τ).loc Cert.ReferenceBranchCIdeal.main_arg1) = m ((c.tc : Thread Cert.ReferenceBranchCIdeal.nD Cert.ReferenceBranchCIdeal.τ).loc Cert.ReferenceBranchCIdeal.main_arg1)
      ∧ r.2.mem ((c.tc : Thread Cert.ReferenceBranchCIdeal.nD Cert.ReferenceBranchCIdeal.τ).loc Cert.ReferenceBranchCIdeal.main_arg2) = m ((c.tc : Thread Cert.ReferenceBranchCIdeal.nD Cert.ReferenceBranchCIdeal.τ).loc Cert.ReferenceBranchCIdeal.main_arg2))
      ∧ r.2.sem = fun _ => 0)

def quiescent_KernelBranchM [hKernelBranchM : Cert.KernelBranchM.Facts] : Prop :=
  ∀ (m : (ℓ : Loc Cert.KernelBranchM.nD Cert.KernelBranchM.τ Cert.KernelBranchM.sig) → Buf (Elt Bits) ℓ) (g : Dev Cert.KernelBranchM.nD → PrngReg), Pre_KernelBranchM m →
    θ_run (Cert.KernelBranchM.defs (F := Bits)) (onTc (τ := Cert.KernelBranchM.τ) (Cert.KernelBranchM.main (F := Bits))) ⟨m, fun _ => 0, g⟩ (fun r => (∀ c : Dev Cert.KernelBranchM.nD,
      r.2.mem ((c.tc : Thread Cert.KernelBranchM.nD Cert.KernelBranchM.τ).loc Cert.KernelBranchM.main_arg0) = m ((c.tc : Thread Cert.KernelBranchM.nD Cert.KernelBranchM.τ).loc Cert.KernelBranchM.main_arg0)
      ∧ r.2.mem ((c.tc : Thread Cert.KernelBranchM.nD Cert.KernelBranchM.τ).loc Cert.KernelBranchM.main_arg1) = m ((c.tc : Thread Cert.KernelBranchM.nD Cert.KernelBranchM.τ).loc Cert.KernelBranchM.main_arg1)
      ∧ r.2.mem ((c.tc : Thread Cert.KernelBranchM.nD Cert.KernelBranchM.τ).loc Cert.KernelBranchM.main_arg2) = m ((c.tc : Thread Cert.KernelBranchM.nD Cert.KernelBranchM.τ).loc Cert.KernelBranchM.main_arg2))
      ∧ r.2.sem = fun _ => 0)

def quiescent_KernelBranchMIdeal [hKernelBranchMIdeal : Cert.KernelBranchMIdeal.Facts] : Prop :=
  ∀ (m : (ℓ : Loc Cert.KernelBranchMIdeal.nD Cert.KernelBranchMIdeal.τ Cert.KernelBranchMIdeal.sig) → Buf (Elt Ideal) ℓ) (g : Dev Cert.KernelBranchMIdeal.nD → PrngReg), Pre_KernelBranchMIdeal m →
    θ_run (Cert.KernelBranchMIdeal.defs (F := Ideal)) (onTc (τ := Cert.KernelBranchMIdeal.τ) (Cert.KernelBranchMIdeal.main (F := Ideal))) ⟨m, fun _ => 0, g⟩ (fun r => (∀ c : Dev Cert.KernelBranchMIdeal.nD,
      r.2.mem ((c.tc : Thread Cert.KernelBranchMIdeal.nD Cert.KernelBranchMIdeal.τ).loc Cert.KernelBranchMIdeal.main_arg0) = m ((c.tc : Thread Cert.KernelBranchMIdeal.nD Cert.KernelBranchMIdeal.τ).loc Cert.KernelBranchMIdeal.main_arg0)
      ∧ r.2.mem ((c.tc : Thread Cert.KernelBranchMIdeal.nD Cert.KernelBranchMIdeal.τ).loc Cert.KernelBranchMIdeal.main_arg1) = m ((c.tc : Thread Cert.KernelBranchMIdeal.nD Cert.KernelBranchMIdeal.τ).loc Cert.KernelBranchMIdeal.main_arg1)
      ∧ r.2.mem ((c.tc : Thread Cert.KernelBranchMIdeal.nD Cert.KernelBranchMIdeal.τ).loc Cert.KernelBranchMIdeal.main_arg2) = m ((c.tc : Thread Cert.KernelBranchMIdeal.nD Cert.KernelBranchMIdeal.τ).loc Cert.KernelBranchMIdeal.main_arg2))
      ∧ r.2.sem = fun _ => 0)

def quiescent_ReferenceBranchMIdeal [hReferenceBranchMIdeal : Cert.ReferenceBranchMIdeal.Facts] : Prop :=
  ∀ (m : (ℓ : Loc Cert.ReferenceBranchMIdeal.nD Cert.ReferenceBranchMIdeal.τ Cert.ReferenceBranchMIdeal.sig) → Buf (Elt Ideal) ℓ) (g : Dev Cert.ReferenceBranchMIdeal.nD → PrngReg), Pre_ReferenceBranchMIdeal m →
    θ_run (Cert.ReferenceBranchMIdeal.defs (F := Ideal)) (onTc (τ := Cert.ReferenceBranchMIdeal.τ) (Cert.ReferenceBranchMIdeal.main (F := Ideal))) ⟨m, fun _ => 0, g⟩ (fun r => (∀ c : Dev Cert.ReferenceBranchMIdeal.nD,
      r.2.mem ((c.tc : Thread Cert.ReferenceBranchMIdeal.nD Cert.ReferenceBranchMIdeal.τ).loc Cert.ReferenceBranchMIdeal.main_arg0) = m ((c.tc : Thread Cert.ReferenceBranchMIdeal.nD Cert.ReferenceBranchMIdeal.τ).loc Cert.ReferenceBranchMIdeal.main_arg0)
      ∧ r.2.mem ((c.tc : Thread Cert.ReferenceBranchMIdeal.nD Cert.ReferenceBranchMIdeal.τ).loc Cert.ReferenceBranchMIdeal.main_arg1) = m ((c.tc : Thread Cert.ReferenceBranchMIdeal.nD Cert.ReferenceBranchMIdeal.τ).loc Cert.ReferenceBranchMIdeal.main_arg1)
      ∧ r.2.mem ((c.tc : Thread Cert.ReferenceBranchMIdeal.nD Cert.ReferenceBranchMIdeal.τ).loc Cert.ReferenceBranchMIdeal.main_arg2) = m ((c.tc : Thread Cert.ReferenceBranchMIdeal.nD Cert.ReferenceBranchMIdeal.τ).loc Cert.ReferenceBranchMIdeal.main_arg2))
      ∧ r.2.sem = fun _ => 0)

def quiescent_KernelMemKv [hKernelMemKv : Cert.KernelMemKv.Facts] : Prop :=
  ∀ (m : (ℓ : Loc Cert.KernelMemKv.nD Cert.KernelMemKv.τ Cert.KernelMemKv.sig) → Buf (Elt Bits) ℓ) (g : Dev Cert.KernelMemKv.nD → PrngReg), Pre_KernelMemKv m →
    θ_run (Cert.KernelMemKv.defs (F := Bits)) (onTc (τ := Cert.KernelMemKv.τ) (Cert.KernelMemKv.main (F := Bits))) ⟨m, fun _ => 0, g⟩ (fun r => (∀ c : Dev Cert.KernelMemKv.nD,
      r.2.mem ((c.tc : Thread Cert.KernelMemKv.nD Cert.KernelMemKv.τ).loc Cert.KernelMemKv.main_arg0) = m ((c.tc : Thread Cert.KernelMemKv.nD Cert.KernelMemKv.τ).loc Cert.KernelMemKv.main_arg0)
      ∧ r.2.mem ((c.tc : Thread Cert.KernelMemKv.nD Cert.KernelMemKv.τ).loc Cert.KernelMemKv.main_arg1) = m ((c.tc : Thread Cert.KernelMemKv.nD Cert.KernelMemKv.τ).loc Cert.KernelMemKv.main_arg1))
      ∧ r.2.sem = fun _ => 0)

def quiescent_KernelMemKvIdeal [hKernelMemKvIdeal : Cert.KernelMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg), Pre_KernelMemKvIdeal m →
    θ_run (Cert.KernelMemKvIdeal.defs (F := Ideal)) (onTc (τ := Cert.KernelMemKvIdeal.τ) (Cert.KernelMemKvIdeal.main (F := Ideal))) ⟨m, fun _ => 0, g⟩ (fun r => (∀ c : Dev Cert.KernelMemKvIdeal.nD,
      r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
      ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1))
      ∧ r.2.sem = fun _ => 0)

def quiescent_ReferenceMemKvIdeal [hReferenceMemKvIdeal : Cert.ReferenceMemKvIdeal.Facts] : Prop :=
  ∀ (m : (ℓ : Loc Cert.ReferenceMemKvIdeal.nD Cert.ReferenceMemKvIdeal.τ Cert.ReferenceMemKvIdeal.sig) → Buf (Elt Ideal) ℓ) (g : Dev Cert.ReferenceMemKvIdeal.nD → PrngReg), Pre_ReferenceMemKvIdeal m →
    θ_run (Cert.ReferenceMemKvIdeal.defs (F := Ideal)) (onTc (τ := Cert.ReferenceMemKvIdeal.τ) (Cert.ReferenceMemKvIdeal.main (F := Ideal))) ⟨m, fun _ => 0, g⟩ (fun r => (∀ c : Dev Cert.ReferenceMemKvIdeal.nD,
      r.2.mem ((c.tc : Thread Cert.ReferenceMemKvIdeal.nD Cert.ReferenceMemKvIdeal.τ).loc Cert.ReferenceMemKvIdeal.main_arg0) = m ((c.tc : Thread Cert.ReferenceMemKvIdeal.nD Cert.ReferenceMemKvIdeal.τ).loc Cert.ReferenceMemKvIdeal.main_arg0)
      ∧ r.2.mem ((c.tc : Thread Cert.ReferenceMemKvIdeal.nD Cert.ReferenceMemKvIdeal.τ).loc Cert.ReferenceMemKvIdeal.main_arg1) = m ((c.tc : Thread Cert.ReferenceMemKvIdeal.nD Cert.ReferenceMemKvIdeal.τ).loc Cert.ReferenceMemKvIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelNormMem [hKernelNormMem : Cert.KernelNormMem.Facts] : Prop :=
  ∀ (m : (ℓ : Loc Cert.KernelNormMem.nD Cert.KernelNormMem.τ Cert.KernelNormMem.sig) → Buf (Elt Bits) ℓ) (g : Dev Cert.KernelNormMem.nD → PrngReg), Pre_KernelNormMem m →
    θ_run (Cert.KernelNormMem.defs (F := Bits)) (onTc (τ := Cert.KernelNormMem.τ) (Cert.KernelNormMem.main (F := Bits))) ⟨m, fun _ => 0, g⟩ (fun r => (∀ c : Dev Cert.KernelNormMem.nD,
      r.2.mem ((c.tc : Thread Cert.KernelNormMem.nD Cert.KernelNormMem.τ).loc Cert.KernelNormMem.main_arg0) = m ((c.tc : Thread Cert.KernelNormMem.nD Cert.KernelNormMem.τ).loc Cert.KernelNormMem.main_arg0)
      ∧ r.2.mem ((c.tc : Thread Cert.KernelNormMem.nD Cert.KernelNormMem.τ).loc Cert.KernelNormMem.main_arg1) = m ((c.tc : Thread Cert.KernelNormMem.nD Cert.KernelNormMem.τ).loc Cert.KernelNormMem.main_arg1))
      ∧ r.2.sem = fun _ => 0)

def quiescent_KernelNormMemIdeal [hKernelNormMemIdeal : Cert.KernelNormMemIdeal.Facts] : Prop :=
  ∀ (m : (ℓ : Loc Cert.KernelNormMemIdeal.nD Cert.KernelNormMemIdeal.τ Cert.KernelNormMemIdeal.sig) → Buf (Elt Ideal) ℓ) (g : Dev Cert.KernelNormMemIdeal.nD → PrngReg), Pre_KernelNormMemIdeal m →
    θ_run (Cert.KernelNormMemIdeal.defs (F := Ideal)) (onTc (τ := Cert.KernelNormMemIdeal.τ) (Cert.KernelNormMemIdeal.main (F := Ideal))) ⟨m, fun _ => 0, g⟩ (fun r => (∀ c : Dev Cert.KernelNormMemIdeal.nD,
      r.2.mem ((c.tc : Thread Cert.KernelNormMemIdeal.nD Cert.KernelNormMemIdeal.τ).loc Cert.KernelNormMemIdeal.main_arg0) = m ((c.tc : Thread Cert.KernelNormMemIdeal.nD Cert.KernelNormMemIdeal.τ).loc Cert.KernelNormMemIdeal.main_arg0)
      ∧ r.2.mem ((c.tc : Thread Cert.KernelNormMemIdeal.nD Cert.KernelNormMemIdeal.τ).loc Cert.KernelNormMemIdeal.main_arg1) = m ((c.tc : Thread Cert.KernelNormMemIdeal.nD Cert.KernelNormMemIdeal.τ).loc Cert.KernelNormMemIdeal.main_arg1))
      ∧ r.2.sem = fun _ => 0)

def quiescent_ReferenceNormMemIdeal [hReferenceNormMemIdeal : Cert.ReferenceNormMemIdeal.Facts] : Prop :=
  ∀ (m : (ℓ : Loc Cert.ReferenceNormMemIdeal.nD Cert.ReferenceNormMemIdeal.τ Cert.ReferenceNormMemIdeal.sig) → Buf (Elt Ideal) ℓ) (g : Dev Cert.ReferenceNormMemIdeal.nD → PrngReg), Pre_ReferenceNormMemIdeal m →
    θ_run (Cert.ReferenceNormMemIdeal.defs (F := Ideal)) (onTc (τ := Cert.ReferenceNormMemIdeal.τ) (Cert.ReferenceNormMemIdeal.main (F := Ideal))) ⟨m, fun _ => 0, g⟩ (fun r => (∀ c : Dev Cert.ReferenceNormMemIdeal.nD,
      r.2.mem ((c.tc : Thread Cert.ReferenceNormMemIdeal.nD Cert.ReferenceNormMemIdeal.τ).loc Cert.ReferenceNormMemIdeal.main_arg0) = m ((c.tc : Thread Cert.ReferenceNormMemIdeal.nD Cert.ReferenceNormMemIdeal.τ).loc Cert.ReferenceNormMemIdeal.main_arg0)
      ∧ r.2.mem ((c.tc : Thread Cert.ReferenceNormMemIdeal.nD Cert.ReferenceNormMemIdeal.τ).loc Cert.ReferenceNormMemIdeal.main_arg1) = m ((c.tc : Thread Cert.ReferenceNormMemIdeal.nD Cert.ReferenceNormMemIdeal.τ).loc Cert.ReferenceNormMemIdeal.main_arg1))
      ∧ r.2.sem = fun _ => 0)

def quiescent_KernelMemAttn [hKernelMemAttn : Cert.KernelMemAttn.Facts] : Prop :=
  ∀ (m : (ℓ : Loc Cert.KernelMemAttn.nD Cert.KernelMemAttn.τ Cert.KernelMemAttn.sig) → Buf (Elt Bits) ℓ) (g : Dev Cert.KernelMemAttn.nD → PrngReg), Pre_KernelMemAttn m →
    θ_run (Cert.KernelMemAttn.defs (F := Bits)) (onTc (τ := Cert.KernelMemAttn.τ) (Cert.KernelMemAttn.main (F := Bits))) ⟨m, fun _ => 0, g⟩ (fun r => (∀ c : Dev Cert.KernelMemAttn.nD,
      r.2.mem ((c.tc : Thread Cert.KernelMemAttn.nD Cert.KernelMemAttn.τ).loc Cert.KernelMemAttn.main_arg0) = m ((c.tc : Thread Cert.KernelMemAttn.nD Cert.KernelMemAttn.τ).loc Cert.KernelMemAttn.main_arg0)
      ∧ r.2.mem ((c.tc : Thread Cert.KernelMemAttn.nD Cert.KernelMemAttn.τ).loc Cert.KernelMemAttn.main_arg1) = m ((c.tc : Thread Cert.KernelMemAttn.nD Cert.KernelMemAttn.τ).loc Cert.KernelMemAttn.main_arg1)
      ∧ r.2.mem ((c.tc : Thread Cert.KernelMemAttn.nD Cert.KernelMemAttn.τ).loc Cert.KernelMemAttn.main_arg2) = m ((c.tc : Thread Cert.KernelMemAttn.nD Cert.KernelMemAttn.τ).loc Cert.KernelMemAttn.main_arg2)
      ∧ r.2.mem ((c.tc : Thread Cert.KernelMemAttn.nD Cert.KernelMemAttn.τ).loc Cert.KernelMemAttn.main_arg3) = m ((c.tc : Thread Cert.KernelMemAttn.nD Cert.KernelMemAttn.τ).loc Cert.KernelMemAttn.main_arg3))
      ∧ r.2.sem = fun _ => 0)

def quiescent_KernelMemAttnIdeal [hKernelMemAttnIdeal : Cert.KernelMemAttnIdeal.Facts] : Prop :=
  ∀ (m : (ℓ : Loc Cert.KernelMemAttnIdeal.nD Cert.KernelMemAttnIdeal.τ Cert.KernelMemAttnIdeal.sig) → Buf (Elt Ideal) ℓ) (g : Dev Cert.KernelMemAttnIdeal.nD → PrngReg), Pre_KernelMemAttnIdeal m →
    θ_run (Cert.KernelMemAttnIdeal.defs (F := Ideal)) (onTc (τ := Cert.KernelMemAttnIdeal.τ) (Cert.KernelMemAttnIdeal.main (F := Ideal))) ⟨m, fun _ => 0, g⟩ (fun r => (∀ c : Dev Cert.KernelMemAttnIdeal.nD,
      r.2.mem ((c.tc : Thread Cert.KernelMemAttnIdeal.nD Cert.KernelMemAttnIdeal.τ).loc Cert.KernelMemAttnIdeal.main_arg0) = m ((c.tc : Thread Cert.KernelMemAttnIdeal.nD Cert.KernelMemAttnIdeal.τ).loc Cert.KernelMemAttnIdeal.main_arg0)
      ∧ r.2.mem ((c.tc : Thread Cert.KernelMemAttnIdeal.nD Cert.KernelMemAttnIdeal.τ).loc Cert.KernelMemAttnIdeal.main_arg1) = m ((c.tc : Thread Cert.KernelMemAttnIdeal.nD Cert.KernelMemAttnIdeal.τ).loc Cert.KernelMemAttnIdeal.main_arg1)
      ∧ r.2.mem ((c.tc : Thread Cert.KernelMemAttnIdeal.nD Cert.KernelMemAttnIdeal.τ).loc Cert.KernelMemAttnIdeal.main_arg2) = m ((c.tc : Thread Cert.KernelMemAttnIdeal.nD Cert.KernelMemAttnIdeal.τ).loc Cert.KernelMemAttnIdeal.main_arg2)
      ∧ r.2.mem ((c.tc : Thread Cert.KernelMemAttnIdeal.nD Cert.KernelMemAttnIdeal.τ).loc Cert.KernelMemAttnIdeal.main_arg3) = m ((c.tc : Thread Cert.KernelMemAttnIdeal.nD Cert.KernelMemAttnIdeal.τ).loc Cert.KernelMemAttnIdeal.main_arg3))
      ∧ r.2.sem = fun _ => 0)

def quiescent_ReferenceMemAttnIdeal [hReferenceMemAttnIdeal : Cert.ReferenceMemAttnIdeal.Facts] : Prop :=
  ∀ (m : (ℓ : Loc Cert.ReferenceMemAttnIdeal.nD Cert.ReferenceMemAttnIdeal.τ Cert.ReferenceMemAttnIdeal.sig) → Buf (Elt Ideal) ℓ) (g : Dev Cert.ReferenceMemAttnIdeal.nD → PrngReg), Pre_ReferenceMemAttnIdeal m →
    θ_run (Cert.ReferenceMemAttnIdeal.defs (F := Ideal)) (onTc (τ := Cert.ReferenceMemAttnIdeal.τ) (Cert.ReferenceMemAttnIdeal.main (F := Ideal))) ⟨m, fun _ => 0, g⟩ (fun r => (∀ c : Dev Cert.ReferenceMemAttnIdeal.nD,
      r.2.mem ((c.tc : Thread Cert.ReferenceMemAttnIdeal.nD Cert.ReferenceMemAttnIdeal.τ).loc Cert.ReferenceMemAttnIdeal.main_arg0) = m ((c.tc : Thread Cert.ReferenceMemAttnIdeal.nD Cert.ReferenceMemAttnIdeal.τ).loc Cert.ReferenceMemAttnIdeal.main_arg0)
      ∧ r.2.mem ((c.tc : Thread Cert.ReferenceMemAttnIdeal.nD Cert.ReferenceMemAttnIdeal.τ).loc Cert.ReferenceMemAttnIdeal.main_arg1) = m ((c.tc : Thread Cert.ReferenceMemAttnIdeal.nD Cert.ReferenceMemAttnIdeal.τ).loc Cert.ReferenceMemAttnIdeal.main_arg1)
      ∧ r.2.mem ((c.tc : Thread Cert.ReferenceMemAttnIdeal.nD Cert.ReferenceMemAttnIdeal.τ).loc Cert.ReferenceMemAttnIdeal.main_arg2) = m ((c.tc : Thread Cert.ReferenceMemAttnIdeal.nD Cert.ReferenceMemAttnIdeal.τ).loc Cert.ReferenceMemAttnIdeal.main_arg2)
      ∧ r.2.mem ((c.tc : Thread Cert.ReferenceMemAttnIdeal.nD Cert.ReferenceMemAttnIdeal.τ).loc Cert.ReferenceMemAttnIdeal.main_arg3) = m ((c.tc : Thread Cert.ReferenceMemAttnIdeal.nD Cert.ReferenceMemAttnIdeal.τ).loc Cert.ReferenceMemAttnIdeal.main_arg3))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4)
      ∧ r.2.mem ((c.tc : Thread Cert.KernelPost.nD Cert.KernelPost.τ).loc Cert.KernelPost.main_arg5) = m ((c.tc : Thread Cert.KernelPost.nD Cert.KernelPost.τ).loc Cert.KernelPost.main_arg5))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5))
      ∧ r.2.sem = fun _ => 0)

def quiescent_KernelSgu [hKernelSgu : Cert.KernelSgu.Facts] : Prop :=
  ∀ (m : (ℓ : Loc Cert.KernelSgu.nD Cert.KernelSgu.τ Cert.KernelSgu.sig) → Buf (Elt Bits) ℓ) (g : Dev Cert.KernelSgu.nD → PrngReg), Pre_KernelSgu m →
    θ_run (Cert.KernelSgu.defs (F := Bits)) (onTc (τ := Cert.KernelSgu.τ) (Cert.KernelSgu.main (F := Bits))) ⟨m, fun _ => 0, g⟩ (fun r => (∀ c : Dev Cert.KernelSgu.nD,
      r.2.mem ((c.tc : Thread Cert.KernelSgu.nD Cert.KernelSgu.τ).loc Cert.KernelSgu.main_arg0) = m ((c.tc : Thread Cert.KernelSgu.nD Cert.KernelSgu.τ).loc Cert.KernelSgu.main_arg0)
      ∧ r.2.mem ((c.tc : Thread Cert.KernelSgu.nD Cert.KernelSgu.τ).loc Cert.KernelSgu.main_arg1) = m ((c.tc : Thread Cert.KernelSgu.nD Cert.KernelSgu.τ).loc Cert.KernelSgu.main_arg1)
      ∧ r.2.mem ((c.tc : Thread Cert.KernelSgu.nD Cert.KernelSgu.τ).loc Cert.KernelSgu.main_arg2) = m ((c.tc : Thread Cert.KernelSgu.nD Cert.KernelSgu.τ).loc Cert.KernelSgu.main_arg2)
      ∧ r.2.mem ((c.tc : Thread Cert.KernelSgu.nD Cert.KernelSgu.τ).loc Cert.KernelSgu.main_arg3) = m ((c.tc : Thread Cert.KernelSgu.nD Cert.KernelSgu.τ).loc Cert.KernelSgu.main_arg3)
      ∧ r.2.mem ((c.tc : Thread Cert.KernelSgu.nD Cert.KernelSgu.τ).loc Cert.KernelSgu.main_arg4) = m ((c.tc : Thread Cert.KernelSgu.nD Cert.KernelSgu.τ).loc Cert.KernelSgu.main_arg4))
      ∧ r.2.sem = fun _ => 0)

def quiescent_KernelSguIdeal [hKernelSguIdeal : Cert.KernelSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
      ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4))
      ∧ r.2.sem = fun _ => 0)

def quiescent_KernelSguIdeal_pre_above_bottom [hKernelSguIdeal : Cert.KernelSguIdeal.Facts] [hPre_above_bottom : Cert.Pre_above_bottom.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal_above_bottom m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
      ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4))
      ∧ r.2.sem = fun _ => 0)

def quiescent_ReferenceSguIdeal [hReferenceSguIdeal : Cert.ReferenceSguIdeal.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3)
      ∧ r.2.mem ((c.tc : Thread Cert.ReferenceSguIdeal.nD Cert.ReferenceSguIdeal.τ).loc Cert.ReferenceSguIdeal.main_arg4) = m ((c.tc : Thread Cert.ReferenceSguIdeal.nD Cert.ReferenceSguIdeal.τ).loc Cert.ReferenceSguIdeal.main_arg4))
      ∧ r.2.sem = fun _ => 0)

def quiescent_ReferenceSguIdeal_pre_above_bottom [hReferenceSguIdeal : Cert.ReferenceSguIdeal.Facts] [hPre_above_bottom : Cert.Pre_above_bottom.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal_above_bottom m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3)
      ∧ r.2.mem ((c.tc : Thread Cert.ReferenceSguIdeal.nD Cert.ReferenceSguIdeal.τ).loc Cert.ReferenceSguIdeal.main_arg4) = m ((c.tc : Thread Cert.ReferenceSguIdeal.nD Cert.ReferenceSguIdeal.τ).loc Cert.ReferenceSguIdeal.main_arg4))
      ∧ r.2.sem = fun _ => 0)

def preserves_Kernel_KernelIdeal : Prop :=
  True

def algebraic_KernelIdeal_ReferenceIdeal_pre_finite_params [hKernelIdeal : Cert.KernelIdeal.Facts] [hReferenceIdeal : Cert.ReferenceIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)) →
    ∃ (v0 : (c : Dev Cert.KernelGatesIdeal.nD) → Buf (Elt Ideal) ((c.tc : Thread Cert.KernelGatesIdeal.nD Cert.KernelGatesIdeal.τ).loc Cert.KernelGatesIdeal.main_v0_0)) (v1 : (c : Dev Cert.KernelGatesIdeal.nD) → Buf (Elt Ideal) ((c.tc : Thread Cert.KernelGatesIdeal.nD Cert.KernelGatesIdeal.τ).loc Cert.KernelGatesIdeal.main_v0_1)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v0_0) = v0 c
          ∧ r.2.mem ((c.tc : Thread Cert.KernelGatesIdeal.nD Cert.KernelGatesIdeal.τ).loc Cert.KernelGatesIdeal.main_v0_1) = v1 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v11) = v0 c
          ∧ r.2.mem ((c.tc : Thread Cert.ReferenceGatesIdeal.nD Cert.ReferenceGatesIdeal.τ).loc Cert.ReferenceGatesIdeal.main_v13) = v1 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v37) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5))

def preserves_KernelRkv_KernelRkvIdeal : Prop :=
  True

def algebraic_KernelRkvIdeal_ReferenceRkvIdeal [hKernelRkvIdeal : Cert.KernelRkvIdeal.Facts] [hReferenceRkvIdeal : Cert.ReferenceRkvIdeal.Facts] : Prop :=
  ∀ (m : (ℓ : Loc Cert.KernelRkvIdeal.nD Cert.KernelRkvIdeal.τ Cert.KernelRkvIdeal.sig) → Buf (Elt Ideal) ℓ) (g : Dev Cert.KernelRkvIdeal.nD → PrngReg)
    (m' : (ℓ : Loc Cert.ReferenceRkvIdeal.nD Cert.ReferenceRkvIdeal.τ Cert.ReferenceRkvIdeal.sig) → Buf (Elt Ideal) ℓ) (g' : Dev Cert.ReferenceRkvIdeal.nD → PrngReg), Pre_KernelRkvIdeal m →
    (∀ c : Dev Cert.KernelRkvIdeal.nD,
      m' ((c.tc : Thread Cert.ReferenceRkvIdeal.nD Cert.ReferenceRkvIdeal.τ).loc Cert.ReferenceRkvIdeal.main_arg0) = m ((c.tc : Thread Cert.KernelRkvIdeal.nD Cert.KernelRkvIdeal.τ).loc Cert.KernelRkvIdeal.main_arg0)
      ∧ m' ((c.tc : Thread Cert.ReferenceRkvIdeal.nD Cert.ReferenceRkvIdeal.τ).loc Cert.ReferenceRkvIdeal.main_arg1) = m ((c.tc : Thread Cert.KernelRkvIdeal.nD Cert.KernelRkvIdeal.τ).loc Cert.KernelRkvIdeal.main_arg1)) →
    ∃ (v0 : (c : Dev Cert.KernelRkvIdeal.nD) → Buf (Elt Ideal) ((c.tc : Thread Cert.KernelRkvIdeal.nD Cert.KernelRkvIdeal.τ).loc Cert.KernelRkvIdeal.main_v0)),
      θ_run (Cert.KernelRkvIdeal.defs (F := Ideal)) (onTc (τ := Cert.KernelRkvIdeal.τ) (Cert.KernelRkvIdeal.main (F := Ideal))) ⟨m, fun _ => 0, g⟩ (fun r => ∀ c : Dev Cert.KernelRkvIdeal.nD,
          r.2.mem ((c.tc : Thread Cert.KernelRkvIdeal.nD Cert.KernelRkvIdeal.τ).loc Cert.KernelRkvIdeal.main_v0) = v0 c
          ∧ r.2.mem ((c.tc : Thread Cert.KernelRkvIdeal.nD Cert.KernelRkvIdeal.τ).loc Cert.KernelRkvIdeal.main_arg0) = m ((c.tc : Thread Cert.KernelRkvIdeal.nD Cert.KernelRkvIdeal.τ).loc Cert.KernelRkvIdeal.main_arg0)
          ∧ r.2.mem ((c.tc : Thread Cert.KernelRkvIdeal.nD Cert.KernelRkvIdeal.τ).loc Cert.KernelRkvIdeal.main_arg1) = m ((c.tc : Thread Cert.KernelRkvIdeal.nD Cert.KernelRkvIdeal.τ).loc Cert.KernelRkvIdeal.main_arg1))
      ∧ θ_run (Cert.ReferenceRkvIdeal.defs (F := Ideal)) (onTc (τ := Cert.ReferenceRkvIdeal.τ) (Cert.ReferenceRkvIdeal.main (F := Ideal))) ⟨m', fun _ => 0, g'⟩ (fun r => ∀ c : Dev Cert.ReferenceRkvIdeal.nD,
          r.2.mem ((c.tc : Thread Cert.ReferenceRkvIdeal.nD Cert.ReferenceRkvIdeal.τ).loc Cert.ReferenceRkvIdeal.main_v5) = v0 c
          ∧ r.2.mem ((c.tc : Thread Cert.ReferenceRkvIdeal.nD Cert.ReferenceRkvIdeal.τ).loc Cert.ReferenceRkvIdeal.main_arg0) = m' ((c.tc : Thread Cert.ReferenceRkvIdeal.nD Cert.ReferenceRkvIdeal.τ).loc Cert.ReferenceRkvIdeal.main_arg0)
          ∧ r.2.mem ((c.tc : Thread Cert.ReferenceRkvIdeal.nD Cert.ReferenceRkvIdeal.τ).loc Cert.ReferenceRkvIdeal.main_arg1) = m' ((c.tc : Thread Cert.ReferenceRkvIdeal.nD Cert.ReferenceRkvIdeal.τ).loc Cert.ReferenceRkvIdeal.main_arg1))

def preserves_KernelLora_KernelLoraIdeal : Prop :=
  True

def algebraic_KernelLoraIdeal_ReferenceLoraIdeal [hKernelLoraIdeal : Cert.KernelLoraIdeal.Facts] [hReferenceLoraIdeal : Cert.ReferenceLoraIdeal.Facts] : Prop :=
  ∀ (m : (ℓ : Loc Cert.KernelLoraIdeal.nD Cert.KernelLoraIdeal.τ Cert.KernelLoraIdeal.sig) → Buf (Elt Ideal) ℓ) (g : Dev Cert.KernelLoraIdeal.nD → PrngReg)
    (m' : (ℓ : Loc Cert.ReferenceLoraIdeal.nD Cert.ReferenceLoraIdeal.τ Cert.ReferenceLoraIdeal.sig) → Buf (Elt Ideal) ℓ) (g' : Dev Cert.ReferenceLoraIdeal.nD → PrngReg), Pre_KernelLoraIdeal m →
    (∀ c : Dev Cert.KernelLoraIdeal.nD,
      m' ((c.tc : Thread Cert.ReferenceLoraIdeal.nD Cert.ReferenceLoraIdeal.τ).loc Cert.ReferenceLoraIdeal.main_arg0) = m ((c.tc : Thread Cert.KernelLoraIdeal.nD Cert.KernelLoraIdeal.τ).loc Cert.KernelLoraIdeal.main_arg0)
      ∧ m' ((c.tc : Thread Cert.ReferenceLoraIdeal.nD Cert.ReferenceLoraIdeal.τ).loc Cert.ReferenceLoraIdeal.main_arg1) = m ((c.tc : Thread Cert.KernelLoraIdeal.nD Cert.KernelLoraIdeal.τ).loc Cert.KernelLoraIdeal.main_arg1)) →
    ∃ (v0 : (c : Dev Cert.KernelLoraIdeal.nD) → Buf (Elt Ideal) ((c.tc : Thread Cert.KernelLoraIdeal.nD Cert.KernelLoraIdeal.τ).loc Cert.KernelLoraIdeal.main_v0)),
      θ_run (Cert.KernelLoraIdeal.defs (F := Ideal)) (onTc (τ := Cert.KernelLoraIdeal.τ) (Cert.KernelLoraIdeal.main (F := Ideal))) ⟨m, fun _ => 0, g⟩ (fun r => ∀ c : Dev Cert.KernelLoraIdeal.nD,
          r.2.mem ((c.tc : Thread Cert.KernelLoraIdeal.nD Cert.KernelLoraIdeal.τ).loc Cert.KernelLoraIdeal.main_v0) = v0 c
          ∧ r.2.mem ((c.tc : Thread Cert.KernelLoraIdeal.nD Cert.KernelLoraIdeal.τ).loc Cert.KernelLoraIdeal.main_arg0) = m ((c.tc : Thread Cert.KernelLoraIdeal.nD Cert.KernelLoraIdeal.τ).loc Cert.KernelLoraIdeal.main_arg0)
          ∧ r.2.mem ((c.tc : Thread Cert.KernelLoraIdeal.nD Cert.KernelLoraIdeal.τ).loc Cert.KernelLoraIdeal.main_arg1) = m ((c.tc : Thread Cert.KernelLoraIdeal.nD Cert.KernelLoraIdeal.τ).loc Cert.KernelLoraIdeal.main_arg1))
      ∧ θ_run (Cert.ReferenceLoraIdeal.defs (F := Ideal)) (onTc (τ := Cert.ReferenceLoraIdeal.τ) (Cert.ReferenceLoraIdeal.main (F := Ideal))) ⟨m', fun _ => 0, g'⟩ (fun r => ∀ c : Dev Cert.ReferenceLoraIdeal.nD,
          r.2.mem ((c.tc : Thread Cert.ReferenceLoraIdeal.nD Cert.ReferenceLoraIdeal.τ).loc Cert.ReferenceLoraIdeal.main_v5) = v0 c
          ∧ r.2.mem ((c.tc : Thread Cert.ReferenceLoraIdeal.nD Cert.ReferenceLoraIdeal.τ).loc Cert.ReferenceLoraIdeal.main_arg0) = m' ((c.tc : Thread Cert.ReferenceLoraIdeal.nD Cert.ReferenceLoraIdeal.τ).loc Cert.ReferenceLoraIdeal.main_arg0)
          ∧ r.2.mem ((c.tc : Thread Cert.ReferenceLoraIdeal.nD Cert.ReferenceLoraIdeal.τ).loc Cert.ReferenceLoraIdeal.main_arg1) = m' ((c.tc : Thread Cert.ReferenceLoraIdeal.nD Cert.ReferenceLoraIdeal.τ).loc Cert.ReferenceLoraIdeal.main_arg1))

def preserves_KernelGateA_KernelGateAIdeal : Prop :=
  True

def algebraic_KernelGateAIdeal_ReferenceGateAIdeal [hKernelGateAIdeal : Cert.KernelGateAIdeal.Facts] [hReferenceGateAIdeal : Cert.ReferenceGateAIdeal.Facts] : Prop :=
  ∀ (m : (ℓ : Loc Cert.KernelGateAIdeal.nD Cert.KernelGateAIdeal.τ Cert.KernelGateAIdeal.sig) → Buf (Elt Ideal) ℓ) (g : Dev Cert.KernelGateAIdeal.nD → PrngReg)
    (m' : (ℓ : Loc Cert.ReferenceGateAIdeal.nD Cert.ReferenceGateAIdeal.τ Cert.ReferenceGateAIdeal.sig) → Buf (Elt Ideal) ℓ) (g' : Dev Cert.ReferenceGateAIdeal.nD → PrngReg), Pre_KernelGateAIdeal m →
    (∀ c : Dev Cert.KernelGateAIdeal.nD,
      m' ((c.tc : Thread Cert.ReferenceGateAIdeal.nD Cert.ReferenceGateAIdeal.τ).loc Cert.ReferenceGateAIdeal.main_arg0) = m ((c.tc : Thread Cert.KernelGateAIdeal.nD Cert.KernelGateAIdeal.τ).loc Cert.KernelGateAIdeal.main_arg0)
      ∧ m' ((c.tc : Thread Cert.ReferenceGateAIdeal.nD Cert.ReferenceGateAIdeal.τ).loc Cert.ReferenceGateAIdeal.main_arg1) = m ((c.tc : Thread Cert.KernelGateAIdeal.nD Cert.KernelGateAIdeal.τ).loc Cert.KernelGateAIdeal.main_arg1)
      ∧ m' ((c.tc : Thread Cert.ReferenceGateAIdeal.nD Cert.ReferenceGateAIdeal.τ).loc Cert.ReferenceGateAIdeal.main_arg2) = m ((c.tc : Thread Cert.KernelGateAIdeal.nD Cert.KernelGateAIdeal.τ).loc Cert.KernelGateAIdeal.main_arg2)) →
    ∃ (v0 : (c : Dev Cert.KernelGateAIdeal.nD) → Buf (Elt Ideal) ((c.tc : Thread Cert.KernelGateAIdeal.nD Cert.KernelGateAIdeal.τ).loc Cert.KernelGateAIdeal.main_v0_0)) (v1 : (c : Dev Cert.KernelGateAIdeal.nD) → Buf (Elt Ideal) ((c.tc : Thread Cert.KernelGateAIdeal.nD Cert.KernelGateAIdeal.τ).loc Cert.KernelGateAIdeal.main_v0_1)),
      θ_run (Cert.KernelGateAIdeal.defs (F := Ideal)) (onTc (τ := Cert.KernelGateAIdeal.τ) (Cert.KernelGateAIdeal.main (F := Ideal))) ⟨m, fun _ => 0, g⟩ (fun r => ∀ c : Dev Cert.KernelGateAIdeal.nD,
          r.2.mem ((c.tc : Thread Cert.KernelGateAIdeal.nD Cert.KernelGateAIdeal.τ).loc Cert.KernelGateAIdeal.main_v0_0) = v0 c
          ∧ r.2.mem ((c.tc : Thread Cert.KernelGateAIdeal.nD Cert.KernelGateAIdeal.τ).loc Cert.KernelGateAIdeal.main_v0_1) = v1 c
          ∧ r.2.mem ((c.tc : Thread Cert.KernelGateAIdeal.nD Cert.KernelGateAIdeal.τ).loc Cert.KernelGateAIdeal.main_arg0) = m ((c.tc : Thread Cert.KernelGateAIdeal.nD Cert.KernelGateAIdeal.τ).loc Cert.KernelGateAIdeal.main_arg0)
          ∧ r.2.mem ((c.tc : Thread Cert.KernelGateAIdeal.nD Cert.KernelGateAIdeal.τ).loc Cert.KernelGateAIdeal.main_arg1) = m ((c.tc : Thread Cert.KernelGateAIdeal.nD Cert.KernelGateAIdeal.τ).loc Cert.KernelGateAIdeal.main_arg1)
          ∧ r.2.mem ((c.tc : Thread Cert.KernelGateAIdeal.nD Cert.KernelGateAIdeal.τ).loc Cert.KernelGateAIdeal.main_arg2) = m ((c.tc : Thread Cert.KernelGateAIdeal.nD Cert.KernelGateAIdeal.τ).loc Cert.KernelGateAIdeal.main_arg2))
      ∧ θ_run (Cert.ReferenceGateAIdeal.defs (F := Ideal)) (onTc (τ := Cert.ReferenceGateAIdeal.τ) (Cert.ReferenceGateAIdeal.main (F := Ideal))) ⟨m', fun _ => 0, g'⟩ (fun r => ∀ c : Dev Cert.ReferenceGateAIdeal.nD,
          r.2.mem ((c.tc : Thread Cert.ReferenceGateAIdeal.nD Cert.ReferenceGateAIdeal.τ).loc Cert.ReferenceGateAIdeal.main_v5) = v0 c
          ∧ r.2.mem ((c.tc : Thread Cert.ReferenceGateAIdeal.nD Cert.ReferenceGateAIdeal.τ).loc Cert.ReferenceGateAIdeal.main_v7) = v1 c
          ∧ r.2.mem ((c.tc : Thread Cert.ReferenceGateAIdeal.nD Cert.ReferenceGateAIdeal.τ).loc Cert.ReferenceGateAIdeal.main_arg0) = m' ((c.tc : Thread Cert.ReferenceGateAIdeal.nD Cert.ReferenceGateAIdeal.τ).loc Cert.ReferenceGateAIdeal.main_arg0)
          ∧ r.2.mem ((c.tc : Thread Cert.ReferenceGateAIdeal.nD Cert.ReferenceGateAIdeal.τ).loc Cert.ReferenceGateAIdeal.main_arg1) = m' ((c.tc : Thread Cert.ReferenceGateAIdeal.nD Cert.ReferenceGateAIdeal.τ).loc Cert.ReferenceGateAIdeal.main_arg1)
          ∧ r.2.mem ((c.tc : Thread Cert.ReferenceGateAIdeal.nD Cert.ReferenceGateAIdeal.τ).loc Cert.ReferenceGateAIdeal.main_arg2) = m' ((c.tc : Thread Cert.ReferenceGateAIdeal.nD Cert.ReferenceGateAIdeal.τ).loc Cert.ReferenceGateAIdeal.main_arg2))

def preserves_KernelBranchB_KernelBranchBIdeal : Prop :=
  True

def algebraic_KernelBranchBIdeal_ReferenceBranchBIdeal [hKernelBranchBIdeal : Cert.KernelBranchBIdeal.Facts] [hReferenceBranchBIdeal : Cert.ReferenceBranchBIdeal.Facts] : Prop :=
  ∀ (m : (ℓ : Loc Cert.KernelBranchBIdeal.nD Cert.KernelBranchBIdeal.τ Cert.KernelBranchBIdeal.sig) → Buf (Elt Ideal) ℓ) (g : Dev Cert.KernelBranchBIdeal.nD → PrngReg)
    (m' : (ℓ : Loc Cert.ReferenceBranchBIdeal.nD Cert.ReferenceBranchBIdeal.τ Cert.ReferenceBranchBIdeal.sig) → Buf (Elt Ideal) ℓ) (g' : Dev Cert.ReferenceBranchBIdeal.nD → PrngReg), Pre_KernelBranchBIdeal m →
    (∀ c : Dev Cert.KernelBranchBIdeal.nD,
      m' ((c.tc : Thread Cert.ReferenceBranchBIdeal.nD Cert.ReferenceBranchBIdeal.τ).loc Cert.ReferenceBranchBIdeal.main_arg0) = m ((c.tc : Thread Cert.KernelBranchBIdeal.nD Cert.KernelBranchBIdeal.τ).loc Cert.KernelBranchBIdeal.main_arg0)
      ∧ m' ((c.tc : Thread Cert.ReferenceBranchBIdeal.nD Cert.ReferenceBranchBIdeal.τ).loc Cert.ReferenceBranchBIdeal.main_arg1) = m ((c.tc : Thread Cert.KernelBranchBIdeal.nD Cert.KernelBranchBIdeal.τ).loc Cert.KernelBranchBIdeal.main_arg1)) →
    ∃ (v0 : (c : Dev Cert.KernelBranchBIdeal.nD) → Buf (Elt Ideal) ((c.tc : Thread Cert.KernelBranchBIdeal.nD Cert.KernelBranchBIdeal.τ).loc Cert.KernelBranchBIdeal.main_v0)),
      θ_run (Cert.KernelBranchBIdeal.defs (F := Ideal)) (onTc (τ := Cert.KernelBranchBIdeal.τ) (Cert.KernelBranchBIdeal.main (F := Ideal))) ⟨m, fun _ => 0, g⟩ (fun r => ∀ c : Dev Cert.KernelBranchBIdeal.nD,
          r.2.mem ((c.tc : Thread Cert.KernelBranchBIdeal.nD Cert.KernelBranchBIdeal.τ).loc Cert.KernelBranchBIdeal.main_v0) = v0 c
          ∧ r.2.mem ((c.tc : Thread Cert.KernelBranchBIdeal.nD Cert.KernelBranchBIdeal.τ).loc Cert.KernelBranchBIdeal.main_arg0) = m ((c.tc : Thread Cert.KernelBranchBIdeal.nD Cert.KernelBranchBIdeal.τ).loc Cert.KernelBranchBIdeal.main_arg0)
          ∧ r.2.mem ((c.tc : Thread Cert.KernelBranchBIdeal.nD Cert.KernelBranchBIdeal.τ).loc Cert.KernelBranchBIdeal.main_arg1) = m ((c.tc : Thread Cert.KernelBranchBIdeal.nD Cert.KernelBranchBIdeal.τ).loc Cert.KernelBranchBIdeal.main_arg1))
      ∧ θ_run (Cert.ReferenceBranchBIdeal.defs (F := Ideal)) (onTc (τ := Cert.ReferenceBranchBIdeal.τ) (Cert.ReferenceBranchBIdeal.main (F := Ideal))) ⟨m', fun _ => 0, g'⟩ (fun r => ∀ c : Dev Cert.ReferenceBranchBIdeal.nD,
          r.2.mem ((c.tc : Thread Cert.ReferenceBranchBIdeal.nD Cert.ReferenceBranchBIdeal.τ).loc Cert.ReferenceBranchBIdeal.main_v5) = v0 c
          ∧ r.2.mem ((c.tc : Thread Cert.ReferenceBranchBIdeal.nD Cert.ReferenceBranchBIdeal.τ).loc Cert.ReferenceBranchBIdeal.main_arg0) = m' ((c.tc : Thread Cert.ReferenceBranchBIdeal.nD Cert.ReferenceBranchBIdeal.τ).loc Cert.ReferenceBranchBIdeal.main_arg0)
          ∧ r.2.mem ((c.tc : Thread Cert.ReferenceBranchBIdeal.nD Cert.ReferenceBranchBIdeal.τ).loc Cert.ReferenceBranchBIdeal.main_arg1) = m' ((c.tc : Thread Cert.ReferenceBranchBIdeal.nD Cert.ReferenceBranchBIdeal.τ).loc Cert.ReferenceBranchBIdeal.main_arg1))

def preserves_KernelBranchC_KernelBranchCIdeal : Prop :=
  True

def algebraic_KernelBranchCIdeal_ReferenceBranchCIdeal [hKernelBranchCIdeal : Cert.KernelBranchCIdeal.Facts] [hReferenceBranchCIdeal : Cert.ReferenceBranchCIdeal.Facts] : Prop :=
  ∀ (m : (ℓ : Loc Cert.KernelBranchCIdeal.nD Cert.KernelBranchCIdeal.τ Cert.KernelBranchCIdeal.sig) → Buf (Elt Ideal) ℓ) (g : Dev Cert.KernelBranchCIdeal.nD → PrngReg)
    (m' : (ℓ : Loc Cert.ReferenceBranchCIdeal.nD Cert.ReferenceBranchCIdeal.τ Cert.ReferenceBranchCIdeal.sig) → Buf (Elt Ideal) ℓ) (g' : Dev Cert.ReferenceBranchCIdeal.nD → PrngReg), Pre_KernelBranchCIdeal m →
    (∀ c : Dev Cert.KernelBranchCIdeal.nD,
      m' ((c.tc : Thread Cert.ReferenceBranchCIdeal.nD Cert.ReferenceBranchCIdeal.τ).loc Cert.ReferenceBranchCIdeal.main_arg0) = m ((c.tc : Thread Cert.KernelBranchCIdeal.nD Cert.KernelBranchCIdeal.τ).loc Cert.KernelBranchCIdeal.main_arg0)
      ∧ m' ((c.tc : Thread Cert.ReferenceBranchCIdeal.nD Cert.ReferenceBranchCIdeal.τ).loc Cert.ReferenceBranchCIdeal.main_arg1) = m ((c.tc : Thread Cert.KernelBranchCIdeal.nD Cert.KernelBranchCIdeal.τ).loc Cert.KernelBranchCIdeal.main_arg1)
      ∧ m' ((c.tc : Thread Cert.ReferenceBranchCIdeal.nD Cert.ReferenceBranchCIdeal.τ).loc Cert.ReferenceBranchCIdeal.main_arg2) = m ((c.tc : Thread Cert.KernelBranchCIdeal.nD Cert.KernelBranchCIdeal.τ).loc Cert.KernelBranchCIdeal.main_arg2)) →
    ∃ (v0 : (c : Dev Cert.KernelBranchCIdeal.nD) → Buf (Elt Ideal) ((c.tc : Thread Cert.KernelBranchCIdeal.nD Cert.KernelBranchCIdeal.τ).loc Cert.KernelBranchCIdeal.main_v1_0)) (v1 : (c : Dev Cert.KernelBranchCIdeal.nD) → Buf (Elt Ideal) ((c.tc : Thread Cert.KernelBranchCIdeal.nD Cert.KernelBranchCIdeal.τ).loc Cert.KernelBranchCIdeal.main_v1_1)),
      θ_run (Cert.KernelBranchCIdeal.defs (F := Ideal)) (onTc (τ := Cert.KernelBranchCIdeal.τ) (Cert.KernelBranchCIdeal.main (F := Ideal))) ⟨m, fun _ => 0, g⟩ (fun r => ∀ c : Dev Cert.KernelBranchCIdeal.nD,
          r.2.mem ((c.tc : Thread Cert.KernelBranchCIdeal.nD Cert.KernelBranchCIdeal.τ).loc Cert.KernelBranchCIdeal.main_v1_0) = v0 c
          ∧ r.2.mem ((c.tc : Thread Cert.KernelBranchCIdeal.nD Cert.KernelBranchCIdeal.τ).loc Cert.KernelBranchCIdeal.main_v1_1) = v1 c
          ∧ r.2.mem ((c.tc : Thread Cert.KernelBranchCIdeal.nD Cert.KernelBranchCIdeal.τ).loc Cert.KernelBranchCIdeal.main_arg0) = m ((c.tc : Thread Cert.KernelBranchCIdeal.nD Cert.KernelBranchCIdeal.τ).loc Cert.KernelBranchCIdeal.main_arg0)
          ∧ r.2.mem ((c.tc : Thread Cert.KernelBranchCIdeal.nD Cert.KernelBranchCIdeal.τ).loc Cert.KernelBranchCIdeal.main_arg1) = m ((c.tc : Thread Cert.KernelBranchCIdeal.nD Cert.KernelBranchCIdeal.τ).loc Cert.KernelBranchCIdeal.main_arg1)
          ∧ r.2.mem ((c.tc : Thread Cert.KernelBranchCIdeal.nD Cert.KernelBranchCIdeal.τ).loc Cert.KernelBranchCIdeal.main_arg2) = m ((c.tc : Thread Cert.KernelBranchCIdeal.nD Cert.KernelBranchCIdeal.τ).loc Cert.KernelBranchCIdeal.main_arg2))
      ∧ θ_run (Cert.ReferenceBranchCIdeal.defs (F := Ideal)) (onTc (τ := Cert.ReferenceBranchCIdeal.τ) (Cert.ReferenceBranchCIdeal.main (F := Ideal))) ⟨m', fun _ => 0, g'⟩ (fun r => ∀ c : Dev Cert.ReferenceBranchCIdeal.nD,
          r.2.mem ((c.tc : Thread Cert.ReferenceBranchCIdeal.nD Cert.ReferenceBranchCIdeal.τ).loc Cert.ReferenceBranchCIdeal.main_v5) = v0 c
          ∧ r.2.mem ((c.tc : Thread Cert.ReferenceBranchCIdeal.nD Cert.ReferenceBranchCIdeal.τ).loc Cert.ReferenceBranchCIdeal.main_v9) = v1 c
          ∧ r.2.mem ((c.tc : Thread Cert.ReferenceBranchCIdeal.nD Cert.ReferenceBranchCIdeal.τ).loc Cert.ReferenceBranchCIdeal.main_arg0) = m' ((c.tc : Thread Cert.ReferenceBranchCIdeal.nD Cert.ReferenceBranchCIdeal.τ).loc Cert.ReferenceBranchCIdeal.main_arg0)
          ∧ r.2.mem ((c.tc : Thread Cert.ReferenceBranchCIdeal.nD Cert.ReferenceBranchCIdeal.τ).loc Cert.ReferenceBranchCIdeal.main_arg1) = m' ((c.tc : Thread Cert.ReferenceBranchCIdeal.nD Cert.ReferenceBranchCIdeal.τ).loc Cert.ReferenceBranchCIdeal.main_arg1)
          ∧ r.2.mem ((c.tc : Thread Cert.ReferenceBranchCIdeal.nD Cert.ReferenceBranchCIdeal.τ).loc Cert.ReferenceBranchCIdeal.main_arg2) = m' ((c.tc : Thread Cert.ReferenceBranchCIdeal.nD Cert.ReferenceBranchCIdeal.τ).loc Cert.ReferenceBranchCIdeal.main_arg2))

def preserves_KernelBranchM_KernelBranchMIdeal : Prop :=
  True

def algebraic_KernelBranchMIdeal_ReferenceBranchMIdeal [hKernelBranchMIdeal : Cert.KernelBranchMIdeal.Facts] [hReferenceBranchMIdeal : Cert.ReferenceBranchMIdeal.Facts] : Prop :=
  ∀ (m : (ℓ : Loc Cert.KernelBranchMIdeal.nD Cert.KernelBranchMIdeal.τ Cert.KernelBranchMIdeal.sig) → Buf (Elt Ideal) ℓ) (g : Dev Cert.KernelBranchMIdeal.nD → PrngReg)
    (m' : (ℓ : Loc Cert.ReferenceBranchMIdeal.nD Cert.ReferenceBranchMIdeal.τ Cert.ReferenceBranchMIdeal.sig) → Buf (Elt Ideal) ℓ) (g' : Dev Cert.ReferenceBranchMIdeal.nD → PrngReg), Pre_KernelBranchMIdeal m →
    (∀ c : Dev Cert.KernelBranchMIdeal.nD,
      m' ((c.tc : Thread Cert.ReferenceBranchMIdeal.nD Cert.ReferenceBranchMIdeal.τ).loc Cert.ReferenceBranchMIdeal.main_arg0) = m ((c.tc : Thread Cert.KernelBranchMIdeal.nD Cert.KernelBranchMIdeal.τ).loc Cert.KernelBranchMIdeal.main_arg0)
      ∧ m' ((c.tc : Thread Cert.ReferenceBranchMIdeal.nD Cert.ReferenceBranchMIdeal.τ).loc Cert.ReferenceBranchMIdeal.main_arg1) = m ((c.tc : Thread Cert.KernelBranchMIdeal.nD Cert.KernelBranchMIdeal.τ).loc Cert.KernelBranchMIdeal.main_arg1)
      ∧ m' ((c.tc : Thread Cert.ReferenceBranchMIdeal.nD Cert.ReferenceBranchMIdeal.τ).loc Cert.ReferenceBranchMIdeal.main_arg2) = m ((c.tc : Thread Cert.KernelBranchMIdeal.nD Cert.KernelBranchMIdeal.τ).loc Cert.KernelBranchMIdeal.main_arg2)) →
    ∃ (v0 : (c : Dev Cert.KernelBranchMIdeal.nD) → Buf (Elt Ideal) ((c.tc : Thread Cert.KernelBranchMIdeal.nD Cert.KernelBranchMIdeal.τ).loc Cert.KernelBranchMIdeal.main_v0_0)) (v1 : (c : Dev Cert.KernelBranchMIdeal.nD) → Buf (Elt Ideal) ((c.tc : Thread Cert.KernelBranchMIdeal.nD Cert.KernelBranchMIdeal.τ).loc Cert.KernelBranchMIdeal.main_v0_1)),
      θ_run (Cert.KernelBranchMIdeal.defs (F := Ideal)) (onTc (τ := Cert.KernelBranchMIdeal.τ) (Cert.KernelBranchMIdeal.main (F := Ideal))) ⟨m, fun _ => 0, g⟩ (fun r => ∀ c : Dev Cert.KernelBranchMIdeal.nD,
          r.2.mem ((c.tc : Thread Cert.KernelBranchMIdeal.nD Cert.KernelBranchMIdeal.τ).loc Cert.KernelBranchMIdeal.main_v0_0) = v0 c
          ∧ r.2.mem ((c.tc : Thread Cert.KernelBranchMIdeal.nD Cert.KernelBranchMIdeal.τ).loc Cert.KernelBranchMIdeal.main_v0_1) = v1 c
          ∧ r.2.mem ((c.tc : Thread Cert.KernelBranchMIdeal.nD Cert.KernelBranchMIdeal.τ).loc Cert.KernelBranchMIdeal.main_arg0) = m ((c.tc : Thread Cert.KernelBranchMIdeal.nD Cert.KernelBranchMIdeal.τ).loc Cert.KernelBranchMIdeal.main_arg0)
          ∧ r.2.mem ((c.tc : Thread Cert.KernelBranchMIdeal.nD Cert.KernelBranchMIdeal.τ).loc Cert.KernelBranchMIdeal.main_arg1) = m ((c.tc : Thread Cert.KernelBranchMIdeal.nD Cert.KernelBranchMIdeal.τ).loc Cert.KernelBranchMIdeal.main_arg1)
          ∧ r.2.mem ((c.tc : Thread Cert.KernelBranchMIdeal.nD Cert.KernelBranchMIdeal.τ).loc Cert.KernelBranchMIdeal.main_arg2) = m ((c.tc : Thread Cert.KernelBranchMIdeal.nD Cert.KernelBranchMIdeal.τ).loc Cert.KernelBranchMIdeal.main_arg2))
      ∧ θ_run (Cert.ReferenceBranchMIdeal.defs (F := Ideal)) (onTc (τ := Cert.ReferenceBranchMIdeal.τ) (Cert.ReferenceBranchMIdeal.main (F := Ideal))) ⟨m', fun _ => 0, g'⟩ (fun r => ∀ c : Dev Cert.ReferenceBranchMIdeal.nD,
          r.2.mem ((c.tc : Thread Cert.ReferenceBranchMIdeal.nD Cert.ReferenceBranchMIdeal.τ).loc Cert.ReferenceBranchMIdeal.main_v5) = v0 c
          ∧ r.2.mem ((c.tc : Thread Cert.ReferenceBranchMIdeal.nD Cert.ReferenceBranchMIdeal.τ).loc Cert.ReferenceBranchMIdeal.main_v7) = v1 c
          ∧ r.2.mem ((c.tc : Thread Cert.ReferenceBranchMIdeal.nD Cert.ReferenceBranchMIdeal.τ).loc Cert.ReferenceBranchMIdeal.main_arg0) = m' ((c.tc : Thread Cert.ReferenceBranchMIdeal.nD Cert.ReferenceBranchMIdeal.τ).loc Cert.ReferenceBranchMIdeal.main_arg0)
          ∧ r.2.mem ((c.tc : Thread Cert.ReferenceBranchMIdeal.nD Cert.ReferenceBranchMIdeal.τ).loc Cert.ReferenceBranchMIdeal.main_arg1) = m' ((c.tc : Thread Cert.ReferenceBranchMIdeal.nD Cert.ReferenceBranchMIdeal.τ).loc Cert.ReferenceBranchMIdeal.main_arg1)
          ∧ r.2.mem ((c.tc : Thread Cert.ReferenceBranchMIdeal.nD Cert.ReferenceBranchMIdeal.τ).loc Cert.ReferenceBranchMIdeal.main_arg2) = m' ((c.tc : Thread Cert.ReferenceBranchMIdeal.nD Cert.ReferenceBranchMIdeal.τ).loc Cert.ReferenceBranchMIdeal.main_arg2))

def preserves_KernelMemKv_KernelMemKvIdeal : Prop :=
  True

def algebraic_KernelMemKvIdeal_ReferenceMemKvIdeal [hKernelMemKvIdeal : Cert.KernelMemKvIdeal.Facts] [hReferenceMemKvIdeal : Cert.ReferenceMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg)
    (m' : (ℓ : Loc Cert.ReferenceMemKvIdeal.nD Cert.ReferenceMemKvIdeal.τ Cert.ReferenceMemKvIdeal.sig) → Buf (Elt Ideal) ℓ) (g' : Dev Cert.ReferenceMemKvIdeal.nD → PrngReg), Pre_KernelMemKvIdeal m →
    (∀ c : Dev Cert.KernelMemKvIdeal.nD,
      m' ((c.tc : Thread Cert.ReferenceMemKvIdeal.nD Cert.ReferenceMemKvIdeal.τ).loc Cert.ReferenceMemKvIdeal.main_arg0) = m ((c.tc : Thread Cert.KernelMemKvIdeal.nD Cert.KernelMemKvIdeal.τ).loc Cert.KernelMemKvIdeal.main_arg0)
      ∧ m' ((c.tc : Thread Cert.ReferenceMemKvIdeal.nD Cert.ReferenceMemKvIdeal.τ).loc Cert.ReferenceMemKvIdeal.main_arg1) = m ((c.tc : Thread Cert.KernelMemKvIdeal.nD Cert.KernelMemKvIdeal.τ).loc Cert.KernelMemKvIdeal.main_arg1)) →
    ∃ (v0 : (c : Dev Cert.KernelMemKvIdeal.nD) → Buf (Elt Ideal) ((c.tc : Thread Cert.KernelMemKvIdeal.nD Cert.KernelMemKvIdeal.τ).loc Cert.KernelMemKvIdeal.main_v0)),
      θ_run (Cert.KernelMemKvIdeal.defs (F := Ideal)) (onTc (τ := Cert.KernelMemKvIdeal.τ) (Cert.KernelMemKvIdeal.main (F := Ideal))) ⟨m, fun _ => 0, g⟩ (fun r => ∀ c : Dev Cert.KernelMemKvIdeal.nD,
          r.2.mem ((c.tc : Thread Cert.KernelMemKvIdeal.nD Cert.KernelMemKvIdeal.τ).loc Cert.KernelMemKvIdeal.main_v0) = v0 c
          ∧ r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
          ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1))
      ∧ θ_run (Cert.ReferenceMemKvIdeal.defs (F := Ideal)) (onTc (τ := Cert.ReferenceMemKvIdeal.τ) (Cert.ReferenceMemKvIdeal.main (F := Ideal))) ⟨m', fun _ => 0, g'⟩ (fun r => ∀ c : Dev Cert.ReferenceMemKvIdeal.nD,
          r.2.mem ((c.tc : Thread Cert.ReferenceMemKvIdeal.nD Cert.ReferenceMemKvIdeal.τ).loc Cert.ReferenceMemKvIdeal.main_v4) = v0 c
          ∧ r.2.mem ((c.tc : Thread Cert.ReferenceMemKvIdeal.nD Cert.ReferenceMemKvIdeal.τ).loc Cert.ReferenceMemKvIdeal.main_arg0) = m' ((c.tc : Thread Cert.ReferenceMemKvIdeal.nD Cert.ReferenceMemKvIdeal.τ).loc Cert.ReferenceMemKvIdeal.main_arg0)
          ∧ r.2.mem ((c.tc : Thread Cert.ReferenceMemKvIdeal.nD Cert.ReferenceMemKvIdeal.τ).loc Cert.ReferenceMemKvIdeal.main_arg1) = m' ((c.tc : Thread Cert.ReferenceMemKvIdeal.nD Cert.ReferenceMemKvIdeal.τ).loc Cert.ReferenceMemKvIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelNormMem_KernelNormMemIdeal : Prop :=
  True

def algebraic_KernelNormMemIdeal_ReferenceNormMemIdeal [hKernelNormMemIdeal : Cert.KernelNormMemIdeal.Facts] [hReferenceNormMemIdeal : Cert.ReferenceNormMemIdeal.Facts] : Prop :=
  ∀ (m : (ℓ : Loc Cert.KernelNormMemIdeal.nD Cert.KernelNormMemIdeal.τ Cert.KernelNormMemIdeal.sig) → Buf (Elt Ideal) ℓ) (g : Dev Cert.KernelNormMemIdeal.nD → PrngReg)
    (m' : (ℓ : Loc Cert.ReferenceNormMemIdeal.nD Cert.ReferenceNormMemIdeal.τ Cert.ReferenceNormMemIdeal.sig) → Buf (Elt Ideal) ℓ) (g' : Dev Cert.ReferenceNormMemIdeal.nD → PrngReg), Pre_KernelNormMemIdeal m →
    (∀ c : Dev Cert.KernelNormMemIdeal.nD,
      m' ((c.tc : Thread Cert.ReferenceNormMemIdeal.nD Cert.ReferenceNormMemIdeal.τ).loc Cert.ReferenceNormMemIdeal.main_arg0) = m ((c.tc : Thread Cert.KernelNormMemIdeal.nD Cert.KernelNormMemIdeal.τ).loc Cert.KernelNormMemIdeal.main_arg0)
      ∧ m' ((c.tc : Thread Cert.ReferenceNormMemIdeal.nD Cert.ReferenceNormMemIdeal.τ).loc Cert.ReferenceNormMemIdeal.main_arg1) = m ((c.tc : Thread Cert.KernelNormMemIdeal.nD Cert.KernelNormMemIdeal.τ).loc Cert.KernelNormMemIdeal.main_arg1)) →
    ∃ (v0 : (c : Dev Cert.KernelNormMemIdeal.nD) → Buf (Elt Ideal) ((c.tc : Thread Cert.KernelNormMemIdeal.nD Cert.KernelNormMemIdeal.τ).loc Cert.KernelNormMemIdeal.main_v1)),
      θ_run (Cert.KernelNormMemIdeal.defs (F := Ideal)) (onTc (τ := Cert.KernelNormMemIdeal.τ) (Cert.KernelNormMemIdeal.main (F := Ideal))) ⟨m, fun _ => 0, g⟩ (fun r => ∀ c : Dev Cert.KernelNormMemIdeal.nD,
          r.2.mem ((c.tc : Thread Cert.KernelNormMemIdeal.nD Cert.KernelNormMemIdeal.τ).loc Cert.KernelNormMemIdeal.main_v1) = v0 c
          ∧ r.2.mem ((c.tc : Thread Cert.KernelNormMemIdeal.nD Cert.KernelNormMemIdeal.τ).loc Cert.KernelNormMemIdeal.main_arg0) = m ((c.tc : Thread Cert.KernelNormMemIdeal.nD Cert.KernelNormMemIdeal.τ).loc Cert.KernelNormMemIdeal.main_arg0)
          ∧ r.2.mem ((c.tc : Thread Cert.KernelNormMemIdeal.nD Cert.KernelNormMemIdeal.τ).loc Cert.KernelNormMemIdeal.main_arg1) = m ((c.tc : Thread Cert.KernelNormMemIdeal.nD Cert.KernelNormMemIdeal.τ).loc Cert.KernelNormMemIdeal.main_arg1))
      ∧ θ_run (Cert.ReferenceNormMemIdeal.defs (F := Ideal)) (onTc (τ := Cert.ReferenceNormMemIdeal.τ) (Cert.ReferenceNormMemIdeal.main (F := Ideal))) ⟨m', fun _ => 0, g'⟩ (fun r => ∀ c : Dev Cert.ReferenceNormMemIdeal.nD,
          r.2.mem ((c.tc : Thread Cert.ReferenceNormMemIdeal.nD Cert.ReferenceNormMemIdeal.τ).loc Cert.ReferenceNormMemIdeal.main_v13) = v0 c
          ∧ r.2.mem ((c.tc : Thread Cert.ReferenceNormMemIdeal.nD Cert.ReferenceNormMemIdeal.τ).loc Cert.ReferenceNormMemIdeal.main_arg0) = m' ((c.tc : Thread Cert.ReferenceNormMemIdeal.nD Cert.ReferenceNormMemIdeal.τ).loc Cert.ReferenceNormMemIdeal.main_arg0)
          ∧ r.2.mem ((c.tc : Thread Cert.ReferenceNormMemIdeal.nD Cert.ReferenceNormMemIdeal.τ).loc Cert.ReferenceNormMemIdeal.main_arg1) = m' ((c.tc : Thread Cert.ReferenceNormMemIdeal.nD Cert.ReferenceNormMemIdeal.τ).loc Cert.ReferenceNormMemIdeal.main_arg1))

def preserves_KernelMemAttn_KernelMemAttnIdeal : Prop :=
  True

def algebraic_KernelMemAttnIdeal_ReferenceMemAttnIdeal [hKernelMemAttnIdeal : Cert.KernelMemAttnIdeal.Facts] [hReferenceMemAttnIdeal : Cert.ReferenceMemAttnIdeal.Facts] : Prop :=
  ∀ (m : (ℓ : Loc Cert.KernelMemAttnIdeal.nD Cert.KernelMemAttnIdeal.τ Cert.KernelMemAttnIdeal.sig) → Buf (Elt Ideal) ℓ) (g : Dev Cert.KernelMemAttnIdeal.nD → PrngReg)
    (m' : (ℓ : Loc Cert.ReferenceMemAttnIdeal.nD Cert.ReferenceMemAttnIdeal.τ Cert.ReferenceMemAttnIdeal.sig) → Buf (Elt Ideal) ℓ) (g' : Dev Cert.ReferenceMemAttnIdeal.nD → PrngReg), Pre_KernelMemAttnIdeal m →
    (∀ c : Dev Cert.KernelMemAttnIdeal.nD,
      m' ((c.tc : Thread Cert.ReferenceMemAttnIdeal.nD Cert.ReferenceMemAttnIdeal.τ).loc Cert.ReferenceMemAttnIdeal.main_arg0) = m ((c.tc : Thread Cert.KernelMemAttnIdeal.nD Cert.KernelMemAttnIdeal.τ).loc Cert.KernelMemAttnIdeal.main_arg0)
      ∧ m' ((c.tc : Thread Cert.ReferenceMemAttnIdeal.nD Cert.ReferenceMemAttnIdeal.τ).loc Cert.ReferenceMemAttnIdeal.main_arg1) = m ((c.tc : Thread Cert.KernelMemAttnIdeal.nD Cert.KernelMemAttnIdeal.τ).loc Cert.KernelMemAttnIdeal.main_arg1)
      ∧ m' ((c.tc : Thread Cert.ReferenceMemAttnIdeal.nD Cert.ReferenceMemAttnIdeal.τ).loc Cert.ReferenceMemAttnIdeal.main_arg2) = m ((c.tc : Thread Cert.KernelMemAttnIdeal.nD Cert.KernelMemAttnIdeal.τ).loc Cert.KernelMemAttnIdeal.main_arg2)
      ∧ m' ((c.tc : Thread Cert.ReferenceMemAttnIdeal.nD Cert.ReferenceMemAttnIdeal.τ).loc Cert.ReferenceMemAttnIdeal.main_arg3) = m ((c.tc : Thread Cert.KernelMemAttnIdeal.nD Cert.KernelMemAttnIdeal.τ).loc Cert.KernelMemAttnIdeal.main_arg3)) →
    ∃ (v0 : (c : Dev Cert.KernelMemAttnIdeal.nD) → Buf (Elt Ideal) ((c.tc : Thread Cert.KernelMemAttnIdeal.nD Cert.KernelMemAttnIdeal.τ).loc Cert.KernelMemAttnIdeal.main_v2)),
      θ_run (Cert.KernelMemAttnIdeal.defs (F := Ideal)) (onTc (τ := Cert.KernelMemAttnIdeal.τ) (Cert.KernelMemAttnIdeal.main (F := Ideal))) ⟨m, fun _ => 0, g⟩ (fun r => ∀ c : Dev Cert.KernelMemAttnIdeal.nD,
          r.2.mem ((c.tc : Thread Cert.KernelMemAttnIdeal.nD Cert.KernelMemAttnIdeal.τ).loc Cert.KernelMemAttnIdeal.main_v2) = v0 c
          ∧ r.2.mem ((c.tc : Thread Cert.KernelMemAttnIdeal.nD Cert.KernelMemAttnIdeal.τ).loc Cert.KernelMemAttnIdeal.main_arg0) = m ((c.tc : Thread Cert.KernelMemAttnIdeal.nD Cert.KernelMemAttnIdeal.τ).loc Cert.KernelMemAttnIdeal.main_arg0)
          ∧ r.2.mem ((c.tc : Thread Cert.KernelMemAttnIdeal.nD Cert.KernelMemAttnIdeal.τ).loc Cert.KernelMemAttnIdeal.main_arg1) = m ((c.tc : Thread Cert.KernelMemAttnIdeal.nD Cert.KernelMemAttnIdeal.τ).loc Cert.KernelMemAttnIdeal.main_arg1)
          ∧ r.2.mem ((c.tc : Thread Cert.KernelMemAttnIdeal.nD Cert.KernelMemAttnIdeal.τ).loc Cert.KernelMemAttnIdeal.main_arg2) = m ((c.tc : Thread Cert.KernelMemAttnIdeal.nD Cert.KernelMemAttnIdeal.τ).loc Cert.KernelMemAttnIdeal.main_arg2)
          ∧ r.2.mem ((c.tc : Thread Cert.KernelMemAttnIdeal.nD Cert.KernelMemAttnIdeal.τ).loc Cert.KernelMemAttnIdeal.main_arg3) = m ((c.tc : Thread Cert.KernelMemAttnIdeal.nD Cert.KernelMemAttnIdeal.τ).loc Cert.KernelMemAttnIdeal.main_arg3))
      ∧ θ_run (Cert.ReferenceMemAttnIdeal.defs (F := Ideal)) (onTc (τ := Cert.ReferenceMemAttnIdeal.τ) (Cert.ReferenceMemAttnIdeal.main (F := Ideal))) ⟨m', fun _ => 0, g'⟩ (fun r => ∀ c : Dev Cert.ReferenceMemAttnIdeal.nD,
          r.2.mem ((c.tc : Thread Cert.ReferenceMemAttnIdeal.nD Cert.ReferenceMemAttnIdeal.τ).loc Cert.ReferenceMemAttnIdeal.main_v54) = v0 c
          ∧ r.2.mem ((c.tc : Thread Cert.ReferenceMemAttnIdeal.nD Cert.ReferenceMemAttnIdeal.τ).loc Cert.ReferenceMemAttnIdeal.main_arg0) = m' ((c.tc : Thread Cert.ReferenceMemAttnIdeal.nD Cert.ReferenceMemAttnIdeal.τ).loc Cert.ReferenceMemAttnIdeal.main_arg0)
          ∧ r.2.mem ((c.tc : Thread Cert.ReferenceMemAttnIdeal.nD Cert.ReferenceMemAttnIdeal.τ).loc Cert.ReferenceMemAttnIdeal.main_arg1) = m' ((c.tc : Thread Cert.ReferenceMemAttnIdeal.nD Cert.ReferenceMemAttnIdeal.τ).loc Cert.ReferenceMemAttnIdeal.main_arg1)
          ∧ r.2.mem ((c.tc : Thread Cert.ReferenceMemAttnIdeal.nD Cert.ReferenceMemAttnIdeal.τ).loc Cert.ReferenceMemAttnIdeal.main_arg2) = m' ((c.tc : Thread Cert.ReferenceMemAttnIdeal.nD Cert.ReferenceMemAttnIdeal.τ).loc Cert.ReferenceMemAttnIdeal.main_arg2)
          ∧ r.2.mem ((c.tc : Thread Cert.ReferenceMemAttnIdeal.nD Cert.ReferenceMemAttnIdeal.τ).loc Cert.ReferenceMemAttnIdeal.main_arg3) = m' ((c.tc : Thread Cert.ReferenceMemAttnIdeal.nD Cert.ReferenceMemAttnIdeal.τ).loc Cert.ReferenceMemAttnIdeal.main_arg3))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)
      ∧ m' ((c.tc : Thread Cert.ReferencePostIdeal.nD Cert.ReferencePostIdeal.τ).loc Cert.ReferencePostIdeal.main_arg5) = m ((c.tc : Thread Cert.KernelPostIdeal.nD Cert.KernelPostIdeal.τ).loc Cert.KernelPostIdeal.main_arg5)) →
    ∃ (v0 : (c : Dev Cert.KernelPostIdeal.nD) → Buf (Elt Ideal) ((c.tc : Thread Cert.KernelPostIdeal.nD Cert.KernelPostIdeal.τ).loc Cert.KernelPostIdeal.main_v2)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v2) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
          ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v31) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4)
          ∧ r.2.mem ((c.tc : Thread Cert.ReferencePostIdeal.nD Cert.ReferencePostIdeal.τ).loc Cert.ReferencePostIdeal.main_arg5) = m' ((c.tc : Thread Cert.ReferencePostIdeal.nD Cert.ReferencePostIdeal.τ).loc Cert.ReferencePostIdeal.main_arg5))

def preserves_KernelSgu_KernelSguIdeal : Prop :=
  IdealRules.named_const.Statement Cert.KernelSguIdeal.κ "gelu_cubic" .f32 0x3D122279#32 ((80338380498831 / 2251799813685248 : ℝ) : EReal)

def algebraic_KernelSguIdeal_ReferenceSguIdeal_pre_above_bottom [hKernelSguIdeal : Cert.KernelSguIdeal.Facts] [hReferenceSguIdeal : Cert.ReferenceSguIdeal.Facts] [hPre_above_bottom : Cert.Pre_above_bottom.Facts] : Prop :=
  ∀ (m : (ℓ : Loc Cert.KernelSguIdeal.nD Cert.KernelSguIdeal.τ Cert.KernelSguIdeal.sig) → Buf (Elt Ideal) ℓ) (g : Dev Cert.KernelSguIdeal.nD → PrngReg)
    (m' : (ℓ : Loc Cert.ReferenceSguIdeal.nD Cert.ReferenceSguIdeal.τ Cert.ReferenceSguIdeal.sig) → Buf (Elt Ideal) ℓ) (g' : Dev Cert.ReferenceSguIdeal.nD → PrngReg), Pre_KernelSguIdeal_above_bottom m →
    (∀ c : Dev Cert.KernelSguIdeal.nD,
      m' ((c.tc : Thread Cert.ReferenceSguIdeal.nD Cert.ReferenceSguIdeal.τ).loc Cert.ReferenceSguIdeal.main_arg0) = m ((c.tc : Thread Cert.KernelSguIdeal.nD Cert.KernelSguIdeal.τ).loc Cert.KernelSguIdeal.main_arg0)
      ∧ m' ((c.tc : Thread Cert.ReferenceSguIdeal.nD Cert.ReferenceSguIdeal.τ).loc Cert.ReferenceSguIdeal.main_arg1) = m ((c.tc : Thread Cert.KernelSguIdeal.nD Cert.KernelSguIdeal.τ).loc Cert.KernelSguIdeal.main_arg1)
      ∧ m' ((c.tc : Thread Cert.ReferenceSguIdeal.nD Cert.ReferenceSguIdeal.τ).loc Cert.ReferenceSguIdeal.main_arg2) = m ((c.tc : Thread Cert.KernelSguIdeal.nD Cert.KernelSguIdeal.τ).loc Cert.KernelSguIdeal.main_arg2)
      ∧ m' ((c.tc : Thread Cert.ReferenceSguIdeal.nD Cert.ReferenceSguIdeal.τ).loc Cert.ReferenceSguIdeal.main_arg3) = m ((c.tc : Thread Cert.KernelSguIdeal.nD Cert.KernelSguIdeal.τ).loc Cert.KernelSguIdeal.main_arg3)
      ∧ m' ((c.tc : Thread Cert.ReferenceSguIdeal.nD Cert.ReferenceSguIdeal.τ).loc Cert.ReferenceSguIdeal.main_arg4) = m ((c.tc : Thread Cert.KernelSguIdeal.nD Cert.KernelSguIdeal.τ).loc Cert.KernelSguIdeal.main_arg4)) →
    ∃ (v0 : (c : Dev Cert.KernelSguIdeal.nD) → Buf (Elt Ideal) ((c.tc : Thread Cert.KernelSguIdeal.nD Cert.KernelSguIdeal.τ).loc Cert.KernelSguIdeal.main_v6)),
      θ_run (Cert.KernelSguIdeal.defs (F := Ideal)) (onTc (τ := Cert.KernelSguIdeal.τ) (Cert.KernelSguIdeal.main (F := Ideal))) ⟨m, fun _ => 0, g⟩ (fun r => ∀ c : Dev Cert.KernelSguIdeal.nD,
          r.2.mem ((c.tc : Thread Cert.KernelSguIdeal.nD Cert.KernelSguIdeal.τ).loc Cert.KernelSguIdeal.main_v6) = v0 c
          ∧ r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
          ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
          ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
          ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
          ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4))
      ∧ θ_run (Cert.ReferenceSguIdeal.defs (F := Ideal)) (onTc (τ := Cert.ReferenceSguIdeal.τ) (Cert.ReferenceSguIdeal.main (F := Ideal))) ⟨m', fun _ => 0, g'⟩ (fun r => ∀ c : Dev Cert.ReferenceSguIdeal.nD,
          r.2.mem ((c.tc : Thread Cert.ReferenceSguIdeal.nD Cert.ReferenceSguIdeal.τ).loc Cert.ReferenceSguIdeal.main_v66) = v0 c
          ∧ r.2.mem ((c.tc : Thread Cert.ReferenceSguIdeal.nD Cert.ReferenceSguIdeal.τ).loc Cert.ReferenceSguIdeal.main_arg0) = m' ((c.tc : Thread Cert.ReferenceSguIdeal.nD Cert.ReferenceSguIdeal.τ).loc Cert.ReferenceSguIdeal.main_arg0)
          ∧ r.2.mem ((c.tc : Thread Cert.ReferenceSguIdeal.nD Cert.ReferenceSguIdeal.τ).loc Cert.ReferenceSguIdeal.main_arg1) = m' ((c.tc : Thread Cert.ReferenceSguIdeal.nD Cert.ReferenceSguIdeal.τ).loc Cert.ReferenceSguIdeal.main_arg1)
          ∧ r.2.mem ((c.tc : Thread Cert.ReferenceSguIdeal.nD Cert.ReferenceSguIdeal.τ).loc Cert.ReferenceSguIdeal.main_arg2) = m' ((c.tc : Thread Cert.ReferenceSguIdeal.nD Cert.ReferenceSguIdeal.τ).loc Cert.ReferenceSguIdeal.main_arg2)
          ∧ r.2.mem ((c.tc : Thread Cert.ReferenceSguIdeal.nD Cert.ReferenceSguIdeal.τ).loc Cert.ReferenceSguIdeal.main_arg3) = m' ((c.tc : Thread Cert.ReferenceSguIdeal.nD Cert.ReferenceSguIdeal.τ).loc Cert.ReferenceSguIdeal.main_arg3)
          ∧ r.2.mem ((c.tc : Thread Cert.ReferenceSguIdeal.nD Cert.ReferenceSguIdeal.τ).loc Cert.ReferenceSguIdeal.main_arg4) = m' ((c.tc : Thread Cert.ReferenceSguIdeal.nD Cert.ReferenceSguIdeal.τ).loc Cert.ReferenceSguIdeal.main_arg4))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelGates : Cert.KernelGates.Facts) (hKernelGatesIdeal : Cert.KernelGatesIdeal.Facts) (hReferenceGatesIdeal : Cert.ReferenceGatesIdeal.Facts) (hKernelMerge : Cert.KernelMerge.Facts) (hKernelMergeIdeal : Cert.KernelMergeIdeal.Facts) (hReferenceMergeIdeal : Cert.ReferenceMergeIdeal.Facts) (hKernelRkv : Cert.KernelRkv.Facts) (hKernelRkvIdeal : Cert.KernelRkvIdeal.Facts) (hReferenceRkvIdeal : Cert.ReferenceRkvIdeal.Facts) (hKernelLora : Cert.KernelLora.Facts) (hKernelLoraIdeal : Cert.KernelLoraIdeal.Facts) (hReferenceLoraIdeal : Cert.ReferenceLoraIdeal.Facts) (hKernelGateA : Cert.KernelGateA.Facts) (hKernelGateAIdeal : Cert.KernelGateAIdeal.Facts) (hReferenceGateAIdeal : Cert.ReferenceGateAIdeal.Facts) (hKernelBranchB : Cert.KernelBranchB.Facts) (hKernelBranchBIdeal : Cert.KernelBranchBIdeal.Facts) (hReferenceBranchBIdeal : Cert.ReferenceBranchBIdeal.Facts) (hKernelBranchC : Cert.KernelBranchC.Facts) (hKernelBranchCIdeal : Cert.KernelBranchCIdeal.Facts) (hReferenceBranchCIdeal : Cert.ReferenceBranchCIdeal.Facts) (hKernelBranchM : Cert.KernelBranchM.Facts) (hKernelBranchMIdeal : Cert.KernelBranchMIdeal.Facts) (hReferenceBranchMIdeal : Cert.ReferenceBranchMIdeal.Facts) (hKernelMemKv : Cert.KernelMemKv.Facts) (hKernelMemKvIdeal : Cert.KernelMemKvIdeal.Facts) (hReferenceMemKvIdeal : Cert.ReferenceMemKvIdeal.Facts) (hKernelNorm : Cert.KernelNorm.Facts) (hKernelNormIdeal : Cert.KernelNormIdeal.Facts) (hReferenceNormIdeal : Cert.ReferenceNormIdeal.Facts) (hKernelNormMem : Cert.KernelNormMem.Facts) (hKernelNormMemIdeal : Cert.KernelNormMemIdeal.Facts) (hReferenceNormMemIdeal : Cert.ReferenceNormMemIdeal.Facts) (hKernelMemAttn : Cert.KernelMemAttn.Facts) (hKernelMemAttnIdeal : Cert.KernelMemAttnIdeal.Facts) (hReferenceMemAttnIdeal : Cert.ReferenceMemAttnIdeal.Facts) (hKernelPost : Cert.KernelPost.Facts) (hKernelPostIdeal : Cert.KernelPostIdeal.Facts) (hReferencePostIdeal : Cert.ReferencePostIdeal.Facts) (hKernelSgu : Cert.KernelSgu.Facts) (hKernelSguIdeal : Cert.KernelSguIdeal.Facts) (hReferenceSguIdeal : Cert.ReferenceSguIdeal.Facts) (hPre_finite_params : Cert.Pre_finite_params.Facts) (hPre_above_bottom : Cert.Pre_above_bottom.Facts),
    quiescent_Kernel (hKernel := hKernel)
    ∧ quiescent_KernelIdeal (hKernelIdeal := hKernelIdeal)
    ∧ quiescent_KernelIdeal_pre_finite_params (hKernelIdeal := hKernelIdeal) (hPre_finite_params := hPre_finite_params)
    ∧ quiescent_ReferenceIdeal (hReferenceIdeal := hReferenceIdeal)
    ∧ quiescent_ReferenceIdeal_pre_finite_params (hReferenceIdeal := hReferenceIdeal) (hPre_finite_params := hPre_finite_params)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelRkv (hKernelRkv := hKernelRkv)
    ∧ quiescent_KernelRkvIdeal (hKernelRkvIdeal := hKernelRkvIdeal)
    ∧ quiescent_ReferenceRkvIdeal (hReferenceRkvIdeal := hReferenceRkvIdeal)
    ∧ quiescent_KernelLora (hKernelLora := hKernelLora)
    ∧ quiescent_KernelLoraIdeal (hKernelLoraIdeal := hKernelLoraIdeal)
    ∧ quiescent_ReferenceLoraIdeal (hReferenceLoraIdeal := hReferenceLoraIdeal)
    ∧ quiescent_KernelGateA (hKernelGateA := hKernelGateA)
    ∧ quiescent_KernelGateAIdeal (hKernelGateAIdeal := hKernelGateAIdeal)
    ∧ quiescent_ReferenceGateAIdeal (hReferenceGateAIdeal := hReferenceGateAIdeal)
    ∧ quiescent_KernelBranchB (hKernelBranchB := hKernelBranchB)
    ∧ quiescent_KernelBranchBIdeal (hKernelBranchBIdeal := hKernelBranchBIdeal)
    ∧ quiescent_ReferenceBranchBIdeal (hReferenceBranchBIdeal := hReferenceBranchBIdeal)
    ∧ quiescent_KernelBranchC (hKernelBranchC := hKernelBranchC)
    ∧ quiescent_KernelBranchCIdeal (hKernelBranchCIdeal := hKernelBranchCIdeal)
    ∧ quiescent_ReferenceBranchCIdeal (hReferenceBranchCIdeal := hReferenceBranchCIdeal)
    ∧ quiescent_KernelBranchM (hKernelBranchM := hKernelBranchM)
    ∧ quiescent_KernelBranchMIdeal (hKernelBranchMIdeal := hKernelBranchMIdeal)
    ∧ quiescent_ReferenceBranchMIdeal (hReferenceBranchMIdeal := hReferenceBranchMIdeal)
    ∧ quiescent_KernelMemKv (hKernelMemKv := hKernelMemKv)
    ∧ quiescent_KernelMemKvIdeal (hKernelMemKvIdeal := hKernelMemKvIdeal)
    ∧ quiescent_ReferenceMemKvIdeal (hReferenceMemKvIdeal := hReferenceMemKvIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNormMem (hKernelNormMem := hKernelNormMem)
    ∧ quiescent_KernelNormMemIdeal (hKernelNormMemIdeal := hKernelNormMemIdeal)
    ∧ quiescent_ReferenceNormMemIdeal (hReferenceNormMemIdeal := hReferenceNormMemIdeal)
    ∧ quiescent_KernelMemAttn (hKernelMemAttn := hKernelMemAttn)
    ∧ quiescent_KernelMemAttnIdeal (hKernelMemAttnIdeal := hKernelMemAttnIdeal)
    ∧ quiescent_ReferenceMemAttnIdeal (hReferenceMemAttnIdeal := hReferenceMemAttnIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelSgu (hKernelSgu := hKernelSgu)
    ∧ quiescent_KernelSguIdeal (hKernelSguIdeal := hKernelSguIdeal)
    ∧ quiescent_KernelSguIdeal_pre_above_bottom (hKernelSguIdeal := hKernelSguIdeal) (hPre_above_bottom := hPre_above_bottom)
    ∧ quiescent_ReferenceSguIdeal (hReferenceSguIdeal := hReferenceSguIdeal)
    ∧ quiescent_ReferenceSguIdeal_pre_above_bottom (hReferenceSguIdeal := hReferenceSguIdeal) (hPre_above_bottom := hPre_above_bottom)
    ∧ preserves_Kernel_KernelIdeal
    ∧ algebraic_KernelIdeal_ReferenceIdeal_pre_finite_params (hKernelIdeal := hKernelIdeal) (hReferenceIdeal := hReferenceIdeal) (hPre_finite_params := hPre_finite_params)
    ∧ preserves_KernelOut_KernelOutIdeal
    ∧ algebraic_KernelOutIdeal_ReferenceOutIdeal (hKernelOutIdeal := hKernelOutIdeal) (hReferenceOutIdeal := hReferenceOutIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelRkv_KernelRkvIdeal
    ∧ algebraic_KernelRkvIdeal_ReferenceRkvIdeal (hKernelRkvIdeal := hKernelRkvIdeal) (hReferenceRkvIdeal := hReferenceRkvIdeal)
    ∧ preserves_KernelLora_KernelLoraIdeal
    ∧ algebraic_KernelLoraIdeal_ReferenceLoraIdeal (hKernelLoraIdeal := hKernelLoraIdeal) (hReferenceLoraIdeal := hReferenceLoraIdeal)
    ∧ preserves_KernelGateA_KernelGateAIdeal
    ∧ algebraic_KernelGateAIdeal_ReferenceGateAIdeal (hKernelGateAIdeal := hKernelGateAIdeal) (hReferenceGateAIdeal := hReferenceGateAIdeal)
    ∧ preserves_KernelBranchB_KernelBranchBIdeal
    ∧ algebraic_KernelBranchBIdeal_ReferenceBranchBIdeal (hKernelBranchBIdeal := hKernelBranchBIdeal) (hReferenceBranchBIdeal := hReferenceBranchBIdeal)
    ∧ preserves_KernelBranchC_KernelBranchCIdeal
    ∧ algebraic_KernelBranchCIdeal_ReferenceBranchCIdeal (hKernelBranchCIdeal := hKernelBranchCIdeal) (hReferenceBranchCIdeal := hReferenceBranchCIdeal)
    ∧ preserves_KernelBranchM_KernelBranchMIdeal
    ∧ algebraic_KernelBranchMIdeal_ReferenceBranchMIdeal (hKernelBranchMIdeal := hKernelBranchMIdeal) (hReferenceBranchMIdeal := hReferenceBranchMIdeal)
    ∧ preserves_KernelMemKv_KernelMemKvIdeal
    ∧ algebraic_KernelMemKvIdeal_ReferenceMemKvIdeal (hKernelMemKvIdeal := hKernelMemKvIdeal) (hReferenceMemKvIdeal := hReferenceMemKvIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNormMem_KernelNormMemIdeal
    ∧ algebraic_KernelNormMemIdeal_ReferenceNormMemIdeal (hKernelNormMemIdeal := hKernelNormMemIdeal) (hReferenceNormMemIdeal := hReferenceNormMemIdeal)
    ∧ preserves_KernelMemAttn_KernelMemAttnIdeal
    ∧ algebraic_KernelMemAttnIdeal_ReferenceMemAttnIdeal (hKernelMemAttnIdeal := hKernelMemAttnIdeal) (hReferenceMemAttnIdeal := hReferenceMemAttnIdeal)
    ∧ preserves_KernelPost_KernelPostIdeal
    ∧ algebraic_KernelPostIdeal_ReferencePostIdeal (hKernelPostIdeal := hKernelPostIdeal) (hReferencePostIdeal := hReferencePostIdeal)
    ∧ preserves_KernelSgu_KernelSguIdeal
    ∧ algebraic_KernelSguIdeal_ReferenceSguIdeal_pre_above_bottom (hKernelSguIdeal := hKernelSguIdeal) (hReferenceSguIdeal := hReferenceSguIdeal) (hPre_above_bottom := hPre_above_bottom)
-- ==== Pre_above_bottom.lean ====
abbrev S4x4096x3072 : Shape := ⟨3, ![4, 4096, 3072]⟩
abbrev S1024 : Shape := ⟨1, ![1024]⟩
abbrev S8x128x128 : Shape := ⟨3, ![8, 128, 128]⟩
abbrev S8x128 : Shape := ⟨2, ![8, 128]⟩
abbrev S4x4096x2048 : Shape := ⟨3, ![4, 4096, 2048]⟩
abbrev S_ : Shape := ⟨0, ![]⟩

class Facts : Prop where
  slices_S4x4096x3072_S4x4096x2048_0_0_0 : S4x4096x3072.Slices ![0, 0, 0] S4x4096x2048
  bitsLt_bf16_f32 : FTy.bits .bf16 < FTy.bits .f32
  bcast_S_S4x4096x2048 : S_.BroadcastsInDim S4x4096x2048 (![] : Fin 0 → Fin S4x4096x2048.rank)

variable [Facts]

def fn {F : FTy → Type} [FloatOps F] (main_arg0 : FVec F S4x4096x3072 .bf16) (main_arg1 : FVec F S1024 .f32) (main_arg2 : FVec F S1024 .f32) (main_arg3 : FVec F S8x128x128 .f32) (main_arg4 : FVec F S8x128 .f32) : IVec S4x4096x2048 1 :=
  let main_v0 : FVec F S4x4096x2048 .bf16 := (extractStridedSlice S4x4096x2048 ![0, 0, 0] · slices_S4x4096x3072_S4x4096x2048_0_0_0) main_arg0
  let main_v1 : FVec F S4x4096x2048 .f32 := (extf .f32 · bitsLt_bf16_f32) main_v0
  let main_cst : FVec F S_ .f32 := constant S_ .f32 0xFF800000#32
  let main_v2 : FVec F S4x4096x2048 .f32 := broadcastInDim S4x4096x2048 ![] bcast_S_S4x4096x2048 main_cst
  let main_v3 : IVec S4x4096x2048 1 := cmpf .ogt main_v1 main_v2
  main_v3
-- ==== Pre_finite_params.lean ====
abbrev S4x4096x4096 : Shape := ⟨3, ![4, 4096, 4096]⟩
abbrev S64 : Shape := ⟨1, ![64]⟩
abbrev S16x15x31 : Shape := ⟨3, ![16, 15, 31]⟩
abbrev S_ : Shape := ⟨0, ![]⟩

class Facts : Prop where
  bcast_S_S64 : S_.BroadcastsInDim S64 (![] : Fin 0 → Fin S64.rank)
  bcast_S_S16x15x31 : S_.BroadcastsInDim S16x15x31 (![] : Fin 0 → Fin S16x15x31.rank)

variable [Facts]

def fn {F : FTy → Type} [FloatOps F] (main_arg0 : FVec F S4x4096x4096 .bf16) (main_arg1 : FVec F S64 .f32) (main_arg2 : FVec F S64 .f32) (main_arg3 : FVec F S16x15x31 .f32) : IVec S64 1 × IVec S64 1 × IVec S16x15x31 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg2
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S16x15x31 .f32 := Host.absf main_arg3
  let main_cst_1 : FVec F S_ .f32 := constant S_ .f32 0x7F800000#32
  let main_v7 : FVec F S16x15x31 .f32 := broadcastInDim S16x15x31 ![] bcast_S_S16x15x31 main_cst_1
  let main_v8 : IVec S16x15x31 1 := cmpf .olt main_v6 main_v7
  (main_v2, main_v5, main_v8)
-- ==== Kernel.lean ====
abbrev S4x4096x4096 : Shape := ⟨3, ![4, 4096, 4096]⟩
abbrev S64 : Shape := ⟨1, ![64]⟩
abbrev S16x15x31 : Shape := ⟨3, ![16, 15, 31]⟩
abbrev S64x64 : Shape := ⟨2, ![64, 64]⟩
abbrev S1x1x64x64 : Shape := ⟨4, ![1, 1, 64, 64]⟩
abbrev S_ : Shape := ⟨0, ![]⟩
abbrev S64x64x1 : Shape := ⟨3, ![64, 64, 1]⟩
abbrev S16x15x64x64 : Shape := ⟨4, ![16, 15, 64, 64]⟩
abbrev S16x8x64x64 : Shape := ⟨4, ![16, 8, 64, 64]⟩
abbrev S16x1x8x64x64 : Shape := ⟨5, ![16, 1, 8, 64, 64]⟩
abbrev S16x8x8x64x64 : Shape := ⟨5, ![16, 8, 8, 64, 64]⟩
abbrev S16x8x64x8x64 : Shape := ⟨5, ![16, 8, 64, 8, 64]⟩
abbrev S16x8x64x512 : Shape := ⟨4, ![16, 8, 64, 512]⟩
abbrev S128 : Shape := ⟨1, ![128]⟩
abbrev S1x128 : Shape := ⟨2, ![1, 128]⟩
abbrev S4x4096x1024 : Shape := ⟨3, ![4, 4096, 1024]⟩
abbrev S1x4096x128 : Shape := ⟨3, ![1, 4096, 128]⟩
abbrev S2x8x64x512 : Shape := ⟨4, ![2, 8, 64, 512]⟩
abbrev S4096x128 : Shape := ⟨2, ![4096, 128]⟩
abbrev S128x128 : Shape := ⟨2, ![128, 128]⟩
abbrev S512x128 : Shape := ⟨2, ![512, 128]⟩
abbrev S64x128 : Shape := ⟨2, ![64, 128]⟩
abbrev S128x512 : Shape := ⟨2, ![128, 512]⟩
abbrev S1x1x64x512 : Shape := ⟨4, ![1, 1, 64, 512]⟩
abbrev S64x512 : Shape := ⟨2, ![64, 512]⟩
abbrev S128x1 : Shape := ⟨2, ![128, 1]⟩
abbrev S1x512x128 : Shape := ⟨3, ![1, 512, 128]⟩
abbrev S512x256 : Shape := ⟨2, ![512, 256]⟩
abbrev S128x256 : Shape := ⟨2, ![128, 256]⟩
abbrev S1x64x128 : Shape := ⟨3, ![1, 64, 128]⟩

abbrev nBuf : Space → Nat
  | .hbm => 44
  | .vmem => 16
  | .smem => 0
  | _ => 0

abbrev bufTy : (tb : Table) → Fin (tcTables nBuf tb) → BufTy
  | .hbm, ⟨0, _⟩ => ⟨S4x4096x4096, .bf16⟩
  | .hbm, ⟨1, _⟩ => ⟨S64, .f32⟩
  | .hbm, ⟨2, _⟩ => ⟨S64, .f32⟩
  | .hbm, ⟨3, _⟩ => ⟨S16x15x31, .f32⟩
  | .hbm, ⟨4, _⟩ => ⟨S64x64, .i32⟩
  | .hbm, ⟨5, _⟩ => ⟨S64x64, .i1⟩
  | .hbm, ⟨6, _⟩ => ⟨S64x64, .i1⟩
  | .hbm, ⟨7, _⟩ => ⟨S1x1x64x64, .i1⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S64x64x1, .i32⟩
  | .hbm, ⟨13, _⟩ => ⟨S16x15x64x64, .f32⟩
  | .hbm, ⟨14, _⟩ => ⟨S_, .f32⟩
  | .hbm, ⟨15, _⟩ => ⟨S_, .f32⟩
  | .hbm, ⟨16, _⟩ => ⟨S16x15x64x64, .i1⟩
  | .hbm, ⟨17, _⟩ => ⟨S16x15x64x64, .f32⟩
  | .hbm, ⟨18, _⟩ => ⟨S16x15x64x64, .f32⟩
  | .hbm, ⟨19, _⟩ => ⟨S16x8x64x64, .f32⟩
  | .hbm, ⟨20, _⟩ => ⟨S16x8x64x64, .f32⟩
  | .hbm, ⟨21, _⟩ => ⟨S16x8x64x64, .f32⟩
  | .hbm, ⟨22, _⟩ => ⟨S16x8x64x64, .f32⟩
  | .hbm, ⟨23, _⟩ => ⟨S16x8x64x64, .f32⟩
  | .hbm, ⟨24, _⟩ => ⟨S16x8x64x64, .f32⟩
  | .hbm, ⟨25, _⟩ => ⟨S16x8x64x64, .f32⟩
  | .hbm, ⟨26, _⟩ => ⟨S16x8x64x64, .f32⟩
  | .hbm, ⟨27, _⟩ => ⟨S16x1x8x64x64, .f32⟩
  | .hbm, ⟨28, _⟩ => ⟨S16x1x8x64x64, .f32⟩
  | .hbm, ⟨29, _⟩ => ⟨S16x1x8x64x64, .f32⟩
  | .hbm, ⟨30, _⟩ => ⟨S16x1x8x64x64, .f32⟩
  | .hbm, ⟨31, _⟩ => ⟨S16x1x8x64x64, .f32⟩
  | .hbm, ⟨32, _⟩ => ⟨S16x1x8x64x64, .f32⟩
  | .hbm, ⟨33, _⟩ => ⟨S16x1x8x64x64, .f32⟩
  | .hbm, ⟨34, _⟩ => ⟨S16x1x8x64x64, .f32⟩
  | .hbm, ⟨35, _⟩ => ⟨S16x8x8x64x64, .f32⟩
  | .hbm, ⟨36, _⟩ => ⟨S16x8x64x8x64, .f32⟩
  | .hbm, ⟨37, _⟩ => ⟨S16x8x64x512, .f32⟩
  | .hbm, ⟨38, _⟩ => ⟨S16x8x64x512, .bf16⟩
  | .hbm, ⟨39, _⟩ => ⟨S128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S4x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x128, .f32⟩
  | .local _ .vmem, ⟨9, _⟩ => ⟨S1x128, .f32⟩
  | .local _ .vmem, ⟨10, _⟩ => ⟨S2x8x64x512, .bf16⟩
  | .local _ .vmem, ⟨11, _⟩ => ⟨S2x8x64x512, .bf16⟩
  | .local _ .vmem, ⟨12, _⟩ => ⟨S1x4096x128, .bf16⟩
  | .local _ .vmem, ⟨13, _⟩ => ⟨S1x4096x128, .bf16⟩
  | .local _ .vmem, ⟨14, _⟩ => ⟨S4096x128, .bf16⟩
  | .local _ .vmem, ⟨15, _⟩ => ⟨S4096x128, .bf16⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c2_i32 : BitVec 32 := 2#32
  let v59 : BitVec 32 := Scalar.addi c0_i32 c2_i32
  let c1_i32 : BitVec 32 := 1#32
  ⟨c0_i32, v59, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32 : BitVec 32 := 32#32
  let v60 : BitVec 32 := Scalar.muli arg12 c32_i32
  let c0_i32_25 : BitVec 32 := 0#32
  let v61 : BitVec 32 := Scalar.addi v60 c0_i32_25
  let c64_i32_187 : BitVec 32 := 64#32
  let v284 : BitVec 32 := Scalar.muli v61 c64_i32_187
  v284
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_26 : BitVec 32 := 32#32
  let v62 : BitVec 32 := Scalar.muli arg12 c32_i32_26
  let c1_i32_27 : BitVec 32 := 1#32
  let v63 : BitVec 32 := Scalar.addi v62 c1_i32_27
  let c64_i32_188 : BitVec 32 := 64#32
  let v286 : BitVec 32 := Scalar.muli v63 c64_i32_188
  v286
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_28 : BitVec 32 := 32#32
  let v64 : BitVec 32 := Scalar.muli arg12 c32_i32_28
  let c2_i32_29 : BitVec 32 := 2#32
  let v65 : BitVec 32 := Scalar.addi v64 c2_i32_29
  let c64_i32_189 : BitVec 32 := 64#32
  let v288 : BitVec 32 := Scalar.muli v65 c64_i32_189
  v288
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_30 : BitVec 32 := 32#32
  let v66 : BitVec 32 := Scalar.muli arg12 c32_i32_30
  let c3_i32 : BitVec 32 := 3#32
  let v67 : BitVec 32 := Scalar.addi v66 c3_i32
  let c64_i32_190 : BitVec 32 := 64#32
  let v290 : BitVec 32 := Scalar.muli v67 c64_i32_190
  v290
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_31 : BitVec 32 := 32#32
  let v68 : BitVec 32 := Scalar.muli arg12 c32_i32_31
  let c4_i32 : BitVec 32 := 4#32
  let v69 : BitVec 32 := Scalar.addi v68 c4_i32
  let c64_i32_191 : BitVec 32 := 64#32
  let v292 : BitVec 32 := Scalar.muli v69 c64_i32_191
  v292
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_32 : BitVec 32 := 32#32
  let v70 : BitVec 32 := Scalar.muli arg12 c32_i32_32
  let c5_i32 : BitVec 32 := 5#32
  let v71 : BitVec 32 := Scalar.addi v70 c5_i32
  let c64_i32_192 : BitVec 32 := 64#32
  let v294 : BitVec 32 := Scalar.muli v71 c64_i32_192
  v294
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_33 : BitVec 32 := 32#32
  let v72 : BitVec 32 := Scalar.muli arg12 c32_i32_33
  let c6_i32_34 : BitVec 32 := 6#32
  let v73 : BitVec 32 := Scalar.addi v72 c6_i32_34
  let c64_i32_193 : BitVec 32 := 64#32
  let v296 : BitVec 32 := Scalar.muli v73 c64_i32_193
  v296
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_35 : BitVec 32 := 32#32
  let v74 : BitVec 32 := Scalar.muli arg12 c32_i32_35
  let c7_i32 : BitVec 32 := 7#32
  let v75 : BitVec 32 := Scalar.addi v74 c7_i32
  let c64_i32_194 : BitVec 32 := 64#32
  let v298 : BitVec 32 := Scalar.muli v75 c64_i32_194
  v298
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_36 : BitVec 32 := 32#32
  let v76 : BitVec 32 := Scalar.muli arg12 c32_i32_36
  let c8_i32 : BitVec 32 := 8#32
  let v77 : BitVec 32 := Scalar.addi v76 c8_i32
  let c64_i32_195 : BitVec 32 := 64#32
  let v300 : BitVec 32 := Scalar.muli v77 c64_i32_195
  v300
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_37 : BitVec 32 := 32#32
  let v78 : BitVec 32 := Scalar.muli arg12 c32_i32_37
  let c9_i32 : BitVec 32 := 9#32
  let v79 : BitVec 32 := Scalar.addi v78 c9_i32
  let c64_i32_196 : BitVec 32 := 64#32
  let v302 : BitVec 32 := Scalar.muli v79 c64_i32_196
  v302
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_38 : BitVec 32 := 32#32
  let v80 : BitVec 32 := Scalar.muli arg12 c32_i32_38
  let c10_i32 : BitVec 32 := 10#32
  let v81 : BitVec 32 := Scalar.addi v80 c10_i32
  let c64_i32_197 : BitVec 32 := 64#32
  let v304 : BitVec 32 := Scalar.muli v81 c64_i32_197
  v304
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_39 : BitVec 32 := 32#32
  let v82 : BitVec 32 := Scalar.muli arg12 c32_i32_39
  let c11_i32 : BitVec 32 := 11#32
  let v83 : BitVec 32 := Scalar.addi v82 c11_i32
  let c64_i32_198 : BitVec 32 := 64#32
  let v306 : BitVec 32 := Scalar.muli v83 c64_i32_198
  v306
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_40 : BitVec 32 := 32#32
  let v84 : BitVec 32 := Scalar.muli arg12 c32_i32_40
  let c12_i32 : BitVec 32 := 12#32
  let v85 : BitVec 32 := Scalar.addi v84 c12_i32
  let c64_i32_199 : BitVec 32 := 64#32
  let v308 : BitVec 32 := Scalar.muli v85 c64_i32_199
  v308
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_41 : BitVec 32 := 32#32
  let v86 : BitVec 32 := Scalar.muli arg12 c32_i32_41
  let c13_i32 : BitVec 32 := 13#32
  let v87 : BitVec 32 := Scalar.addi v86 c13_i32
  let c64_i32_200 : BitVec 32 := 64#32
  let v310 : BitVec 32 := Scalar.muli v87 c64_i32_200
  v310
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_42 : BitVec 32 := 32#32
  let v88 : BitVec 32 := Scalar.muli arg12 c32_i32_42
  let c14_i32 : BitVec 32 := 14#32
  let v89 : BitVec 32 := Scalar.addi v88 c14_i32
  let c64_i32_201 : BitVec 32 := 64#32
  let v312 : BitVec 32 := Scalar.muli v89 c64_i32_201
  v312
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_43 : BitVec 32 := 32#32
  let v90 : BitVec 32 := Scalar.muli arg12 c32_i32_43
  let c15_i32 : BitVec 32 := 15#32
  let v91 : BitVec 32 := Scalar.addi v90 c15_i32
  let c64_i32_202 : BitVec 32 := 64#32
  let v314 : BitVec 32 := Scalar.muli v91 c64_i32_202
  v314
def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_44 : BitVec 32 := 32#32
  let v92 : BitVec 32 := Scalar.muli arg12 c32_i32_44
  let c16_i32 : BitVec 32 := 16#32
  let v93 : BitVec 32 := Scalar.addi v92 c16_i32
  let c64_i32_203 : BitVec 32 := 64#32
  let v316 : BitVec 32 := Scalar.muli v93 c64_i32_203
  v316
def k0_mult18 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_45 : BitVec 32 := 32#32
  let v94 : BitVec 32 := Scalar.muli arg12 c32_i32_45
  let c17_i32 : BitVec 32 := 17#32
  let v95 : BitVec 32 := Scalar.addi v94 c17_i32
  let c64_i32_204 : BitVec 32 := 64#32
  let v318 : BitVec 32 := Scalar.muli v95 c64_i32_204
  v318
def k0_mult19 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_46 : BitVec 32 := 32#32
  let v96 : BitVec 32 := Scalar.muli arg12 c32_i32_46
  let c18_i32 : BitVec 32 := 18#32
  let v97 : BitVec 32 := Scalar.addi v96 c18_i32
  let c64_i32_205 : BitVec 32 := 64#32
  let v320 : BitVec 32 := Scalar.muli v97 c64_i32_205
  v320
def k0_mult20 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_47 : BitVec 32 := 32#32
  let v98 : BitVec 32 := Scalar.muli arg12 c32_i32_47
  let c19_i32 : BitVec 32 := 19#32
  let v99 : BitVec 32 := Scalar.addi v98 c19_i32
  let c64_i32_206 : BitVec 32 := 64#32
  let v322 : BitVec 32 := Scalar.muli v99 c64_i32_206
  v322
def k0_mult21 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_48 : BitVec 32 := 32#32
  let v100 : BitVec 32 := Scalar.muli arg12 c32_i32_48
  let c20_i32 : BitVec 32 := 20#32
  let v101 : BitVec 32 := Scalar.addi v100 c20_i32
  let c64_i32_207 : BitVec 32 := 64#32
  let v324 : BitVec 32 := Scalar.muli v101 c64_i32_207
  v324
def k0_mult22 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_49 : BitVec 32 := 32#32
  let v102 : BitVec 32 := Scalar.muli arg12 c32_i32_49
  let c21_i32 : BitVec 32 := 21#32
  let v103 : BitVec 32 := Scalar.addi v102 c21_i32
  let c64_i32_208 : BitVec 32 := 64#32
  let v326 : BitVec 32 := Scalar.muli v103 c64_i32_208
  v326
def k0_mult23 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_50 : BitVec 32 := 32#32
  let v104 : BitVec 32 := Scalar.muli arg12 c32_i32_50
  let c22_i32 : BitVec 32 := 22#32
  let v105 : BitVec 32 := Scalar.addi v104 c22_i32
  let c64_i32_209 : BitVec 32 := 64#32
  let v328 : BitVec 32 := Scalar.muli v105 c64_i32_209
  v328
def k0_mult24 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_51 : BitVec 32 := 32#32
  let v106 : BitVec 32 := Scalar.muli arg12 c32_i32_51
  let c23_i32 : BitVec 32 := 23#32
  let v107 : BitVec 32 := Scalar.addi v106 c23_i32
  let c64_i32_210 : BitVec 32 := 64#32
  let v330 : BitVec 32 := Scalar.muli v107 c64_i32_210
  v330
def k0_mult25 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_52 : BitVec 32 := 32#32
  let v108 : BitVec 32 := Scalar.muli arg12 c32_i32_52
  let c24_i32 : BitVec 32 := 24#32
  let v109 : BitVec 32 := Scalar.addi v108 c24_i32
  let c64_i32_211 : BitVec 32 := 64#32
  let v332 : BitVec 32 := Scalar.muli v109 c64_i32_211
  v332
def k0_mult26 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_53 : BitVec 32 := 32#32
  let v110 : BitVec 32 := Scalar.muli arg12 c32_i32_53
  let c25_i32 : BitVec 32 := 25#32
  let v111 : BitVec 32 := Scalar.addi v110 c25_i32
  let c64_i32_212 : BitVec 32 := 64#32
  let v334 : BitVec 32 := Scalar.muli v111 c64_i32_212
  v334
def k0_mult27 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_54 : BitVec 32 := 32#32
  let v112 : BitVec 32 := Scalar.muli arg12 c32_i32_54
  let c26_i32 : BitVec 32 := 26#32
  let v113 : BitVec 32 := Scalar.addi v112 c26_i32
  let c64_i32_213 : BitVec 32 := 64#32
  let v336 : BitVec 32 := Scalar.muli v113 c64_i32_213
  v336
def k0_mult28 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_55 : BitVec 32 := 32#32
  let v114 : BitVec 32 := Scalar.muli arg12 c32_i32_55
  let c27_i32 : BitVec 32 := 27#32
  let v115 : BitVec 32 := Scalar.addi v114 c27_i32
  let c64_i32_214 : BitVec 32 := 64#32
  let v338 : BitVec 32 := Scalar.muli v115 c64_i32_214
  v338
def k0_mult29 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_56 : BitVec 32 := 32#32
  let v116 : BitVec 32 := Scalar.muli arg12 c32_i32_56
  let c28_i32 : BitVec 32 := 28#32
  let v117 : BitVec 32 := Scalar.addi v116 c28_i32
  let c64_i32_215 : BitVec 32 := 64#32
  let v340 : BitVec 32 := Scalar.muli v117 c64_i32_215
  v340
def k0_mult30 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_57 : BitVec 32 := 32#32
  let v118 : BitVec 32 := Scalar.muli arg12 c32_i32_57
  let c29_i32 : BitVec 32 := 29#32
  let v119 : BitVec 32 := Scalar.addi v118 c29_i32
  let c64_i32_216 : BitVec 32 := 64#32
  let v342 : BitVec 32 := Scalar.muli v119 c64_i32_216
  v342
def k0_mult31 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_58 : BitVec 32 := 32#32
  let v120 : BitVec 32 := Scalar.muli arg12 c32_i32_58
  let c30_i32 : BitVec 32 := 30#32
  let v121 : BitVec 32 := Scalar.addi v120 c30_i32
  let c64_i32_217 : BitVec 32 := 64#32
  let v344 : BitVec 32 := Scalar.muli v121 c64_i32_217
  v344
def k0_mult32 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32_59 : BitVec 32 := 32#32
  let v122 : BitVec 32 := Scalar.muli arg12 c32_i32_59
  let c31_i32 : BitVec 32 := 31#32
  let v123 : BitVec 32 := Scalar.addi v122 c31_i32
  let c64_i32_218 : BitVec 32 := 64#32
  let v346 : BitVec 32 := Scalar.muli v123 c64_i32_218
  v346
def k0_mult33 (k0_t1 : Fin k0_t1_loop.trips) : BitVec 32 :=
  let c56_i32 : BitVec 32 := 56#32
  let c0_i32_61 : BitVec 32 := 0#32
  let c0_i32 : BitVec 32 := 0#32
  let c1_i32 : BitVec 32 := 1#32
  let arg12 : BitVec 32 := Scf.iv c0_i32 c1_i32 k0_t1
  let c32_i32 : BitVec 32 := 32#32
  let v60 : BitVec 32 := Scalar.muli arg12 c32_i32
  let c0_i32_25 : BitVec 32 := 0#32
  let v61 : BitVec 32 := Scalar.addi v60 c0_i32_25
  let c4_i32_60 : BitVec 32 := 4#32
  let v124 : BitVec 32 := Scalar.subi v61 c4_i32_60
  let v125 : BitVec 32 := Scalar.maxsi c0_i32_61 v124
  let v126 : BitVec 32 := Scalar.minsi c56_i32 v125
  let c64_i32_219 : BitVec 32 := 64#32
  let v348 : BitVec 32 := Scalar.muli v126 c64_i32_219
  v348
def k0_mult34 (k0_t1 : Fin k0_t1_loop.trips) : BitVec 32 :=
  let c56_i32_64 : BitVec 32 := 56#32
  let c0_i32_63 : BitVec 32 := 0#32
  let c0_i32 : BitVec 32 := 0#32
  let c1_i32 : BitVec 32 := 1#32
  let arg12 : BitVec 32 := Scf.iv c0_i32 c1_i32 k0_t1
  let c32_i32_26 : BitVec 32 := 32#32
  let v62 : BitVec 32 := Scalar.muli arg12 c32_i32_26
  let c1_i32_27 : BitVec 32 := 1#32
  let v63 : BitVec 32 := Scalar.addi v62 c1_i32_27
  let c4_i32_62 : BitVec 32 := 4#32
  let v127 : BitVec 32 := Scalar.subi v63 c4_i32_62
  let v128 : BitVec 32 := Scalar.maxsi c0_i32_63 v127
  let v129 : BitVec 32 := Scalar.minsi c56_i32_64 v128
  let c64_i32_220 : BitVec 32 := 64#32
  let v350 : BitVec 32 := Scalar.muli v129 c64_i32_220
  v350
def k0_mult35 (k0_t1 : Fin k0_t1_loop.trips) : BitVec 32 :=
  let c56_i32_67 : BitVec 32 := 56#32
  let c0_i32_66 : BitVec 32 := 0#32
  let c0_i32 : BitVec 32 := 0#32
  let c1_i32 : BitVec 32 := 1#32
  let arg12 : BitVec 32 := Scf.iv c0_i32 c1_i32 k0_t1
  let c32_i32_28 : BitVec 32 := 32#32
  let v64 : BitVec 32 := Scalar.muli arg12 c32_i32_28
  let c2_i32_29 : BitVec 32 := 2#32
  let v65 : BitVec 32 := Scalar.addi v64 c2_i32_29
  let c4_i32_65 : BitVec 32 := 4#32
  let v130 : BitVec 32 := Scalar.subi v65 c4_i32_65
  let v131 : BitVec 32 := Scalar.maxsi c0_i32_66 v130
  let v132 : BitVec 32 := Scalar.minsi c56_i32_67 v131
  let c64_i32_221 : BitVec 32 := 64#32
  let v352 : BitVec 32 := Scalar.muli v132 c64_i32_221
  v352
def k0_mult36 (k0_t1 : Fin k0_t1_loop.trips) : BitVec 32 :=
  let c56_i32_70 : BitVec 32 := 56#32
  let c0_i32_69 : BitVec 32 := 0#32
  let c0_i32 : BitVec 32 := 0#32
  let c1_i32 : BitVec 32 := 1#32
  let arg12 : BitVec 32 := Scf.iv c0_i32 c1_i32 k0_t1
  let c32_i32_30 : BitVec 32 := 32#32
  let v66 : BitVec 32 := Scalar.muli arg12 c32_i32_30
  let c3_i32 : BitVec 32 := 3#32
  let v67 : BitVec 32 := Scalar.addi v66 c3_i32
  let c4_i32_68 : BitVec 32 := 4#32
  let v133 : BitVec 32 := Scalar.subi v67 c4_i32_68
  let v134 : BitVec 32 := Scalar.maxsi c0_i32_69 v133
  let v135 : BitVec 32 := Scalar.minsi c56_i32_70 v134
  let c64_i32_222 : BitVec 32 := 64#32
  let v354 : BitVec 32 := Scalar.muli v135 c64_i32_222
  v354
def k0_mult37 (k0_t1 : Fin k0_t1_loop.trips) : BitVec 32 :=
  let c56_i32_73 : BitVec 32 := 56#32
  let c0_i32_72 : BitVec 32 := 0#32
  let c0_i32 : BitVec 32 := 0#32
  let c1_i32 : BitVec 32 := 1#32
  let arg12 : BitVec 32 := Scf.iv c0_i32 c1_i32 k0_t1
  let c32_i32_31 : BitVec 32 := 32#32
  let v68 : BitVec 32 := Scalar.muli arg12 c32_i32_31
  let c4_i32 : BitVec 32 := 4#32
  let v69 : BitVec 32 := Scalar.addi v68 c4_i32
  let c4_i32_71 : BitVec 32 := 4#32
  let v136 : BitVec 32 := Scalar.subi v69 c4_i32_71
  let v137 : BitVec 32 := Scalar.maxsi c0_i32_72 v136
  let v138 : BitVec 32 := Scalar.minsi c56_i32_73 v137
  let c64_i32_223 : BitVec 32 := 64#32
  let v356 : BitVec 32 := Scalar.muli v138 c64_i32_223
  v356
def k0_mult38 (k0_t1 : Fin k0_t1_loop.trips) : BitVec 32 :=
  let c56_i32_76 : BitVec 32 := 56#32
  let c0_i32_75 : BitVec 32 := 0#32
  let c0_i32 : BitVec 32 := 0#32
  let c1_i32 : BitVec 32 := 1#32
  let arg12 : BitVec 32 := Scf.iv c0_i32 c1_i32 k0_t1
  let c32_i32_32 : BitVec 32 := 32#32
  let v70 : BitVec 32 := Scalar.muli arg12 c32_i32_32
  let c5_i32 : BitVec 32 := 5#32
  let v71 : BitVec 32 := Scalar.addi v70 c5_i32
  let c4_i32_74 : BitVec 32 := 4#32
  let v139 : BitVec 32 := Scalar.subi v71 c4_i32_74
  let v140 : BitVec 32 := Scalar.maxsi c0_i32_75 v139
  let v141 : BitVec 32 := Scalar.minsi c56_i32_76 v140
  let c64_i32_224 : BitVec 32 := 64#32
  let v358 : BitVec 32 := Scalar.muli v141 c64_i32_224
  v358
def k0_mult39 (k0_t1 : Fin k0_t1_loop.trips) : BitVec 32 :=
  let c56_i32_79 : BitVec 32 := 56#32
  let c0_i32_78 : BitVec 32 := 0#32
  let c0_i32 : BitVec 32 := 0#32
  let c1_i32 : BitVec 32 := 1#32
  let arg12 : BitVec 32 := Scf.iv c0_i32 c1_i32 k0_t1
  let c32_i32_33 : BitVec 32 := 32#32
  let v72 : BitVec 32 := Scalar.muli arg12 c32_i32_33
  let c6_i32_34 : BitVec 32 := 6#32
  let v73 : BitVec 32 := Scalar.addi v72 c6_i32_34
  let c4_i32_77 : BitVec 32 := 4#32
  let v142 : BitVec 32 := Scalar.subi v73 c4_i32_77
  let v143 : BitVec 32 := Scalar.maxsi c0_i32_78 v142
  let v144 : BitVec 32 := Scalar.minsi c56_i32_79 v143
  let c64_i32_225 : BitVec 32 := 64#32
  let v360 : BitVec 32 := Scalar.muli v144 c64_i32_225
  v360
def k0_mult40 (k0_t1 : Fin k0_t1_loop.trips) : BitVec 32 :=
  let c56_i32_82 : BitVec 32 := 56#32
  let c0_i32_81 : BitVec 32 := 0#32
  let c0_i32 : BitVec 32 := 0#32
  let c1_i32 : BitVec 32 := 1#32
  let arg12 : BitVec 32 := Scf.iv c0_i32 c1_i32 k0_t1
  let c32_i32_35 : BitVec 32 := 32#32
  let v74 : BitVec 32 := Scalar.muli arg12 c32_i32_35
  let c7_i32 : BitVec 32 := 7#32
  let v75 : BitVec 32 := Scalar.addi v74 c7_i32
  let c4_i32_80 : BitVec 32 := 4#32
  let v145 : BitVec 32 := Scalar.subi v75 c4_i32_80
  let v146 : BitVec 32 := Scalar.maxsi c0_i32_81 v145
  let v147 : BitVec 32 := Scalar.minsi c56_i32_82 v146
  let c64_i32_226 : BitVec 32 := 64#32
  let v362 : BitVec 32 := Scalar.muli v147 c64_i32_226
  v362
def k0_mult41 (k0_t1 : Fin k0_t1_loop.trips) : BitVec 32 :=
  let c56_i32_85 : BitVec 32 := 56#32
  let c0_i32_84 : BitVec 32 := 0#32
  let c0_i32 : BitVec 32 := 0#32
  let c1_i32 : BitVec 32 := 1#32
  let arg12 : BitVec 32 := Scf.iv c0_i32 c1_i32 k0_t1
  let c32_i32_36 : BitVec 32 := 32#32
  let v76 : BitVec 32 := Scalar.muli arg12 c32_i32_36
  let c8_i32 : BitVec 32 := 8#32
  let v77 : BitVec 32 := Scalar.addi v76 c8_i32
  let c4_i32_83 : BitVec 32 := 4#32
  let v148 : BitVec 32 := Scalar.subi v77 c4_i32_83
  let v149 : BitVec 32 := Scalar.maxsi c0_i32_84 v148
  let v150 : BitVec 32 := Scalar.minsi c56_i32_85 v149
  let c64_i32_227 : BitVec 32 := 64#32
  let v364 : BitVec 32 := Scalar.muli v150 c64_i32_227
  v364
def k0_mult42 (k0_t1 : Fin k0_t1_loop.trips) : BitVec 32 :=
  let c56_i32_88 : BitVec 32 := 56#32
  let c0_i32_87 : BitVec 32 := 0#32
  let c0_i32 : BitVec 32 := 0#32
  let c1_i32 : BitVec 32 := 1#32
  let arg12 : BitVec 32 := Scf.iv c0_i32 c1_i32 k0_t1
  let c32_i32_37 : BitVec 32 := 32#32
  let v78 : BitVec 32 := Scalar.muli arg12 c32_i32_37
  let c9_i32 : BitVec 32 := 9#32
  let v79 : BitVec 32 := Scalar.addi v78 c9_i32
  let c4_i32_86 : BitVec 32 := 4#32
  let v151 : BitVec 32 := Scalar.subi v79 c4_i32_86
  let v152 : BitVec 32 := Scalar.maxsi c0_i32_87 v151
  let v153 : BitVec 32 := Scalar.minsi c56_i32_88 v152
  let c64_i32_228 : BitVec 32 := 64#32
  let v366 : BitVec 32 := Scalar.muli v153 c64_i32_228
  v366
def k0_mult43 (k0_t1 : Fin k0_t1_loop.trips) : BitVec 32 :=
  let c56_i32_91 : BitVec 32 := 56#32
  let c0_i32_90 : BitVec 32 := 0#32
  let c0_i32 : BitVec 32 := 0#32
  let c1_i32 : BitVec 32 := 1#32
  let arg12 : BitVec 32 := Scf.iv c0_i32 c1_i32 k0_t1
  let c32_i32_38 : BitVec 32 := 32#32
  let v80 : BitVec 32 := Scalar.muli arg12 c32_i32_38
  let c10_i32 : BitVec 32 := 10#32
  let v81 : BitVec 32 := Scalar.addi v80 c10_i32
  let c4_i32_89 : BitVec 32 := 4#32
  let v154 : BitVec 32 := Scalar.subi v81 c4_i32_89
  let v155 : BitVec 32 := Scalar.maxsi c0_i32_90 v154
  let v156 : BitVec 32 := Scalar.minsi c56_i32_91 v155
  let c64_i32_229 : BitVec 32 := 64#32
  let v368 : BitVec 32 := Scalar.muli v156 c64_i32_229
  v368
def k0_mult44 (k0_t1 : Fin k0_t1_loop.trips) : BitVec 32 :=
  let c56_i32_94 : BitVec 32 := 56#32
  let c0_i32_93 : BitVec 32 := 0#32
  let c0_i32 : BitVec 32 := 0#32
  let c1_i32 : BitVec 32 := 1#32
  let arg12 : BitVec 32 := Scf.iv c0_i32 c1_i32 k0_t1
  let c32_i32_39 : BitVec 32 := 32#32
  let v82 : BitVec 32 := Scalar.muli arg12 c32_i32_39
  let c11_i32 : BitVec 32 := 11#32
  let v83 : BitVec 32 := Scalar.addi v82 c11_i32
  let c4_i32_92 : BitVec 32 := 4#32
  let v157 : BitVec 32 := Scalar.subi v83 c4_i32_92
  let v158 : BitVec 32 := Scalar.maxsi c0_i32_93 v157
  let v159 : BitVec 32 := Scalar.minsi c56_i32_94 v158
  let c64_i32_230 : BitVec 32 := 64#32
  let v370 : BitVec 32 := Scalar.muli v159 c64_i32_230
  v370
def k0_mult45 (k0_t1 : Fin k0_t1_loop.trips) : BitVec 32 :=
  let c56_i32_97 : BitVec 32 := 56#32
  let c0_i32_96 : BitVec 32 := 0#32
  let c0_i32 : BitVec 32 := 0#32
  let c1_i32 : BitVec 32 := 1#32
  let arg12 : BitVec 32 := Scf.iv c0_i32 c1_i32 k0_t1
  let c32_i32_40 : BitVec 32 := 32#32
  let v84 : BitVec 32 := Scalar.muli arg12 c32_i32_40
  let c12_i32 : BitVec 32 := 12#32
  let v85 : BitVec 32 := Scalar.addi v84 c12_i32
  let c4_i32_95 : BitVec 32 := 4#32
  let v160 : BitVec 32 := Scalar.subi v85 c4_i32_95
  let v161 : BitVec 32 := Scalar.maxsi c0_i32_96 v160
  let v162 : BitVec 32 := Scalar.minsi c56_i32_97 v161
  let c64_i32_231 : BitVec 32 := 64#32
  let v372 : BitVec 32 := Scalar.muli v162 c64_i32_231
  v372
def k0_mult46 (k0_t1 : Fin k0_t1_loop.trips) : BitVec 32 :=
  let c56_i32_100 : BitVec 32 := 56#32
  let c0_i32_99 : BitVec 32 := 0#32
  let c0_i32 : BitVec 32 := 0#32
  let c1_i32 : BitVec 32 := 1#32
  let arg12 : BitVec 32 := Scf.iv c0_i32 c1_i32 k0_t1
  let c32_i32_41 : BitVec 32 := 32#32
  let v86 : BitVec 32 := Scalar.muli arg12 c32_i32_41
  let c13_i32 : BitVec 32 := 13#32
  let v87 : BitVec 32 := Scalar.addi v86 c13_i32
  let c4_i32_98 : BitVec 32 := 4#32
  let v163 : BitVec 32 := Scalar.subi v87 c4_i32_98
  let v164 : BitVec 32 := Scalar.maxsi c0_i32_99 v163
  let v165 : BitVec 32 := Scalar.minsi c56_i32_100 v164
  let c64_i32_232 : BitVec 32 := 64#32
  let v374 : BitVec 32 := Scalar.muli v165 c64_i32_232
  v374
def k0_mult47 (k0_t1 : Fin k0_t1_loop.trips) : BitVec 32 :=
  let c56_i32_103 : BitVec 32 := 56#32
  let c0_i32_102 : BitVec 32 := 0#32
  let c0_i32 : BitVec 32 := 0#32
  let c1_i32 : BitVec 32 := 1#32
  let arg12 : BitVec 32 := Scf.iv c0_i32 c1_i32 k0_t1
  let c32_i32_42 : BitVec 32 := 32#32
  let v88 : BitVec 32 := Scalar.muli arg12 c32_i32_42
  let c14_i32 : BitVec 32 := 14#32
  let v89 : BitVec 32 := Scalar.addi v88 c14_i32
  let c4_i32_101 : BitVec 32 := 4#32
  let v166 : BitVec 32 := Scalar.subi v89 c4_i32_101
  let v167 : BitVec 32 := Scalar.maxsi c0_i32_102 v166
  let v168 : BitVec 32 := Scalar.minsi c56_i32_103 v167
  let c64_i32_233 : BitVec 32 := 64#32
  let v376 : BitVec 32 := Scalar.muli v168 c64_i32_233
  v376
def k0_mult48 (k0_t1 : Fin k0_t1_loop.trips) : BitVec 32 :=
  let c56_i32_106 : BitVec 32 := 56#32
  let c0_i32_105 : BitVec 32 := 0#32
  let c0_i32 : BitVec 32 := 0#32
  let c1_i32 : BitVec 32 := 1#32
  let arg12 : BitVec 32 := Scf.iv c0_i32 c1_i32 k0_t1
  let c32_i32_43 : BitVec 32 := 32#32
  let v90 : BitVec 32 := Scalar.muli arg12 c32_i32_43
  let c15_i32 : BitVec 32 := 15#32
  let v91 : BitVec 32 := Scalar.addi v90 c15_i32
  let c4_i32_104 : BitVec 32 := 4#32
  let v169 : BitVec 32 := Scalar.subi v91 c4_i32_104
  let v170 : BitVec 32 := Scalar.maxsi c0_i32_105 v169
  let v171 : BitVec 32 := Scalar.minsi c56_i32_106 v170
  let c64_i32_234 : BitVec 32 := 64#32
  let v378 : BitVec 32 := Scalar.muli v171 c64_i32_234
  v378
def k0_mult49 (k0_t1 : Fin k0_t1_loop.trips) : BitVec 32 :=
  let c56_i32_109 : BitVec 32 := 56#32
  let c0_i32_108 : BitVec 32 := 0#32
  let c0_i32 : BitVec 32 := 0#32
  let c1_i32 : BitVec 32 := 1#32
  let arg12 : BitVec 32 := Scf.iv c0_i32 c1_i32 k0_t1
  let c32_i32_44 : BitVec 32 := 32#32
  let v92 : BitVec 32 := Scalar.muli arg12 c32_i32_44
  let c16_i32 : BitVec 32 := 16#32
  let v93 : BitVec 32 := Scalar.addi v92 c16_i32
  let c4_i32_107 : BitVec 32 := 4#32
  let v172 : BitVec 32 := Scalar.subi v93 c4_i32_107
  let v173 : BitVec 32 := Scalar.maxsi c0_i32_108 v172
  let v174 : BitVec 32 := Scalar.minsi c56_i32_109 v173
  let c64_i32_235 : BitVec 32 := 64#32
  let v380 : BitVec 32 := Scalar.muli v174 c64_i32_235
  v380
def k0_mult50 (k0_t1 : Fin k0_t1_loop.trips) : BitVec 32 :=
  let c56_i32_112 : BitVec 32 := 56#32
  let c0_i32_111 : BitVec 32 := 0#32
  let c0_i32 : BitVec 32 := 0#32
  let c1_i32 : BitVec 32 := 1#32
  let arg12 : BitVec 32 := Scf.iv c0_i32 c1_i32 k0_t1
  let c32_i32_45 : BitVec 32 := 32#32
  let v94 : BitVec 32 := Scalar.muli arg12 c32_i32_45
  let c17_i32 : BitVec 32 := 17#32
  let v95 : BitVec 32 := Scalar.addi v94 c17_i32
  let c4_i32_110 : BitVec 32 := 4#32
  let v175 : BitVec 32 := Scalar.subi v95 c4_i32_110
  let v176 : BitVec 32 := Scalar.maxsi c0_i32_111 v175
  let v177 : BitVec 32 := Scalar.minsi c56_i32_112 v176
  let c64_i32_236 : BitVec 32 := 64#32
  let v382 : BitVec 32 := Scalar.muli v177 c64_i32_236
  v382
def k0_mult51 (k0_t1 : Fin k0_t1_loop.trips) : BitVec 32 :=
  let c56_i32_115 : BitVec 32 := 56#32
  let c0_i32_114 : BitVec 32 := 0#32
  let c0_i32 : BitVec 32 := 0#32
  let c1_i32 : BitVec 32 := 1#32
  let arg12 : BitVec 32 := Scf.iv c0_i32 c1_i32 k0_t1
  let c32_i32_46 : BitVec 32 := 32#32
  let v96 : BitVec 32 := Scalar.muli arg12 c32_i32_46
  let c18_i32 : BitVec 32 := 18#32
  let v97 : BitVec 32 := Scalar.addi v96 c18_i32
  let c4_i32_113 : BitVec 32 := 4#32
  let v178 : BitVec 32 := Scalar.subi v97 c4_i32_113
  let v179 : BitVec 32 := Scalar.maxsi c0_i32_114 v178
  let v180 : BitVec 32 := Scalar.minsi c56_i32_115 v179
  let c64_i32_237 : BitVec 32 := 64#32
  let v384 : BitVec 32 := Scalar.muli v180 c64_i32_237
  v384
def k0_mult52 (k0_t1 : Fin k0_t1_loop.trips) : BitVec 32 :=
  let c56_i32_118 : BitVec 32 := 56#32
  let c0_i32_117 : BitVec 32 := 0#32
  let c0_i32 : BitVec 32 := 0#32
  let c1_i32 : BitVec 32 := 1#32
  let arg12 : BitVec 32 := Scf.iv c0_i32 c1_i32 k0_t1
  let c32_i32_47 : BitVec 32 := 32#32
  let v98 : BitVec 32 := Scalar.muli arg12 c32_i32_47
  let c19_i32 : BitVec 32 := 19#32
  let v99 : BitVec 32 := Scalar.addi v98 c19_i32
  let c4_i32_116 : BitVec 32 := 4#32
  let v181 : BitVec 32 := Scalar.subi v99 c4_i32_116
  let v182 : BitVec 32 := Scalar.maxsi c0_i32_117 v181
  let v183 : BitVec 32 := Scalar.minsi c56_i32_118 v182
  let c64_i32_238 : BitVec 32 := 64#32
  let v386 : BitVec 32 := Scalar.muli v183 c64_i32_238
  v386
def k0_mult53 (k0_t1 : Fin k0_t1_loop.trips) : BitVec 32 :=
  let c56_i32_121 : BitVec 32 := 56#32
  let c0_i32_120 : BitVec 32 := 0#32
  let c0_i32 : BitVec 32 := 0#32
  let c1_i32 : BitVec 32 := 1#32
  let arg12 : BitVec 32 := Scf.iv c0_i32 c1_i32 k0_t1
  let c32_i32_48 : BitVec 32 := 32#32
  let v100 : BitVec 32 := Scalar.muli arg12 c32_i32_48
  let c20_i32 : BitVec 32 := 20#32
  let v101 : BitVec 32 := Scalar.addi v100 c20_i32
  let c4_i32_119 : BitVec 32 := 4#32
  let v184 : BitVec 32 := Scalar.subi v101 c4_i32_119
  let v185 : BitVec 32 := Scalar.maxsi c0_i32_120 v184
  let v186 : BitVec 32 := Scalar.minsi c56_i32_121 v185
  let c64_i32_239 : BitVec 32 := 64#32
  let v388 : BitVec 32 := Scalar.muli v186 c64_i32_239
  v388
def k0_mult54 (k0_t1 : Fin k0_t1_loop.trips) : BitVec 32 :=
  let c56_i32_124 : BitVec 32 := 56#32
  let c0_i32_123 : BitVec 32 := 0#32
  let c0_i32 : BitVec 32 := 0#32
  let c1_i32 : BitVec 32 := 1#32
  let arg12 : BitVec 32 := Scf.iv c0_i32 c1_i32 k0_t1
  let c32_i32_49 : BitVec 32 := 32#32
  let v102 : BitVec 32 := Scalar.muli arg12 c32_i32_49
  let c21_i32 : BitVec 32 := 21#32
  let v103 : BitVec 32 := Scalar.addi v102 c21_i32
  let c4_i32_122 : BitVec 32 := 4#32
  let v187 : BitVec 32 := Scalar.subi v103 c4_i32_122
  let v188 : BitVec 32 := Scalar.maxsi c0_i32_123 v187
  let v189 : BitVec 32 := Scalar.minsi c56_i32_124 v188
  let c64_i32_240 : BitVec 32 := 64#32
  let v390 : BitVec 32 := Scalar.muli v189 c64_i32_240
  v390
def k0_mult55 (k0_t1 : Fin k0_t1_loop.trips) : BitVec 32 :=
  let c56_i32_127 : BitVec 32 := 56#32
  let c0_i32_126 : BitVec 32 := 0#32
  let c0_i32 : BitVec 32 := 0#32
  let c1_i32 : BitVec 32 := 1#32
  let arg12 : BitVec 32 := Scf.iv c0_i32 c1_i32 k0_t1
  let c32_i32_50 : BitVec 32 := 32#32
  let v104 : BitVec 32 := Scalar.muli arg12 c32_i32_50
  let c22_i32 : BitVec 32 := 22#32
  let v105 : BitVec 32 := Scalar.addi v104 c22_i32
  let c4_i32_125 : BitVec 32 := 4#32
  let v190 : BitVec 32 := Scalar.subi v105 c4_i32_125
  let v191 : BitVec 32 := Scalar.maxsi c0_i32_126 v190
  let v192 : BitVec 32 := Scalar.minsi c56_i32_127 v191
  let c64_i32_241 : BitVec 32 := 64#32
  let v392 : BitVec 32 := Scalar.muli v192 c64_i32_241
  v392
def k0_mult56 (k0_t1 : Fin k0_t1_loop.trips) : BitVec 32 :=
  let c56_i32_130 : BitVec 32 := 56#32
  let c0_i32_129 : BitVec 32 := 0#32
  let c0_i32 : BitVec 32 := 0#32
  let c1_i32 : BitVec 32 := 1#32
  let arg12 : BitVec 32 := Scf.iv c0_i32 c1_i32 k0_t1
  let c32_i32_51 : BitVec 32 := 32#32
  let v106 : BitVec 32 := Scalar.muli arg12 c32_i32_51
  let c23_i32 : BitVec 32 := 23#32
  let v107 : BitVec 32 := Scalar.addi v106 c23_i32
  let c4_i32_128 : BitVec 32 := 4#32
  let v193 : BitVec 32 := Scalar.subi v107 c4_i32_128
  let v194 : BitVec 32 := Scalar.maxsi c0_i32_129 v193
  let v195 : BitVec 32 := Scalar.minsi c56_i32_130 v194
  let c64_i32_242 : BitVec 32 := 64#32
  let v394 : BitVec 32 := Scalar.muli v195 c64_i32_242
  v394
def k0_mult57 (k0_t1 : Fin k0_t1_loop.trips) : BitVec 32 :=
  let c56_i32_133 : BitVec 32 := 56#32
  let c0_i32_132 : BitVec 32 := 0#32
  let c0_i32 : BitVec 32 := 0#32
  let c1_i32 : BitVec 32 := 1#32
  let arg12 : BitVec 32 := Scf.iv c0_i32 c1_i32 k0_t1
  let c32_i32_52 : BitVec 32 := 32#32
  let v108 : BitVec 32 := Scalar.muli arg12 c32_i32_52
  let c24_i32 : BitVec 32 := 24#32
  let v109 : BitVec 32 := Scalar.addi v108 c24_i32
  let c4_i32_131 : BitVec 32 := 4#32
  let v196 : BitVec 32 := Scalar.subi v109 c4_i32_131
  let v197 : BitVec 32 := Scalar.maxsi c0_i32_132 v196
  let v198 : BitVec 32 := Scalar.minsi c56_i32_133 v197
  let c64_i32_243 : BitVec 32 := 64#32
  let v396 : BitVec 32 := Scalar.muli v198 c64_i32_243
  v396
def k0_mult58 (k0_t1 : Fin k0_t1_loop.trips) : BitVec 32 :=
  let c56_i32_136 : BitVec 32 := 56#32
  let c0_i32_135 : BitVec 32 := 0#32
  let c0_i32 : BitVec 32 := 0#32
  let c1_i32 : BitVec 32 := 1#32
  let arg12 : BitVec 32 := Scf.iv c0_i32 c1_i32 k0_t1
  let c32_i32_53 : BitVec 32 := 32#32
  let v110 : BitVec 32 := Scalar.muli arg12 c32_i32_53
  let c25_i32 : BitVec 32 := 25#32
  let v111 : BitVec 32 := Scalar.addi v110 c25_i32
  let c4_i32_134 : BitVec 32 := 4#32
  let v199 : BitVec 32 := Scalar.subi v111 c4_i32_134
  let v200 : BitVec 32 := Scalar.maxsi c0_i32_135 v199
  let v201 : BitVec 32 := Scalar.minsi c56_i32_136 v200
  let c64_i32_244 : BitVec 32 := 64#32
  let v398 : BitVec 32 := Scalar.muli v201 c64_i32_244
  v398
def k0_mult59 (k0_t1 : Fin k0_t1_loop.trips) : BitVec 32 :=
  let c56_i32_139 : BitVec 32 := 56#32
  let c0_i32_138 : BitVec 32 := 0#32
  let c0_i32 : BitVec 32 := 0#32
  let c1_i32 : BitVec 32 := 1#32
  let arg12 : BitVec 32 := Scf.iv c0_i32 c1_i32 k0_t1
  let c32_i32_54 : BitVec 32 := 32#32
  let v112 : BitVec 32 := Scalar.muli arg12 c32_i32_54
  let c26_i32 : BitVec 32 := 26#32
  let v113 : BitVec 32 := Scalar.addi v112 c26_i32
  let c4_i32_137 : BitVec 32 := 4#32
  let v202 : BitVec 32 := Scalar.subi v113 c4_i32_137
  let v203 : BitVec 32 := Scalar.maxsi c0_i32_138 v202
  let v204 : BitVec 32 := Scalar.minsi c56_i32_139 v203
  let c64_i32_245 : BitVec 32 := 64#32
  let v400 : BitVec 32 := Scalar.muli v204 c64_i32_245
  v400
def k0_mult60 (k0_t1 : Fin k0_t1_loop.trips) : BitVec 32 :=
  let c56_i32_142 : BitVec 32 := 56#32
  let c0_i32_141 : BitVec 32 := 0#32
  let c0_i32 : BitVec 32 := 0#32
  let c1_i32 : BitVec 32 := 1#32
  let arg12 : BitVec 32 := Scf.iv c0_i32 c1_i32 k0_t1
  let c32_i32_55 : BitVec 32 := 32#32
  let v114 : BitVec 32 := Scalar.muli arg12 c32_i32_55
  let c27_i32 : BitVec 32 := 27#32
  let v115 : BitVec 32 := Scalar.addi v114 c27_i32
  let c4_i32_140 : BitVec 32 := 4#32
  let v205 : BitVec 32 := Scalar.subi v115 c4_i32_140
  let v206 : BitVec 32 := Scalar.maxsi c0_i32_141 v205
  let v207 : BitVec 32 := Scalar.minsi c56_i32_142 v206
  let c64_i32_246 : BitVec 32 := 64#32
  let v402 : BitVec 32 := Scalar.muli v207 c64_i32_246
  v402
def k0_mult61 (k0_t1 : Fin k0_t1_loop.trips) : BitVec 32 :=
  let c56_i32_145 : BitVec 32 := 56#32
  let c0_i32_144 : BitVec 32 := 0#32
  let c0_i32 : BitVec 32 := 0#32
  let c1_i32 : BitVec 32 := 1#32
  let arg12 : BitVec 32 := Scf.iv c0_i32 c1_i32 k0_t1
  let c32_i32_56 : BitVec 32 := 32#32
  let v116 : BitVec 32 := Scalar.muli arg12 c32_i32_56
  let c28_i32 : BitVec 32 := 28#32
  let v117 : BitVec 32 := Scalar.addi v116 c28_i32
  let c4_i32_143 : BitVec 32 := 4#32
  let v208 : BitVec 32 := Scalar.subi v117 c4_i32_143
  let v209 : BitVec 32 := Scalar.maxsi c0_i32_144 v208
  let v210 : BitVec 32 := Scalar.minsi c56_i32_145 v209
  let c64_i32_247 : BitVec 32 := 64#32
  let v404 : BitVec 32 := Scalar.muli v210 c64_i32_247
  v404
def k0_mult62 (k0_t1 : Fin k0_t1_loop.trips) : BitVec 32 :=
  let c56_i32_148 : BitVec 32 := 56#32
  let c0_i32_147 : BitVec 32 := 0#32
  let c0_i32 : BitVec 32 := 0#32
  let c1_i32 : BitVec 32 := 1#32
  let arg12 : BitVec 32 := Scf.iv c0_i32 c1_i32 k0_t1
  let c32_i32_57 : BitVec 32 := 32#32
  let v118 : BitVec 32 := Scalar.muli arg12 c32_i32_57
  let c29_i32 : BitVec 32 := 29#32
  let v119 : BitVec 32 := Scalar.addi v118 c29_i32
  let c4_i32_146 : BitVec 32 := 4#32
  let v211 : BitVec 32 := Scalar.subi v119 c4_i32_146
  let v212 : BitVec 32 := Scalar.maxsi c0_i32_147 v211
  let v213 : BitVec 32 := Scalar.minsi c56_i32_148 v212
  let c64_i32_248 : BitVec 32 := 64#32
  let v406 : BitVec 32 := Scalar.muli v213 c64_i32_248
  v406
def k0_mult63 (k0_t1 : Fin k0_t1_loop.trips) : BitVec 32 :=
  let c56_i32_151 : BitVec 32 := 56#32
  let c0_i32_150 : BitVec 32 := 0#32
  let c0_i32 : BitVec 32 := 0#32
  let c1_i32 : BitVec 32 := 1#32
  let arg12 : BitVec 32 := Scf.iv c0_i32 c1_i32 k0_t1
  let c32_i32_58 : BitVec 32 := 32#32
  let v120 : BitVec 32 := Scalar.muli arg12 c32_i32_58
  let c30_i32 : BitVec 32 := 30#32
  let v121 : BitVec 32 := Scalar.addi v120 c30_i32
  let c4_i32_149 : BitVec 32 := 4#32
  let v214 : BitVec 32 := Scalar.subi v121 c4_i32_149
  let v215 : BitVec 32 := Scalar.maxsi c0_i32_150 v214
  let v216 : BitVec 32 := Scalar.minsi c56_i32_151 v215
  let c64_i32_249 : BitVec 32 := 64#32
  let v408 : BitVec 32 := Scalar.muli v216 c64_i32_249
  v408
def k0_mult64 (k0_t1 : Fin k0_t1_loop.trips) : BitVec 32 :=
  let c56_i32_154 : BitVec 32 := 56#32
  let c0_i32_153 : BitVec 32 := 0#32
  let c0_i32 : BitVec 32 := 0#32
  let c1_i32 : BitVec 32 := 1#32
  let arg12 : BitVec 32 := Scf.iv c0_i32 c1_i32 k0_t1
  let c32_i32_59 : BitVec 32 := 32#32
  let v122 : BitVec 32 := Scalar.muli arg12 c32_i32_59
  let c31_i32 : BitVec 32 := 31#32
  let v123 : BitVec 32 := Scalar.addi v122 c31_i32
  let c4_i32_152 : BitVec 32 := 4#32
  let v217 : BitVec 32 := Scalar.subi v123 c4_i32_152
  let v218 : BitVec 32 := Scalar.maxsi c0_i32_153 v217
  let v219 : BitVec 32 := Scalar.minsi c56_i32_154 v218
  let c64_i32_250 : BitVec 32 := 64#32
  let v410 : BitVec 32 := Scalar.muli v219 c64_i32_250
  v410
def k0_off1 (k0_t1 : Fin k0_t1_loop.trips) (c0_i32_25 : BitVec 32) : Fin 2 → Nat :=
  let c0_i32 : BitVec 32 := 0#32
  let c1_i32 : BitVec 32 := 1#32
  let arg12 : BitVec 32 := Scf.iv c0_i32 c1_i32 k0_t1
  let c32_i32 : BitVec 32 := 32#32
  let v60 : BitVec 32 := Scalar.muli arg12 c32_i32
  let v61 : BitVec 32 := Scalar.addi v60 c0_i32_25
  let c64_i32_187 : BitVec 32 := 64#32
  let v284 : BitVec 32 := Scalar.muli v61 c64_i32_187
  let v285 : BitVec 32 := v284
  let v412 : Index := Scalar.indexCast v285
  let c0_251 : Index := 0#32
  ![v412.toNat, 0]
def k0_off2 (k0_t1 : Fin k0_t1_loop.trips) (c0_i32_25 : BitVec 32) : Fin 2 → Nat :=
  let c56_i32 : BitVec 32 := 56#32
  let c0_i32_61 : BitVec 32 := 0#32
  let c0_i32 : BitVec 32 := 0#32
  let c1_i32 : BitVec 32 := 1#32
  let arg12 : BitVec 32 := Scf.iv c0_i32 c1_i32 k0_t1
  let c32_i32 : BitVec 32 := 32#32
  let v60 : BitVec 32 := Scalar.muli arg12 c32_i32
  let v61 : BitVec 32 := Scalar.addi v60 c0_i32_25
  let c4_i32_60 : BitVec 32 := 4#32
  let v124 : BitVec 32 := Scalar.subi v61 c4_i32_60
  let v125 : BitVec 32 := Scalar.maxsi c0_i32_61 v124
  let v126 : BitVec 32 := Scalar.minsi c56_i32 v125
  let c64_i32_219 : BitVec 32 := 64#32
  let v348 : BitVec 32 := Scalar.muli v126 c64_i32_219
  let v349 : BitVec 32 := v348
  let v701 : Index := Scalar.indexCast v349
  let c0_284 : Index := 0#32
  ![v701.toNat, 0]
def k0_off3 (k0_t1 : Fin k0_t1_loop.trips) (c0_i32_25 : BitVec 32) : Fin 4 → Nat :=
  let c0_348 : Index := 0#32
  let c56_i32 : BitVec 32 := 56#32
  let c0_i32_61 : BitVec 32 := 0#32
  let c0_i32 : BitVec 32 := 0#32
  let c1_i32 : BitVec 32 := 1#32
  let arg12 : BitVec 32 := Scf.iv c0_i32 c1_i32 k0_t1
  let c32_i32 : BitVec 32 := 32#32
  let v60 : BitVec 32 := Scalar.muli arg12 c32_i32
  let v61 : BitVec 32 := Scalar.addi v60 c0_i32_25
  let c4_i32_60 : BitVec 32 := 4#32
  let v124 : BitVec 32 := Scalar.subi v61 c4_i32_60
  let v125 : BitVec 32 := Scalar.maxsi c0_i32_61 v124
  let v126 : BitVec 32 := Scalar.minsi c56_i32 v125
  let v220 : BitVec 32 := Scalar.subi v126 v61
  let c7_i32_155 : BitVec 32 := 7#32
  let v221 : BitVec 32 := Scalar.addi v220 c7_i32_155
  let v797 : Index := Scalar.indexCast v221
  let c0_349 : Index := 0#32
  let c0_350 : Index := 0#32
  ![0, v797.toNat, 0, 0]
def k0_off4 (k0_t1 : Fin k0_t1_loop.trips) (c0_i32_25 : BitVec 32) : Fin 4 → Nat :=
  let c1 : Index := 1#32
  let c56_i32 : BitVec 32 := 56#32
  let c0_i32_61 : BitVec 32 := 0#32
  let c0_i32 : BitVec 32 := 0#32
  let c1_i32 : BitVec 32 := 1#32
  let arg12 : BitVec 32 := Scf.iv c0_i32 c1_i32 k0_t1
  let c32_i32 : BitVec 32 := 32#32
  let v60 : BitVec 32 := Scalar.muli arg12 c32_i32
  let v61 : BitVec 32 := Scalar.addi v60 c0_i32_25
  let c4_i32_60 : BitVec 32 := 4#32
  let v124 : BitVec 32 := Scalar.subi v61 c4_i32_60
  let v125 : BitVec 32 := Scalar.maxsi c0_i32_61 v124
  let v126 : BitVec 32 := Scalar.minsi c56_i32 v125
  let v220 : BitVec 32 := Scalar.subi v126 v61
  let c7_i32_155 : BitVec 32 := 7#32
  let v221 : BitVec 32 := Scalar.addi v220 c7_i32_155
  let v800 : Index := Scalar.indexCast v221
  let c0_351 : Index := 0#32
  let c0_352 : Index := 0#32
  ![1, v800.toNat, 0, 0]
def k0_off5 (k0_t1 : Fin k0_t1_loop.trips) (c0_i32_25 : BitVec 32) : Fin 3 → Nat :=
  let c0_571 : Index := 0#32
  let c56_i32 : BitVec 32 := 56#32
  let c0_i32_61 : BitVec 32 := 0#32
  let c0_i32 : BitVec 32 := 0#32
  let c1_i32 : BitVec 32 := 1#32
  let arg12 : BitVec 32 := Scf.iv c0_i32 c1_i32 k0_t1
  let c32_i32 : BitVec 32 := 32#32
  let v60 : BitVec 32 := Scalar.muli arg12 c32_i32
  let v61 : BitVec 32 := Scalar.addi v60 c0_i32_25
  let c4_i32_60 : BitVec 32 := 4#32
  let v124 : BitVec 32 := Scalar.subi v61 c4_i32_60
  let v125 : BitVec 32 := Scalar.maxsi c0_i32_61 v124
  let v126 : BitVec 32 := Scalar.minsi c56_i32 v125
  let c64_i32_219 : BitVec 32 := 64#32
  let v348 : BitVec 32 := Scalar.muli v126 c64_i32_219
  let v349 : BitVec 32 := v348
  let v1277 : Index := Scalar.indexCast v349
  let c0_572 : Index := 0#32
  ![0, v1277.toNat, 0]
def k0_off6 (k0_t1 : Fin k0_t1_loop.trips) (c0_i32_25 : BitVec 32) : Fin 3 → Nat :=
  let c0_667 : Index := 0#32
  let c0_i32 : BitVec 32 := 0#32
  let c1_i32 : BitVec 32 := 1#32
  let arg12 : BitVec 32 := Scf.iv c0_i32 c1_i32 k0_t1
  let c32_i32 : BitVec 32 := 32#32
  let v60 : BitVec 32 := Scalar.muli arg12 c32_i32
  let v61 : BitVec 32 := Scalar.addi v60 c0_i32_25
  let c64_i32_187 : BitVec 32 := 64#32
  let v284 : BitVec 32 := Scalar.muli v61 c64_i32_187
  let v285 : BitVec 32 := v284
  let v1440 : Index := Scalar.indexCast v285
  let c0_668 : Index := 0#32
  ![0, v1440.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x8x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x4096x4096 : Shape := ⟨3, ![4, 4096, 4096]⟩
abbrev S64 : Shape := ⟨1, ![64]⟩
abbrev S16x15x31 : Shape := ⟨3, ![16, 15, 31]⟩
abbrev S4x4096x1024 : Shape := ⟨3, ![4, 4096, 1024]⟩
abbrev S4x4096x16x64 : Shape := ⟨4, ![4, 4096, 16, 64]⟩
abbrev S_ : Shape := ⟨0, ![]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x1x8x1 : Shape := ⟨4, ![64, 1, 8, 1]⟩
abbrev S64x64x8x16 : Shape := ⟨4, ![64, 64, 8, 16]⟩
abbrev S4096x128 : Shape := ⟨2, ![4096, 128]⟩
abbrev S1x64x1x16 : Shape := ⟨4, ![1, 64, 1, 16]⟩
abbrev S4096x128x1 : Shape := ⟨3, ![4096, 128, 1]⟩
abbrev S4x4096x128x16x64 : Shape := ⟨5, ![4, 4096, 128, 16, 64]⟩
abbrev S4x4096x16x128 : Shape := ⟨4, ![4, 4096, 16, 128]⟩
abbrev S4096x128x2 : Shape := ⟨3, ![4096, 128, 2]⟩
abbrev S16x4096x128 : Shape := ⟨3, ![16, 4096, 128]⟩
abbrev S4096x16x128 : Shape := ⟨3, ![4096, 16, 128]⟩
abbrev S1x4096x16x128 : Shape := ⟨4, ![1, 4096, 16, 128]⟩

abbrev nBuf : Space → Nat
  | .hbm => 177
  | .vmem => 0
  | .smem => 0
  | _ => 0

abbrev hbmTy0_0 (i : Nat) : BufTy := match i % 128 with
  | 0 => ⟨S4x4096x4096, .bf16⟩
  | 1 => ⟨S64, .f32⟩
  | 2 => ⟨S64, .f32⟩
  | 3 => ⟨S16x15x31, .f32⟩
  | 4 => ⟨S4x4096x4096, .f32⟩
  | 5 => ⟨S4x4096x1024, .f32⟩
  | 6 => ⟨S4x4096x1024, .f32⟩
  | 7 => ⟨S4x4096x1024, .f32⟩
  | 8 => ⟨S4x4096x1024, .f32⟩
  | 9 => ⟨S4x4096x16x64, .f32⟩
  | 10 => ⟨S4x4096x16x64, .f32⟩
  | 11 => ⟨S_, .f32⟩
  | 12 => ⟨S4x4096x16, .f32⟩
  | 13 => ⟨S4x4096x16x1, .f32⟩
  | 14 => ⟨S_, .f32⟩
  | 15 => ⟨S4x4096x16x1, .f32⟩
  | 16 => ⟨S4x4096x16x1, .f32⟩
  | 17 => ⟨S_, .f32⟩
  | 18 => ⟨S4x4096x16x1, .f32⟩
  | 19 => ⟨S4x4096x16x1, .f32⟩
  | 20 => ⟨S4x4096x16x1, .f32⟩
  | 21 => ⟨S4x4096x16x64, .f32⟩
  | 22 => ⟨S4x4096x16x64, .f32⟩
  | 23 => ⟨S1x1x1x64, .f32⟩
  | 24 => ⟨S4x4096x16x64, .f32⟩
  | 25 => ⟨S4x4096x16x64, .f32⟩
  | 26 => ⟨S4x4096x16x64, .f32⟩
  | 27 => ⟨S4x4096x16x64, .f32⟩
  | 28 => ⟨S_, .f32⟩
  | 29 => ⟨S4x4096x16, .f32⟩
  | 30 => ⟨S4x4096x16x1, .f32⟩
  | 31 => ⟨S_, .f32⟩
  | 32 => ⟨S4x4096x16x1, .f32⟩
  | 33 => ⟨S4x4096x16x1, .f32⟩
  | 34 => ⟨S_, .f32⟩
  | 35 => ⟨S4x4096x16x1, .f32⟩
  | 36 => ⟨S4x4096x16x1, .f32⟩
  | 37 => ⟨S4x4096x16x1, .f32⟩
  | 38 => ⟨S4x4096x16x64, .f32⟩
  | 39 => ⟨S4x4096x16x64, .f32⟩
  | 40 => ⟨S1x1x1x64, .f32⟩
  | 41 => ⟨S4x4096x16x64, .f32⟩
  | 42 => ⟨S4x4096x16x64, .f32⟩
  | 43 => ⟨S4x4096x16x64, .f32⟩
  | 44 => ⟨S64, .i32⟩
  | 45 => ⟨S64x1, .i32⟩
  | 46 => ⟨S_, .i32⟩
  | 47 => ⟨S64x1, .i32⟩
  | 48 => ⟨S64x1, .i32⟩
  | 49 => ⟨S_, .i32⟩
  | 50 => ⟨S_, .i32⟩
  | 51 => ⟨S_, .i32⟩
  | 52 => ⟨S64x1, .i32⟩
  | 53 => ⟨S64x1, .i32⟩
  | 54 => ⟨S_, .i32⟩
  | 55 => ⟨S64x1, .i32⟩
  | 56 => ⟨S64x1, .i32⟩
  | 57 => ⟨S8, .i32⟩
  | 58 => ⟨S1x8, .i32⟩
  | 59 => ⟨S64x8, .i32⟩
  | 60 => ⟨S64x8, .i32⟩
  | 61 => ⟨S64x8, .i32⟩
  | 62 => ⟨S64, .i32⟩
  | 63 => ⟨S64x1, .i32⟩
  | 64 => ⟨S_, .i32⟩
  | 65 => ⟨S64x1, .i32⟩
  | 66 => ⟨S64x1, .i32⟩
  | 67 => ⟨S_, .i32⟩
  | 68 => ⟨S_, .i32⟩
  | 69 => ⟨S_, .i32⟩
  | 70 => ⟨S64x1, .i32⟩
  | 71 => ⟨S64x1, .i32⟩
  | 72 => ⟨S_, .i32⟩
  | 73 => ⟨S64x1, .i32⟩
  | 74 => ⟨S64x1, .i32⟩
  | 75 => ⟨S16, .i32⟩
  | 76 => ⟨S1x16, .i32⟩
  | 77 => ⟨S64x16, .i32⟩
  | 78 => ⟨S64x16, .i32⟩
  | 79 => ⟨S64x16, .i32⟩
  | 80 => ⟨S64x8, .i32⟩
  | 81 => ⟨S64x8, .i32⟩
  | 82 => ⟨S_, .i32⟩
  | 83 => ⟨S64x8, .i32⟩
  | 84 => ⟨S64x8, .i32⟩
  | 85 => ⟨S64x16, .i32⟩
  | 86 => ⟨S64x16, .i32⟩
  | 87 => ⟨S_, .i32⟩
  | 88 => ⟨S64x16, .i32⟩
  | 89 => ⟨S64x16, .i32⟩
  | 90 => ⟨S64x1x8x1, .i32⟩
  | 91 => ⟨S64x64x8x16, .i32⟩
  | 92 => ⟨S4096x128, .i32⟩
  | 93 => ⟨S_, .i32⟩
  | 94 => ⟨S4096x128, .i32⟩
  | 95 => ⟨S4096x128, .i32⟩
  | 96 => ⟨S1x64x1x16, .i32⟩
  | 97 => ⟨S64x64x8x16, .i32⟩
  | 98 => ⟨S4096x128, .i32⟩
  | 99 => ⟨S4096x128, .i32⟩
  | 100 => ⟨S64x1x8x1, .i32⟩
  | 101 => ⟨S64x64x8x16, .i32⟩
  | 102 => ⟨S4096x128, .i32⟩
  | 103 => ⟨S1x64x1x16, .i32⟩
  | 104 => ⟨S64x64x8x16, .i32⟩
  | 105 => ⟨S4096x128, .i32⟩
  | 106 => ⟨S_, .i32⟩
  | 107 => ⟨S4096x128, .i32⟩
  | 108 => ⟨S4096x128, .i1⟩
  | 109 => ⟨S_, .i32⟩
  | 110 => ⟨S4096x128, .i32⟩
  | 111 => ⟨S4096x128, .i32⟩
  | 112 => ⟨S4096x128, .i32⟩
  | 113 => ⟨S4096x128x1, .i32⟩
  | 114 => ⟨S4x4096x128x16x64, .f32⟩
  | 115 => ⟨S4x4096x16x128, .f32⟩
  | 116 => ⟨S_, .f32⟩
  | 117 => ⟨S4x4096x16x128, .f32⟩
  | 118 => ⟨S4x4096x16x128, .f32⟩
  | 119 => ⟨S_, .i32⟩
  | 120 => ⟨S4096x128, .i32⟩
  | 121 => ⟨S4096x128, .i1⟩
  | 122 => ⟨S_, .i32⟩
  | 123 => ⟨S4096x128, .i32⟩
  | 124 => ⟨S4096x128, .i32⟩
  | 125 => ⟨S4096x128, .i32⟩
  | 126 => ⟨S_, .i32⟩
  | 127 => ⟨S4096x128, .i32⟩
  | _ => ⟨S4x4096x4096, .bf16⟩

abbrev hbmTy0_1 (i : Nat) : BufTy := match i % 128 with
  | 0 => ⟨S4096x128, .i1⟩
  | 1 => ⟨S_, .i32⟩
  | 2 => ⟨S4096x128, .i32⟩
  | 3 => ⟨S4096x128, .i32⟩
  | 4 => ⟨S4096x128, .i32⟩
  | 5 => ⟨S4096x128x1, .i32⟩
  | 6 => ⟨S4096x128x1, .i32⟩
  | 7 => ⟨S4096x128x2, .i32⟩
  | 8 => ⟨S16x4096x128, .f32⟩
  | 9 => ⟨S4096x16x128, .f32⟩
  | 10 => ⟨S1x4096x16x128, .f32⟩
  | 11 => ⟨S4x4096x16x128, .f32⟩
  | 12 => ⟨S4x4096x16x128, .f32⟩
  | 13 => ⟨S_, .f32⟩
  | 14 => ⟨S4x4096x16, .f32⟩
  | 15 => ⟨S_, .f32⟩
  | 16 => ⟨S4x4096x16, .f32⟩
  | 17 => ⟨S4x4096x16, .f32⟩
  | 18 => ⟨S4x4096x16x1, .f32⟩
  | 19 => ⟨S4x4096x16x128, .f32⟩
  | 20 => ⟨S4x4096x16x128, .f32⟩
  | 21 => ⟨S4x4096x16x128, .f32⟩
  | 22 => ⟨S_, .f32⟩
  | 23 => ⟨S4x4096x16, .f32⟩
  | 24 => ⟨S4x4096x16x1, .f32⟩
  | 25 => ⟨S4x4096x16x128, .f32⟩
  | 26 => ⟨S4x4096x16x128, .f32⟩
  | 27 => ⟨S_, .i32⟩
  | 28 => ⟨S4096x128, .i32⟩
  | 29 => ⟨S4096x128, .i1⟩
  | 30 => ⟨S_, .i32⟩
  | 31 => ⟨S4096x128, .i32⟩
  | 32 => ⟨S4096x128, .i32⟩
  | 33 => ⟨S4096x128, .i32⟩
  | 34 => ⟨S4096x128x1, .i32⟩
  | 35 => ⟨S4x4096x128x16x64, .f32⟩
  | 36 => ⟨S4x4096x16x64, .f32⟩
  | 37 => ⟨S4x4096x1024, .f32⟩
  | 38 => ⟨S4x4096x1024, .f32⟩
  | 39 => ⟨S4x4096x1024, .f32⟩
  | 40 => ⟨S_, .f32⟩
  | 41 => ⟨S4x4096x1024, .f32⟩
  | 42 => ⟨S4x4096x1024, .f32⟩
  | 43 => ⟨S_, .f32⟩
  | 44 => ⟨S4x4096x1024, .f32⟩
  | 45 => ⟨S4x4096x1024, .f32⟩
  | 46 => ⟨S4x4096x1024, .f32⟩
  | 47 => ⟨S4x4096x1024, .f32⟩
  | 48 => ⟨S4x4096x1024, .bf16⟩
  | _ => ⟨S4x4096x4096, .bf16⟩

abbrev hbmTy (i : Nat) : BufTy := match i / 128 with
  | 0 => hbmTy0_0 i
  | 1 => hbmTy0_1 i
  | _ => ⟨S4x4096x4096, .bf16⟩

abbrev bufTy : (tb : Table) → Fin (tcTables nBuf tb) → BufTy
  | .hbm, ⟨i, _⟩ => hbmTy i
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_c_6 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_c_9 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_13 : Ref sig .tc := ⟨.hbm, 106, rfl⟩
abbrev main_v77 : Ref sig .tc := ⟨.hbm, 107, rfl⟩
abbrev main_v78 : Ref sig .tc := ⟨.hbm, 108, rfl⟩
abbrev main_c_14 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_15 : Ref sig .tc := ⟨.hbm, 116, rfl⟩
abbrev main_v85 : Ref sig .tc := ⟨.hbm, 117, rfl⟩
abbrev main_v86 : Ref sig .tc := ⟨.hbm, 118, rfl⟩
abbrev main_c_16 : Ref sig .tc := ⟨.hbm, 119, rfl⟩
abbrev main_v87 : Ref sig .tc := ⟨.hbm, 120, rfl⟩
abbrev main_v88 : Ref sig .tc := ⟨.hbm, 121, rfl⟩
abbrev main_c_17 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_18 : Ref sig .tc := ⟨.hbm, 126, rfl⟩
abbrev main_v92 : Ref sig .tc := ⟨.hbm, 127, rfl⟩
abbrev main_v93 : Ref sig .tc := ⟨.hbm, 128, rfl⟩
abbrev main_c_19 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_20 : Ref sig .tc := ⟨.hbm, 141, rfl⟩
abbrev main_v105 : Ref sig .tc := ⟨.hbm, 142, rfl⟩
abbrev main_cst_21 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_22 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_23 : Ref sig .tc := ⟨.hbm, 155, rfl⟩
abbrev main_v116 : Ref sig .tc := ⟨.hbm, 156, rfl⟩
abbrev main_v117 : Ref sig .tc := ⟨.hbm, 157, rfl⟩
abbrev main_c_24 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_call2_v0 : Ref sig .tc := ⟨.hbm, 166, rfl⟩
abbrev main_call2_v1 : Ref sig .tc := ⟨.hbm, 167, rfl⟩
abbrev main_call2_cst : Ref sig .tc := ⟨.hbm, 168, rfl⟩
abbrev main_call2_v2 : Ref sig .tc := ⟨.hbm, 169, rfl⟩
abbrev main_call2_v3 : Ref sig .tc := ⟨.hbm, 170, rfl⟩
abbrev main_call2_cst_0 : Ref sig .tc := ⟨.hbm, 171, rfl⟩
abbrev main_call2_v4 : Ref sig .tc := ⟨.hbm, 172, rfl⟩
abbrev main_call2_v5 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩

abbrev nD : Nat := 1
abbrev τ : Topo := Topo.v7x

variable {F : FTy → Type} [FloatOps F]
-- ==== KernelOut.lean ====
abbrev S16384x4096 : Shape := ⟨2, ![16384, 4096]⟩
abbrev S1x4096x4096 : Shape := ⟨3, ![1, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .bf16⟩
  | .hbm, ⟨2, _⟩ => ⟨S16384x4096, .f32⟩
  | .hbm, ⟨3, _⟩ => ⟨S16384x4096, .f32⟩
  | .hbm, ⟨4, _⟩ => ⟨S4096x4096, .bf16⟩
  | .hbm, ⟨5, _⟩ => ⟨S4096x4096, .f32⟩
  | .hbm, ⟨6, _⟩ => ⟨S16384x4096, .f32⟩
  | .hbm, ⟨7, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGates.lean ====
abbrev S16384x4096 : Shape := ⟨2, ![16384, 4096]⟩
abbrev S1x4096x29952 : Shape := ⟨3, ![1, 4096, 29952]⟩
abbrev S4x4096x29952 : Shape := ⟨3, ![4, 4096, 29952]⟩
abbrev S16384x16384 : Shape := ⟨2, ![16384, 16384]⟩
abbrev S1024x4096 : Shape := ⟨2, ![1024, 4096]⟩
abbrev S1x4096x1024 : Shape := ⟨3, ![1, 4096, 1024]⟩
abbrev S1x16x29952 : Shape := ⟨3, ![1, 16, 29952]⟩
abbrev S1024x1024 : Shape := ⟨2, ![1024, 1024]⟩
abbrev S4096x1024 : Shape := ⟨2, ![4096, 1024]⟩
abbrev S16x29952 : Shape := ⟨2, ![16, 29952]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S4x4096x29952, .f32⟩
  | .hbm, ⟨3, _⟩ => ⟨S16384x16384, .bf16⟩
  | .hbm, ⟨4, _⟩ => ⟨S1x4096x29952, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x16x29952, .f32⟩
  | .local _ .vmem, ⟨5, _⟩ => ⟨S1x16x29952, .f32⟩
  | .local _ .vmem, ⟨6, _⟩ => ⟨S1024x1024, .bf16⟩
  | .local _ .vmem, ⟨7, _⟩ => ⟨S1024x1024, .bf16⟩
  | .local _ .vmem, ⟨8, _⟩ => ⟨S1x16x29952, .bf16⟩
  | .local _ .vmem, ⟨9, _⟩ => ⟨S1x16x29952, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let c13568_i32 : BitVec 32 := 13568#32
  let arg1 : BitVec 32 := BitVec.ofNat 32 (i 1).val
  let c1024_i32 : BitVec 32 := 1024#32
  let v0 : BitVec 32 := Scalar.muli arg1 c1024_i32
  let v1 : BitVec 32 := Scalar.addi c13568_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c13568_i32 : BitVec 32 := 13568#32
  let v1 : BitVec 32 := Scalar.addi c13568_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x29952 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x29952 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGatesIdeal.lean ====
abbrev S16384x4096 : Shape := ⟨2, ![16384, 4096]⟩
abbrev S1x4096x29952 : Shape := ⟨3, ![1, 4096, 29952]⟩
abbrev S4x4096x29952 : Shape := ⟨3, ![4, 4096, 29952]⟩
abbrev S1x4096x16384 : Shape := ⟨3, ![1, 4096, 16384]⟩
abbrev S4096x16384 : Shape := ⟨2, ![4096, 16384]⟩
abbrev S16384x16384 : Shape := ⟨2, ![16384, 16384]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S4x4096x29952, .f32⟩
  | .hbm, ⟨3, _⟩ => ⟨S1x4096x16384, .bf16⟩
  | .hbm, ⟨4, _⟩ => ⟨S4096x16384, .bf16⟩
  | .hbm, ⟨5, _⟩ => ⟨S16384x4096, .f32⟩
  | .hbm, ⟨6, _⟩ => ⟨S4096x16384, .f32⟩
  | .hbm, ⟨7, _⟩ => ⟨S16384x16384, .f32⟩
  | .hbm, ⟨8, _⟩ => ⟨S16384x16384, .f32⟩
  | .hbm, ⟨9, _⟩ => ⟨S16384x16384, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S16384x16384, .bf16⟩
  | .hbm, ⟨17, _⟩ => ⟨S1x4096x29952, .f32⟩
  | .hbm, ⟨18, _⟩ => ⟨S1x4096x29952, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelMerge.lean ====
abbrev S16384x1024 : Shape := ⟨2, ![16384, 1024]⟩
abbrev S1x4x1024x4096 : Shape := ⟨4, ![1, 4, 1024, 4096]⟩
abbrev S16384x16384 : Shape := ⟨2, ![16384, 16384]⟩
abbrev S16384x4096 : Shape := ⟨2, ![16384, 4096]⟩
abbrev S512x1024 : Shape := ⟨2, ![512, 1024]⟩
abbrev S1x4x1024x1024 : Shape := ⟨4, ![1, 4, 1024, 1024]⟩
abbrev S1x1x1024x1024 : Shape := ⟨4, ![1, 1, 1024, 1024]⟩
abbrev S1024x1024 : Shape := ⟨2, ![1024, 1024]⟩

abbrev nBuf : Space → Nat
  | .hbm => 7
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1x4x1024x4096, .bf16⟩
  | .hbm, ⟨5, _⟩ => ⟨S16384x16384, .bf16⟩
  | .hbm, ⟨6, _⟩ => ⟨S16384x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x4x1024x1024, .bf16⟩
  | .local _ .vmem, ⟨9, _⟩ => ⟨S1x4x1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceMergeIdeal.lean ====
abbrev S16384x1024 : Shape := ⟨2, ![16384, 1024]⟩
abbrev S1x4x1024x4096 : Shape := ⟨4, ![1, 4, 1024, 4096]⟩
abbrev S16384x16384 : Shape := ⟨2, ![16384, 16384]⟩
abbrev S16384x4096 : Shape := ⟨2, ![16384, 4096]⟩
abbrev S1x1x1024x4096 : Shape := ⟨4, ![1, 1, 1024, 4096]⟩
abbrev S1024x4096 : Shape := ⟨2, ![1024, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1x4x1024x4096, .bf16⟩
  | .hbm, ⟨5, _⟩ => ⟨S16384x16384, .bf16⟩
  | .hbm, ⟨6, _⟩ => ⟨S16384x4096, .bf16⟩
  | .hbm, ⟨7, _⟩ => ⟨S16384x4096, .f32⟩
  | .hbm, ⟨8, _⟩ => ⟨S16384x1024, .f32⟩
  | .hbm, ⟨9, _⟩ => ⟨S1x1x1024x4096, .bf16⟩
  | .hbm, ⟨10, _⟩ => ⟨S1024x4096, .bf16⟩
  | .hbm, ⟨11, _⟩ => ⟨S1024x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .bf16⟩
  | .hbm, ⟨18, _⟩ => ⟨S16384x4096, .f32⟩
  | .hbm, ⟨19, _⟩ => ⟨S16384x1024, .f32⟩
  | .hbm, ⟨20, _⟩ => ⟨S1x1x1024x4096, .bf16⟩
  | .hbm, ⟨21, _⟩ => ⟨S1024x4096, .bf16⟩
  | .hbm, ⟨22, _⟩ => ⟨S1024x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .bf16⟩
  | .hbm, ⟨27, _⟩ => ⟨S16384x4096, .f32⟩
  | .hbm, ⟨28, _⟩ => ⟨S16384x1024, .f32⟩
  | .hbm, ⟨29, _⟩ => ⟨S1x1x1024x4096, .bf16⟩
  | .hbm, ⟨30, _⟩ => ⟨S1024x4096, .bf16⟩
  | .hbm, ⟨31, _⟩ => ⟨S1024x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x4096, .bf16⟩
  | .hbm, ⟨36, _⟩ => ⟨S16384x4096, .f32⟩
  | .hbm, ⟨37, _⟩ => ⟨S16384x1024, .f32⟩
  | .hbm, ⟨38, _⟩ => ⟨S1x1x1024x4096, .bf16⟩
  | .hbm, ⟨39, _⟩ => ⟨S1024x4096, .bf16⟩
  | .hbm, ⟨40, _⟩ => ⟨S1024x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== KernelRkv.lean ====
abbrev S16384x4096 : Shape := ⟨2, ![16384, 4096]⟩
abbrev S1x4096x29952 : Shape := ⟨3, ![1, 4096, 29952]⟩
abbrev S16384x3072 : Shape := ⟨2, ![16384, 3072]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceRkvIdeal.lean ====
abbrev S16384x4096 : Shape := ⟨2, ![16384, 4096]⟩
abbrev S1x4096x29952 : Shape := ⟨3, ![1, 4096, 29952]⟩
abbrev S1x4096x3072 : Shape := ⟨3, ![1, 4096, 3072]⟩
abbrev S4096x3072 : Shape := ⟨2, ![4096, 3072]⟩
abbrev S16384x3072 : Shape := ⟨2, ![16384, 3072]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S16384x4096, .f32⟩
  | .hbm, ⟨3, _⟩ => ⟨S1x4096x3072, .bf16⟩
  | .hbm, ⟨4, _⟩ => ⟨S4096x3072, .bf16⟩
  | .hbm, ⟨5, _⟩ => ⟨S4096x3072, .f32⟩
  | .hbm, ⟨6, _⟩ => ⟨S16384x3072, .f32⟩
  | .hbm, ⟨7, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelLora.lean ====
abbrev S16384x4096 : Shape := ⟨2, ![16384, 4096]⟩
abbrev S1x4096x29952 : Shape := ⟨3, ![1, 4096, 29952]⟩
abbrev S16384x256 : Shape := ⟨2, ![16384, 256]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S16384x256, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .bf16⟩
  | .local _ .vmem, ⟨3, _⟩ => ⟨S1024x256, .bf16⟩
  | .local _ .vmem, ⟨4, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let c3072_i32 : BitVec 32 := 3072#32
  let arg1 : BitVec 32 := BitVec.ofNat 32 (i 1).val
  let c256_i32 : BitVec 32 := 256#32
  let v0 : BitVec 32 := Scalar.muli arg1 c256_i32
  let v1 : BitVec 32 := Scalar.addi c3072_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c3072_i32 : BitVec 32 := 3072#32
  let v1 : BitVec 32 := Scalar.addi c3072_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceLoraIdeal.lean ====
abbrev S16384x4096 : Shape := ⟨2, ![16384, 4096]⟩
abbrev S1x4096x29952 : Shape := ⟨3, ![1, 4096, 29952]⟩
abbrev S1x4096x256 : Shape := ⟨3, ![1, 4096, 256]⟩
abbrev S4096x256 : Shape := ⟨2, ![4096, 256]⟩
abbrev S16384x256 : Shape := ⟨2, ![16384, 256]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S16384x4096, .f32⟩
  | .hbm, ⟨3, _⟩ => ⟨S1x4096x256, .bf16⟩
  | .hbm, ⟨4, _⟩ => ⟨S4096x256, .bf16⟩
  | .hbm, ⟨5, _⟩ => ⟨S4096x256, .f32⟩
  | .hbm, ⟨6, _⟩ => ⟨S16384x256, .f32⟩
  | .hbm, ⟨7, _⟩ => ⟨S16384x256, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelGateA.lean ====
abbrev S16384x4096 : Shape := ⟨2, ![16384, 4096]⟩
abbrev S1x4096x29952 : Shape := ⟨3, ![1, 4096, 29952]⟩
abbrev S4x4096x2048 : Shape := ⟨3, ![4, 4096, 2048]⟩
abbrev S16384x1024 : Shape := ⟨2, ![16384, 1024]⟩
abbrev S1x4096x2048 : Shape := ⟨3, ![1, 4096, 2048]⟩
abbrev S1024x4096 : Shape := ⟨2, ![1024, 4096]⟩
abbrev S1x4096x1024 : Shape := ⟨3, ![1, 4096, 1024]⟩
abbrev S1x256x2048 : Shape := ⟨3, ![1, 256, 2048]⟩
abbrev S1024x1024 : Shape := ⟨2, ![1024, 1024]⟩
abbrev S4096x1024 : Shape := ⟨2, ![4096, 1024]⟩
abbrev S256x2048 : Shape := ⟨2, ![256, 2048]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S4x4096x2048, .f32⟩
  | .hbm, ⟨3, _⟩ => ⟨S16384x1024, .bf16⟩
  | .hbm, ⟨4, _⟩ => ⟨S1x4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x256x2048, .f32⟩
  | .local _ .vmem, ⟨4, _⟩ => ⟨S1x256x2048, .f32⟩
  | .local _ .vmem, ⟨5, _⟩ => ⟨S1024x1024, .bf16⟩
  | .local _ .vmem, ⟨6, _⟩ => ⟨S1024x1024, .bf16⟩
  | .local _ .vmem, ⟨7, _⟩ => ⟨S1x256x2048, .bf16⟩
  | .local _ .vmem, ⟨8, _⟩ => ⟨S1x256x2048, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let c3328_i32 : BitVec 32 := 3328#32
  let arg1 : BitVec 32 := BitVec.ofNat 32 (i 1).val
  let c1024_i32 : BitVec 32 := 1024#32
  let v0 : BitVec 32 := Scalar.muli arg1 c1024_i32
  let v1 : BitVec 32 := Scalar.addi c3328_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c3328_i32 : BitVec 32 := 3328#32
  let v1 : BitVec 32 := Scalar.addi c3328_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGateAIdeal.lean ====
abbrev S16384x4096 : Shape := ⟨2, ![16384, 4096]⟩
abbrev S1x4096x29952 : Shape := ⟨3, ![1, 4096, 29952]⟩
abbrev S4x4096x2048 : Shape := ⟨3, ![4, 4096, 2048]⟩
abbrev S1x4096x1024 : Shape := ⟨3, ![1, 4096, 1024]⟩
abbrev S4096x1024 : Shape := ⟨2, ![4096, 1024]⟩
abbrev S16384x1024 : Shape := ⟨2, ![16384, 1024]⟩
abbrev S1x4096x2048 : Shape := ⟨3, ![1, 4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S4x4096x2048, .f32⟩
  | .hbm, ⟨3, _⟩ => ⟨S16384x4096, .f32⟩
  | .hbm, ⟨4, _⟩ => ⟨S1x4096x1024, .bf16⟩
  | .hbm, ⟨5, _⟩ => ⟨S4096x1024, .bf16⟩
  | .hbm, ⟨6, _⟩ => ⟨S4096x1024, .f32⟩
  | .hbm, ⟨7, _⟩ => ⟨S16384x1024, .f32⟩
  | .hbm, ⟨8, _⟩ => ⟨S16384x1024, .bf16⟩
  | .hbm, ⟨9, _⟩ => ⟨S1x4096x2048, .f32⟩
  | .hbm, ⟨10, _⟩ => ⟨S1x4096x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelBranchB.lean ====
abbrev S16384x4096 : Shape := ⟨2, ![16384, 4096]⟩
abbrev S1x4096x29952 : Shape := ⟨3, ![1, 4096, 29952]⟩
abbrev S16384x3072 : Shape := ⟨2, ![16384, 3072]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_mult1 (i : grid0.Coords) : BitVec 32 :=
  let c4352_i32 : BitVec 32 := 4352#32
  let arg1 : BitVec 32 := BitVec.ofNat 32 (i 1).val
  let c1024_i32 : BitVec 32 := 1024#32
  let v0 : BitVec 32 := Scalar.muli arg1 c1024_i32
  let v1 : BitVec 32 := Scalar.addi c4352_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4352_i32 : BitVec 32 := 4352#32
  let v1 : BitVec 32 := Scalar.addi c4352_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceBranchBIdeal.lean ====
abbrev S16384x4096 : Shape := ⟨2, ![16384, 4096]⟩
abbrev S1x4096x29952 : Shape := ⟨3, ![1, 4096, 29952]⟩
abbrev S1x4096x3072 : Shape := ⟨3, ![1, 4096, 3072]⟩
abbrev S4096x3072 : Shape := ⟨2, ![4096, 3072]⟩
abbrev S16384x3072 : Shape := ⟨2, ![16384, 3072]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S16384x4096, .f32⟩
  | .hbm, ⟨3, _⟩ => ⟨S1x4096x3072, .bf16⟩
  | .hbm, ⟨4, _⟩ => ⟨S4096x3072, .bf16⟩
  | .hbm, ⟨5, _⟩ => ⟨S4096x3072, .f32⟩
  | .hbm, ⟨6, _⟩ => ⟨S16384x3072, .f32⟩
  | .hbm, ⟨7, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelBranchC.lean ====
abbrev S16384x4096 : Shape := ⟨2, ![16384, 4096]⟩
abbrev S1x4096x29952 : Shape := ⟨3, ![1, 4096, 29952]⟩
abbrev S4x4x1024x4096 : Shape := ⟨4, ![4, 4, 1024, 4096]⟩
abbrev S4x4096x4096 : Shape := ⟨3, ![4, 4096, 4096]⟩
abbrev S1x4096x4096 : Shape := ⟨3, ![1, 4096, 4096]⟩
abbrev S1024x4096 : Shape := ⟨2, ![1024, 4096]⟩
abbrev S1x4096x1024 : Shape := ⟨3, ![1, 4096, 1024]⟩
abbrev S1x64x4096 : Shape := ⟨3, ![1, 64, 4096]⟩
abbrev S1024x1024 : Shape := ⟨2, ![1024, 1024]⟩
abbrev S4096x1024 : Shape := ⟨2, ![4096, 1024]⟩
abbrev S64x4096 : Shape := ⟨2, ![64, 4096]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S4x4x1024x4096, .f32⟩
  | .hbm, ⟨3, _⟩ => ⟨S4x4096x4096, .f32⟩
  | .hbm, ⟨4, _⟩ => ⟨S16384x4096, .bf16⟩
  | .hbm, ⟨5, _⟩ => ⟨S1x4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x64x4096, .f32⟩
  | .local _ .vmem, ⟨5, _⟩ => ⟨S1x64x4096, .f32⟩
  | .local _ .vmem, ⟨6, _⟩ => ⟨S1024x1024, .bf16⟩
  | .local _ .vmem, ⟨7, _⟩ => ⟨S1024x1024, .bf16⟩
  | .local _ .vmem, ⟨8, _⟩ => ⟨S1x64x4096, .bf16⟩
  | .local _ .vmem, ⟨9, _⟩ => ⟨S1x64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c7424_i32 : BitVec 32 := 7424#32
  let arg1 : BitVec 32 := BitVec.ofNat 32 (i 1).val
  let c1024_i32 : BitVec 32 := 1024#32
  let v0 : BitVec 32 := Scalar.muli arg1 c1024_i32
  let v1 : BitVec 32 := Scalar.addi c7424_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c7424_i32 : BitVec 32 := 7424#32
  let v1 : BitVec 32 := Scalar.addi c7424_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceBranchCIdeal.lean ====
abbrev S16384x4096 : Shape := ⟨2, ![16384, 4096]⟩
abbrev S1x4096x29952 : Shape := ⟨3, ![1, 4096, 29952]⟩
abbrev S4x4x1024x4096 : Shape := ⟨4, ![4, 4, 1024, 4096]⟩
abbrev S1x4096x4096 : Shape := ⟨3, ![1, 4096, 4096]⟩
abbrev S4096x4096 : Shape := ⟨2, ![4096, 4096]⟩
abbrev S1x4x1024x4096 : Shape := ⟨4, ![1, 4, 1024, 4096]⟩
abbrev S4x1024x4096 : Shape := ⟨3, ![4, 1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S4x4x1024x4096, .f32⟩
  | .hbm, ⟨3, _⟩ => ⟨S16384x4096, .f32⟩
  | .hbm, ⟨4, _⟩ => ⟨S1x4096x4096, .bf16⟩
  | .hbm, ⟨5, _⟩ => ⟨S4096x4096, .bf16⟩
  | .hbm, ⟨6, _⟩ => ⟨S4096x4096, .f32⟩
  | .hbm, ⟨7, _⟩ => ⟨S16384x4096, .f32⟩
  | .hbm, ⟨8, _⟩ => ⟨S16384x4096, .bf16⟩
  | .hbm, ⟨9, _⟩ => ⟨S1x4x1024x4096, .f32⟩
  | .hbm, ⟨10, _⟩ => ⟨S4x1024x4096, .f32⟩
  | .hbm, ⟨11, _⟩ => ⟨S1x4096x4096, .f32⟩
  | .hbm, ⟨12, _⟩ => ⟨S1x4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelBranchM.lean ====
abbrev S16384x4096 : Shape := ⟨2, ![16384, 4096]⟩
abbrev S1x4096x29952 : Shape := ⟨3, ![1, 4096, 29952]⟩
abbrev S4x4096x4096 : Shape := ⟨3, ![4, 4096, 4096]⟩
abbrev S16384x2048 : Shape := ⟨2, ![16384, 2048]⟩
abbrev S1x4096x4096 : Shape := ⟨3, ![1, 4096, 4096]⟩
abbrev S1024x4096 : Shape := ⟨2, ![1024, 4096]⟩
abbrev S1x4096x1024 : Shape := ⟨3, ![1, 4096, 1024]⟩
abbrev S1x128x4096 : Shape := ⟨3, ![1, 128, 4096]⟩
abbrev S1024x1024 : Shape := ⟨2, ![1024, 1024]⟩
abbrev S4096x1024 : Shape := ⟨2, ![4096, 1024]⟩
abbrev S128x4096 : Shape := ⟨2, ![128, 4096]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S4x4096x4096, .f32⟩
  | .hbm, ⟨3, _⟩ => ⟨S16384x2048, .bf16⟩
  | .hbm, ⟨4, _⟩ => ⟨S1x4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x128x4096, .f32⟩
  | .local _ .vmem, ⟨5, _⟩ => ⟨S1x128x4096, .f32⟩
  | .local _ .vmem, ⟨6, _⟩ => ⟨S1024x1024, .bf16⟩
  | .local _ .vmem, ⟨7, _⟩ => ⟨S1024x1024, .bf16⟩
  | .local _ .vmem, ⟨8, _⟩ => ⟨S1x128x4096, .bf16⟩
  | .local _ .vmem, ⟨9, _⟩ => ⟨S1x128x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c11520_i32 : BitVec 32 := 11520#32
  let arg1 : BitVec 32 := BitVec.ofNat 32 (i 1).val
  let c1024_i32 : BitVec 32 := 1024#32
  let v0 : BitVec 32 := Scalar.muli arg1 c1024_i32
  let v1 : BitVec 32 := Scalar.addi c11520_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c11520_i32 : BitVec 32 := 11520#32
  let v1 : BitVec 32 := Scalar.addi c11520_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceBranchMIdeal.lean ====
abbrev S16384x4096 : Shape := ⟨2, ![16384, 4096]⟩
abbrev S1x4096x29952 : Shape := ⟨3, ![1, 4096, 29952]⟩
abbrev S4x4096x4096 : Shape := ⟨3, ![4, 4096, 4096]⟩
abbrev S1x4096x2048 : Shape := ⟨3, ![1, 4096, 2048]⟩
abbrev S4096x2048 : Shape := ⟨2, ![4096, 2048]⟩
abbrev S16384x2048 : Shape := ⟨2, ![16384, 2048]⟩
abbrev S1x4096x4096 : Shape := ⟨3, ![1, 4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x29952, .bf16⟩
  | .hbm, ⟨2, _⟩ => ⟨S4x4096x4096, .f32⟩
  | .hbm, ⟨3, _⟩ => ⟨S16384x4096, .f32⟩
  | .hbm, ⟨4, _⟩ => ⟨S1x4096x2048, .bf16⟩
  | .hbm, ⟨5, _⟩ => ⟨S4096x2048, .bf16⟩
  | .hbm, ⟨6, _⟩ => ⟨S4096x2048, .f32⟩
  | .hbm, ⟨7, _⟩ => ⟨S16384x2048, .f32⟩
  | .hbm, ⟨8, _⟩ => ⟨S16384x2048, .bf16⟩
  | .hbm, ⟨9, _⟩ => ⟨S1x4096x4096, .f32⟩
  | .hbm, ⟨10, _⟩ => ⟨S1x4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelMemKv.lean ====
abbrev S1024x4096 : Shape := ⟨2, ![1024, 4096]⟩
abbrev S1x4096x2048 : Shape := ⟨3, ![1, 4096, 2048]⟩
abbrev S1024x2048 : Shape := ⟨2, ![1024, 2048]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S1x4096x2048, .bf16⟩
  | .hbm, ⟨2, _⟩ => ⟨S1024x2048, .bf16⟩
  | .local _ .vmem, ⟨0, _⟩ => ⟨S1024x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1024x1024, .bf16⟩
  | .local _ .vmem, ⟨4, _⟩ => ⟨S1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMemKvIdeal.lean ====
abbrev S1024x4096 : Shape := ⟨2, ![1024, 4096]⟩
abbrev S1x4096x2048 : Shape := ⟨3, ![1, 4096, 2048]⟩
abbrev S4096x2048 : Shape := ⟨2, ![4096, 2048]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1x4096x2048, .bf16⟩
  | .hbm, ⟨2, _⟩ => ⟨S1024x4096, .f32⟩
  | .hbm, ⟨3, _⟩ => ⟨S4096x2048, .bf16⟩
  | .hbm, ⟨4, _⟩ => ⟨S4096x2048, .f32⟩
  | .hbm, ⟨5, _⟩ => ⟨S1024x2048, .f32⟩
  | .hbm, ⟨6, _⟩ => ⟨S1024x2048, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelNorm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelNormIdeal.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelNormMem.lean ====
abbrev S1024x4096 : Shape := ⟨2, ![1024, 4096]⟩
abbrev S4096 : Shape := ⟨1, ![4096]⟩
abbrev S1x4096 : Shape := ⟨2, ![1, 4096]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S1x4096, .f32⟩
  | .hbm, ⟨3, _⟩ => ⟨S1024x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormMemIdeal.lean ====
abbrev S1024x4096 : Shape := ⟨2, ![1024, 4096]⟩
abbrev S4096 : Shape := ⟨1, ![4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S1024x4096, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x4096, .f32⟩
  | .hbm, ⟨14, _⟩ => ⟨S1024x4096, .f32⟩
  | .hbm, ⟨15, _⟩ => ⟨S1x4096, .f32⟩
  | .hbm, ⟨16, _⟩ => ⟨S1024x4096, .f32⟩
  | .hbm, ⟨17, _⟩ => ⟨S1024x4096, .f32⟩
  | .hbm, ⟨18, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelMemAttn.lean ====
abbrev S4x4096x2048 : Shape := ⟨3, ![4, 4096, 2048]⟩
abbrev S4x256x2048 : Shape := ⟨3, ![4, 256, 2048]⟩
abbrev S256 : Shape := ⟨1, ![256]⟩
abbrev S1x256 : Shape := ⟨2, ![1, 256]⟩
abbrev S4x4096x1024 : Shape := ⟨3, ![4, 4096, 1024]⟩
abbrev S1x512x2048 : Shape := ⟨3, ![1, 512, 2048]⟩
abbrev S1x256x2048 : Shape := ⟨3, ![1, 256, 2048]⟩
abbrev S1x512x1024 : Shape := ⟨3, ![1, 512, 1024]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x2048, .bf16⟩
  | .hbm, ⟨1, _⟩ => ⟨S4x256x2048, .bf16⟩
  | .hbm, ⟨2, _⟩ => ⟨S256, .f32⟩
  | .hbm, ⟨3, _⟩ => ⟨S256, .f32⟩
  | .hbm, ⟨4, _⟩ => ⟨S1x256, .f32⟩
  | .hbm, ⟨5, _⟩ => ⟨S1x256, .f32⟩
  | .hbm, ⟨6, _⟩ => ⟨S4x4096x1024, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256, .f32⟩
  | .local _ .vmem, ⟨5, _⟩ => ⟨S1x256, .f32⟩
  | .local _ .vmem, ⟨6, _⟩ => ⟨S1x512x1024, .bf16⟩
  | .local _ .vmem, ⟨7, _⟩ => ⟨S1x512x1024, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMemAttnIdeal.lean ====
abbrev S4x4096x2048 : Shape := ⟨3, ![4, 4096, 2048]⟩
abbrev S4x256x2048 : Shape := ⟨3, ![4, 256, 2048]⟩
abbrev S256 : Shape := ⟨1, ![256]⟩
abbrev S4x4096x1024 : Shape := ⟨3, ![4, 4096, 1024]⟩
abbrev S4x256x1024 : Shape := ⟨3, ![4, 256, 1024]⟩
abbrev S4x4096x4x256 : Shape := ⟨4, ![4, 4096, 4, 256]⟩
abbrev S_ : Shape := ⟨0, ![]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩
abbrev S4x256x4x256 : Shape := ⟨4, ![4, 256, 4, 256]⟩
abbrev S4x256x4 : Shape := ⟨3, ![4, 256, 4]⟩
abbrev S4x256x4x1 : Shape := ⟨4, ![4, 256, 4, 1]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x256x2048, .bf16⟩
  | .hbm, ⟨2, _⟩ => ⟨S256, .f32⟩
  | .hbm, ⟨3, _⟩ => ⟨S256, .f32⟩
  | .hbm, ⟨4, _⟩ => ⟨S4x4096x2048, .f32⟩
  | .hbm, ⟨5, _⟩ => ⟨S4x4096x1024, .f32⟩
  | .hbm, ⟨6, _⟩ => ⟨S4x4096x1024, .f32⟩
  | .hbm, ⟨7, _⟩ => ⟨S4x256x2048, .f32⟩
  | .hbm, ⟨8, _⟩ => ⟨S4x256x1024, .f32⟩
  | .hbm, ⟨9, _⟩ => ⟨S4x256x1024, .f32⟩
  | .hbm, ⟨10, _⟩ => ⟨S4x4096x4x256, .f32⟩
  | .hbm, ⟨11, _⟩ => ⟨S4x4096x4x256, .f32⟩
  | .hbm, ⟨12, _⟩ => ⟨S_, .f32⟩
  | .hbm, ⟨13, _⟩ => ⟨S4x4096x4, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S4x4096x4x1, .f32⟩
  | .hbm, ⟨22, _⟩ => ⟨S4x4096x4x256, .f32⟩
  | .hbm, ⟨23, _⟩ => ⟨S4x4096x4x256, .f32⟩
  | .hbm, ⟨24, _⟩ => ⟨S1x1x1x256, .f32⟩
  | .hbm, ⟨25, _⟩ => ⟨S4x4096x4x256, .f32⟩
  | .hbm, ⟨26, _⟩ => ⟨S4x4096x4x256, .f32⟩
  | .hbm, ⟨27, _⟩ => ⟨S4x256x4x256, .f32⟩
  | .hbm, ⟨28, _⟩ => ⟨S4x256x4x256, .f32⟩
  | .hbm, ⟨29, _⟩ => ⟨S_, .f32⟩
  | .hbm, ⟨30, _⟩ => ⟨S4x256x4, .f32⟩
  | .hbm, ⟨31, _⟩ => ⟨S4x256x4x1, .f32⟩
  | .hbm, ⟨32, _⟩ => ⟨S_, .f32⟩
  | .hbm, ⟨33, _⟩ => ⟨S4x256x4x1, .f32⟩
  | .hbm, ⟨34, _⟩ => ⟨S4x256x4x1, .f32⟩
  | .hbm, ⟨35, _⟩ => ⟨S_, .f32⟩
  | .hbm, ⟨36, _⟩ => ⟨S4x256x4x1, .f32⟩
  | .hbm, ⟨37, _⟩ => ⟨S4x256x4x1, .f32⟩
  | .hbm, ⟨38, _⟩ => ⟨S4x256x4x1, .f32⟩
  | .hbm, ⟨39, _⟩ => ⟨S4x256x4x256, .f32⟩
  | .hbm, ⟨40, _⟩ => ⟨S4x256x4x256, .f32⟩
  | .hbm, ⟨41, _⟩ => ⟨S1x1x1x256, .f32⟩
  | .hbm, ⟨42, _⟩ => ⟨S4x256x4x256, .f32⟩
  | .hbm, ⟨43, _⟩ => ⟨S4x256x4x256, .f32⟩
  | .hbm, ⟨44, _⟩ => ⟨S4x256x4x256, .f32⟩
  | .hbm, ⟨45, _⟩ => ⟨S4x4x4096x256, .f32⟩
  | .hbm, ⟨46, _⟩ => ⟨S_, .f32⟩
  | .hbm, ⟨47, _⟩ => ⟨S4x4x4096x256, .f32⟩
  | .hbm, ⟨48, _⟩ => ⟨S4x4x4096x256, .f32⟩
  | .hbm, ⟨49, _⟩ => ⟨S_, .f32⟩
  | .hbm, ⟨50, _⟩ => ⟨S4x4x4096, .f32⟩
  | .hbm, ⟨51, _⟩ => ⟨S_, .f32⟩
  | .hbm, ⟨52, _⟩ => ⟨S4x4x4096, .f32⟩
  | .hbm, ⟨53, _⟩ => ⟨S4x4x4096, .f32⟩
  | .hbm, ⟨54, _⟩ => ⟨S4x4x4096x1, .f32⟩
  | .hbm, ⟨55, _⟩ => ⟨S4x4x4096x256, .f32⟩
  | .hbm, ⟨56, _⟩ => ⟨S4x4x4096x256, .f32⟩
  | .hbm, ⟨57, _⟩ => ⟨S4x4x4096x256, .f32⟩
  | .hbm, ⟨58, _⟩ => ⟨S_, .f32⟩
  | .hbm, ⟨59, _⟩ => ⟨S4x4x4096, .f32⟩
  | .hbm, ⟨60, _⟩ => ⟨S4x4x4096x1, .f32⟩
  | .hbm, ⟨61, _⟩ => ⟨S4x4x4096x256, .f32⟩
  | .hbm, ⟨62, _⟩ => ⟨S4x4x4096x256, .f32⟩
  | .hbm, ⟨63, _⟩ => ⟨S4x4x256x4096, .f32⟩
  | .hbm, ⟨64, _⟩ => ⟨S4x4096x4x256, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S_, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S4x4096x1024, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== KernelPost.lean ====
abbrev S4x4096x1024 : Shape := ⟨3, ![4, 4096, 1024]⟩
abbrev S1024 : Shape := ⟨1, ![1024]⟩
abbrev S1x1024 : Shape := ⟨2, ![1, 1024]⟩
abbrev S1x512x1024 : Shape := ⟨3, ![1, 512, 1024]⟩
abbrev S128x128 : Shape := ⟨2, ![128, 128]⟩
abbrev S1x512x128 : Shape := ⟨3, ![1, 512, 128]⟩
abbrev S512x128 : Shape := ⟨2, ![512, 128]⟩
abbrev S1x128 : Shape := ⟨2, ![1, 128]⟩

abbrev nBuf : Space → Nat
  | .hbm => 9
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .bf16⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x1024, .f32⟩
  | .local _ .vmem, ⟨9, _⟩ => ⟨S1x1024, .f32⟩
  | .local _ .vmem, ⟨10, _⟩ => ⟨S1x512x1024, .bf16⟩
  | .local _ .vmem, ⟨11, _⟩ => ⟨S1x512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferencePostIdeal.lean ====
abbrev S4x4096x1024 : Shape := ⟨3, ![4, 4096, 1024]⟩
abbrev S1024 : Shape := ⟨1, ![1024]⟩
abbrev S4x4096x16x64 : Shape := ⟨4, ![4, 4096, 16, 64]⟩
abbrev S_ : Shape := ⟨0, ![]⟩
abbrev S4x4096x16 : Shape := ⟨3, ![4, 4096, 16]⟩
abbrev S4x4096x16x1 : Shape := ⟨4, ![4, 4096, 16, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .bf16⟩
  | .hbm, ⟨4, _⟩ => ⟨S1024, .f32⟩
  | .hbm, ⟨5, _⟩ => ⟨S1024, .f32⟩
  | .hbm, ⟨6, _⟩ => ⟨S4x4096x1024, .f32⟩
  | .hbm, ⟨7, _⟩ => ⟨S4x4096x16x64, .f32⟩
  | .hbm, ⟨8, _⟩ => ⟨S_, .f32⟩
  | .hbm, ⟨9, _⟩ => ⟨S4x4096x16, .f32⟩
  | .hbm, ⟨10, _⟩ => ⟨S4x4096x16x1, .f32⟩
  | .hbm, ⟨11, _⟩ => ⟨S_, .f32⟩
  | .hbm, ⟨12, _⟩ => ⟨S4x4096x16x1, .f32⟩
  | .hbm, ⟨13, _⟩ => ⟨S4x4096x16x1, .f32⟩
  | .hbm, ⟨14, _⟩ => ⟨S4x4096x16x64, .f32⟩
  | .hbm, ⟨15, _⟩ => ⟨S4x4096x16x64, .f32⟩
  | .hbm, ⟨16, _⟩ => ⟨S4x4096x16x64, .f32⟩
  | .hbm, ⟨17, _⟩ => ⟨S_, .f32⟩
  | .hbm, ⟨18, _⟩ => ⟨S4x4096x16, .f32⟩
  | .hbm, ⟨19, _⟩ => ⟨S4x4096x16x1, .f32⟩
  | .hbm, ⟨20, _⟩ => ⟨S_, .f32⟩
  | .hbm, ⟨21, _⟩ => ⟨S4x4096x16x1, .f32⟩
  | .hbm, ⟨22, _⟩ => ⟨S4x4096x16x1, .f32⟩
  | .hbm, ⟨23, _⟩ => ⟨S4x4096x16x64, .f32⟩
  | .hbm, ⟨24, _⟩ => ⟨S4x4096x16x64, .f32⟩
  | .hbm, ⟨25, _⟩ => ⟨S_, .f32⟩
  | .hbm, ⟨26, _⟩ => ⟨S4x4096x16x1, .f32⟩
  | .hbm, ⟨27, _⟩ => ⟨S4x4096x16x1, .f32⟩
  | .hbm, ⟨28, _⟩ => ⟨S4x4096x16x1, .f32⟩
  | .hbm, ⟨29, _⟩ => ⟨S4x4096x16x64, .f32⟩
  | .hbm, ⟨30, _⟩ => ⟨S4x4096x16x64, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== KernelSgu.lean ====
abbrev S4x4096x3072 : Shape := ⟨3, ![4, 4096, 3072]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S4x4096x1024 : Shape := ⟨3, ![4, 4096, 1024]⟩
abbrev S1x512x3072 : Shape := ⟨3, ![1, 512, 3072]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 12
  | .vmem => 8
  | .smem => 0
  | _ => 0

abbrev bufTy : (tb : Table) → Fin (tcTables nBuf tb) → BufTy
  | .hbm, ⟨0, _⟩ => ⟨S4x4096x3072, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x128, .f32⟩
  | .hbm, ⟨7, _⟩ => ⟨S128x1024, .f32⟩
  | .hbm, ⟨8, _⟩ => ⟨S8x128x128, .bf16⟩
  | .hbm, ⟨9, _⟩ => ⟨S1x1024, .f32⟩
  | .hbm, ⟨10, _⟩ => ⟨S1x1024, .f32⟩
  | .hbm, ⟨11, _⟩ => ⟨S4x4096x1024, .bf16⟩
  | .local _ .vmem, ⟨0, _⟩ => ⟨S1x512x3072, .bf16⟩
  | .local _ .vmem, ⟨1, _⟩ => ⟨S1x512x3072, .bf16⟩
  | .local _ .vmem, ⟨2, _⟩ => ⟨S1x1024, .f32⟩
  | .local _ .vmem, ⟨3, _⟩ => ⟨S1x1024, .f32⟩
  | .local _ .vmem, ⟨4, _⟩ => ⟨S8x128x128, .bf16⟩
  | .local _ .vmem, ⟨5, _⟩ => ⟨S128x1024, .f32⟩
  | .local _ .vmem, ⟨6, _⟩ => ⟨S1x512x1024, .bf16⟩
  | .local _ .vmem, ⟨7, _⟩ => ⟨S1x512x1024, .bf16⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelSguIdeal.lean ====
variable {F : FTy → Type} [FloatOps F] [Named F]
def κ : String → Option EReal := fun
  | "gelu_cubic" => some ((80338380498831 / 2251799813685248 : ℝ) : EReal)
  | _ => none
-- ==== ReferenceSguIdeal.lean ====
abbrev S4x4096x3072 : Shape := ⟨3, ![4, 4096, 3072]⟩
abbrev S1024 : Shape := ⟨1, ![1024]⟩
abbrev S8x128x128 : Shape := ⟨3, ![8, 128, 128]⟩
abbrev S8x128 : Shape := ⟨2, ![8, 128]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x32x128x8x128 : Shape := ⟨5, ![4, 32, 128, 8, 128]⟩
abbrev S8x4x32x128x128 : Shape := ⟨5, ![8, 4, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 93
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S4x4096x3072, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | .hbm, ⟨69, _⟩ => ⟨S1x1x1024, .f32⟩
  | .hbm, ⟨70, _⟩ => ⟨S4x4096x1024, .f32⟩
  | .hbm, ⟨71, _⟩ => ⟨S4x4096x1024, .f32⟩
  | .hbm, ⟨72, _⟩ => ⟨S4x32x128x8x128, .f32⟩
  | .hbm, ⟨73, _⟩ => ⟨S8x4x32x128x128, .f32⟩
  | .hbm, ⟨74, _⟩ => ⟨S4x32x128x8x128, .f32⟩
  | .hbm, ⟨75, _⟩ => ⟨S128x8, .f32⟩
  | .hbm, ⟨76, _⟩ => ⟨S128x8x1, .f32⟩
  | .hbm, ⟨77, _⟩ => ⟨S1x1x128x8x1, .f32⟩
  | .hbm, ⟨78, _⟩ => ⟨S4x32x128x8x128, .f32⟩
  | .hbm, ⟨79, _⟩ => ⟨S4x32x128x8x128, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S4x4096x1024, .f32⟩
  | .hbm, ⟨84, _⟩ => ⟨S_, .f32⟩
  | .hbm, ⟨85, _⟩ => ⟨S4x4096x1024, .f32⟩
  | .hbm, ⟨86, _⟩ => ⟨S4x4096x1024, .f32⟩
  | .hbm, ⟨87, _⟩ => ⟨S_, .f32⟩
  | .hbm, ⟨88, _⟩ => ⟨S4x4096x1024, .f32⟩
  | .hbm, ⟨89, _⟩ => ⟨S4x4096x1024, .f32⟩
  | .hbm, ⟨90, _⟩ => ⟨S4x4096x1024, .f32⟩
  | .hbm, ⟨91, _⟩ => ⟨S4x4096x1024, .f32⟩
  | .hbm, ⟨92, _⟩ => ⟨S4x4096x1024, .bf16⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Proof.NattenRow.lean ====
module

public import proofs.«01_k».proof.Proof.Gen.KernelIdeal.Value
public import Idealize.ShloMosaic.Lib.Pipeline.ValueKit
public import Idealize.ShloMosaic.Lib.Pointwise

/-!
The neighbourhood attention kernel, one trip of its loop as a list of 32 row blocks, each the same function of
the slices it loads.
-/

@[expose] public section
set_option maxRecDepth 16384
noncomputable section
open Idealize.ShloMosaic Idealize.SL.Sem Idealize.ShloMosaic.Pipeline
namespace Cert.KernelIdeal.NattenRow
open Cert.KernelIdeal Cert.KernelIdeal.Gen

/-- One row block of the kernel: the output of one image row for two heads, from the row's queries, its window of
keys and values, the bias of either head and the row's gate. -/
def rowOut (v13 : IVec S1x128 1) (q : Vec Ideal S64x128 .bf16) (kk : Vec Ideal S512x128 .bf16)
    (b0 b1 : Vec Ideal S1x1x64x512 .bf16) (v : Vec Ideal S1x512x128 .bf16) (g : Vec Ideal S1x64x128 .bf16) :
    FVec Ideal S1x64x128 .bf16 :=
  k0_pay174 v13 (k0_pay170 k0_pay2 (k0_pay106 (k0_pay74 (k0_pay42 (k0_pay5 v13 q) kk) b0 b1)) v) g

/-- The piece of the output that row block `r` of trip `k` stores. -/
def piece (arg4 arg5 : Memref sig .tc .vmem S1x4096x128 .bf16) (arg8 : Memref sig .tc .vmem S2x8x64x512 .bf16)
    (arg10 arg11 : Memref sig .tc .vmem S4096x128 .bf16) (v13 : IVec S1x128 1)
    (X4 : BufTy.Contents (Elt Ideal) arg4.view.ty) (X5 : BufTy.Contents (Elt Ideal) arg5.view.ty)
    (X8 : BufTy.Contents (Elt Ideal) arg8.view.ty) (X10 : BufTy.Contents (Elt Ideal) arg10.view.ty)
    (X11 : BufTy.Contents (Elt Ideal) arg11.view.ty) (k : Fin k0_t1_loop.trips) (r : Fin 32) :
    View.Piece (Elt Ideal) S1x4096x128 .bf16 :=
  ⟨Rect.unit (s := S1x4096x128) (k0_off6 k (BitVec.ofNat 32 r.val)) S1x64x128.size (k0_off6_inb k r),
   rowOut v13
    (View.readAt (Elt Ideal) arg10.view (Rect.unit (s := S4096x128) (k0_off1 k (BitVec.ofNat 32 r.val)) S64x128.size (k0_off1_inb k r)).toLoadRect X10)
    (View.readAt (Elt Ideal) arg11.view (Rect.unit (s := S4096x128) (k0_off2 k (BitVec.ofNat 32 r.val)) S512x128.size (k0_off2_inb k r)).toLoadRect X11)
    (View.readAt (Elt Ideal) arg8.view (Rect.unit (s := S2x8x64x512) (k0_off3 k (BitVec.ofNat 32 r.val)) S1x1x64x512.size (k0_off3_inb k r)).toLoadRect X8)
    (View.readAt (Elt Ideal) arg8.view (Rect.unit (s := S2x8x64x512) (k0_off4 k (BitVec.ofNat 32 r.val)) S1x1x64x512.size (k0_off4_inb k r)).toLoadRect X8)
    (View.readAt (Elt Ideal) arg4.view (Rect.unit (s := S1x4096x128) (k0_off5 k (BitVec.ofNat 32 r.val)) S1x512x128.size (k0_off5_inb k r)).toLoadRect X4)
    (View.readAt (Elt Ideal) arg5.view (Rect.unit (s := S1x4096x128) (k0_off6 k (BitVec.ofNat 32 r.val)) S1x64x128.size (k0_off6_inb k r)).toLoadRect X5)⟩

set_option maxHeartbeats 4000000 in
/-- One trip stores its 32 row blocks, the last first in the list. -/
theorem trip_eq  (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S2x8x64x512 .bf16) (harg8 : arg8.IsWhole) (arg9 : Memref sig .tc .vmem S1x4096x128 .bf16) (harg9 : arg9.IsWhole) (arg10 : Memref sig .tc .vmem S4096x128 .bf16) (harg10 : arg10.IsWhole) (arg11 : Memref sig .tc .vmem S4096x128 .bf16) (harg11 : arg11.IsWhole) (v13 : IVec S1x128 1) (X_arg4 : BufTy.Contents (Elt Ideal) arg4.view.ty) (X_arg5 : BufTy.Contents (Elt Ideal) arg5.view.ty) (X_arg8 : BufTy.Contents (Elt Ideal) arg8.view.ty) (X_arg10 : BufTy.Contents (Elt Ideal) arg10.view.ty) (X_arg11 : BufTy.Contents (Elt Ideal) arg11.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 v13 X_arg4 X_arg5 X_arg8 X_arg10 X_arg11 k
      = (List.ofFn fun r : Fin 32 => piece arg4 arg5 arg8 arg10 arg11 v13 X_arg4 X_arg5 X_arg8 X_arg10 X_arg11 k r.rev) := by
  unfold tripL_k0_t1 trip_k0_t1
  dsimp only
  rfl

end Cert.KernelIdeal.NattenRow
end
-- ==== Proof.Scalars.lean ====
/- Facts about the extended reals that several of the calls use: the constants the kernels spell as
   words, and the logistic function written through the hyperbolic tangent. -/
module

public import Idealize.ShloMosaic.PureOps.Ideal
public import Idealize.ShloMosaic.Lib.IdealHost
public import Mathlib.Analysis.SpecialFunctions.Trigonometric.DerivHyp

@[expose] public section

noncomputable section

open Idealize.ShloMosaic

namespace Cert.Scalars

/-- The word `0x3F000000` is one half. -/
theorem half : Ideal.ofBits .f32 0x3F000000#32 = ((1 / 2 : ℝ) : EReal) := by
  simp [Ideal.ofBits, Ideal.ieee, -EReal.coe_mul]; norm_num

/-- `½ tanh(½ r) + ½ = 1 / (1 + e⁻ʳ)` over the reals. -/
theorem tanh_half (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [h1]
  have pa := Real.exp_pos (1 / 2 * r)
  have pb := Real.exp_pos (-(1 / 2 * r))
  generalize Real.exp (1 / 2 * r) = a at *
  generalize Real.exp (-(1 / 2 * r)) = b at *
  have hs : a + b ≠ 0 := by positivity
  have hb : 1 + b * b ≠ 0 := by positivity
  field_simp
  linear_combination (2 * b) * h2

/-- The kernels' sigmoid, spelt through `tanh`, is the logistic function at every extended real. -/
theorem sigmoid (x : EReal) :
    ((1 / 2 : ℝ) : EReal) * Ideal.tanh (((1 / 2 : ℝ) : EReal) * x) + ((1 / 2 : ℝ) : EReal) = Ideal.logistic x := by
  have hp : (0 : ℝ) < 1 / 2 := by norm_num
  induction x with
  | bot =>
    rw [EReal.coe_mul_bot_of_pos hp, Ideal.tanh_bot, Ideal.logistic_bot]
    rw [show (-1 : EReal) = ((-1 : ℝ) : EReal) by simp, ← EReal.coe_mul, ← EReal.coe_add]; norm_num
  | top =>
    rw [EReal.coe_mul_top_of_pos hp, Ideal.tanh_top, Ideal.logistic_top]
    rw [mul_one, ← EReal.coe_add]; norm_num
  | coe r =>
    rw [← EReal.coe_mul, Ideal.tanh_coe, Ideal.logistic_coe, ← EReal.coe_mul, ← EReal.coe_add, tanh_half]

end Cert.Scalars

end
-- ==== Proof.NattenMath.lean ====
module

public import proofs.«01_k».proof.Proof.Scalars

/-!
The mathematics of the neighbourhood attention, on extended reals: a softmax over a window in which masked places
score −∞ is the softmax over the places that are not masked, a normalised head is real, and a scale of the queries
is a scale of the scores.
-/

@[expose] public section
noncomputable section
open Idealize.ShloMosaic
namespace Cert.NattenMath

/-- A sum times a nonnegative real is the sum of the products. -/
theorem sum_mul_real {ι : Type} [Fintype ι] (f : ι → EReal) {c : ℝ} (hc : 0 ≤ c) :
    (∑ i, f i) * (c : EReal) = ∑ i, f i * (c : EReal) := by
  classical
  have hc' : (0 : EReal) ≤ (c : EReal) := EReal.coe_nonneg.2 hc
  have h : ∀ s : Finset ι, (∑ i ∈ s, f i) * (c : EReal) = ∑ i ∈ s, f i * (c : EReal) := by
    intro s
    induction s using Finset.induction_on with
    | empty => simp
    | insert a s ha ih =>
      rw [Finset.sum_insert ha, Finset.sum_insert ha, ← ih]
      exact EReal.right_distrib_of_nonneg_of_ne_top hc' (EReal.coe_ne_top c) _ _
  exact h _

/-- A sum of reals is real. -/
theorem sum_real {ι : Type} [Fintype ι] (r : ι → ℝ) : ∑ i, ((r i : ℝ) : EReal) = ((∑ i, r i : ℝ) : EReal) := by
  classical
  have h : ∀ s : Finset ι, ∑ i ∈ s, ((r i : ℝ) : EReal) = ((∑ i ∈ s, r i : ℝ) : EReal) := by
    intro s
    induction s using Finset.induction_on with
    | empty => simp
    | insert a s ha ih => rw [Finset.sum_insert ha, Finset.sum_insert ha, ih, EReal.coe_add]
  exact h _

/-- The fold of the maximum from −∞ is the supremum. -/
theorem fold_max {ι : Type} [Fintype ι] (f : ι → EReal) : Finset.fold max ⊥ f Finset.univ = Finset.univ.sup f := rfl

/-- Scores `s` of the places that count, at distinct places `σ` of a window whose other places score −∞: the
weighted sum over the window divided by the sum of the weights is the softmax average over the places that count. -/
theorem softmax_window {n N : ℕ} [NeZero n] (s : Fin n → EReal) (hs : ∀ i, ∃ r : ℝ, s i = (r : EReal))
    (σ : Fin n → Fin N) (hσ : Function.Injective σ) (w : Fin N → EReal) (v : Fin N → EReal)
    (h1 : ∀ i, w (σ i) = s i) (h2 : ∀ j, j ∉ Set.range σ → w j = ⊥) :
    Ideal.div (∑ j, Ideal.exp (w j - Finset.fold max ⊥ w Finset.univ) * v j)
        (∑ j, Ideal.exp (w j - Finset.fold max ⊥ w Finset.univ))
      = ∑ i, Ideal.div (Ideal.exp (s i - Finset.fold max ⊥ s Finset.univ))
          (∑ i, Ideal.exp (s i - Finset.fold max ⊥ s Finset.univ)) * v (σ i) := by
  have hM : Finset.fold max ⊥ w Finset.univ = Finset.fold max ⊥ s Finset.univ := by
    rw [fold_max, fold_max]
    apply le_antisymm
    · refine Finset.sup_le fun j _ => ?_
      by_cases hj : j ∈ Set.range σ
      · obtain ⟨i, rfl⟩ := hj
        rw [h1]; exact Finset.le_sup (Finset.mem_univ i)
      · rw [h2 j hj]; exact bot_le
    · refine Finset.sup_le fun i _ => ?_
      rw [← h1]; exact Finset.le_sup (Finset.mem_univ (σ i))
  rw [hM]
  obtain ⟨μ, hμ⟩ : ∃ μ : ℝ, Finset.fold max ⊥ s Finset.univ = (μ : EReal) := by
    rw [fold_max]
    obtain ⟨i, _, hi⟩ := Finset.exists_mem_eq_sup Finset.univ ⟨(0 : Fin n), Finset.mem_univ _⟩ s
    obtain ⟨r, hr⟩ := hs i
    exact ⟨r, by rw [hi, hr]⟩
  rw [hμ]
  choose r hr using hs
  have hoff : ∀ j, j ∉ Set.range σ → Ideal.exp (w j - (μ : EReal)) = 0 := fun j hj => by
    rw [h2 j hj, EReal.bot_sub, Ideal.exp_bot]
  have hon : ∀ i, Ideal.exp (s i - (μ : EReal)) = ((Real.exp (r i - μ) : ℝ) : EReal) := fun i => by
    rw [hr, ← EReal.coe_sub, Ideal.exp_coe]
  have hS : (∑ j, Ideal.exp (w j - (μ : EReal))) = ∑ i, Ideal.exp (s i - (μ : EReal)) :=
    (Fintype.sum_of_injective σ hσ _ _ hoff (fun i => by rw [h1])).symm
  have hN : (∑ j, Ideal.exp (w j - (μ : EReal)) * v j) = ∑ i, Ideal.exp (s i - (μ : EReal)) * v (σ i) :=
    (Fintype.sum_of_injective σ hσ _ _ (fun j hj => by rw [hoff j hj, zero_mul]) (fun i => by rw [h1])).symm
  have hpos : 0 < ∑ i, Real.exp (r i - μ) :=
    Finset.sum_pos (fun i _ => Real.exp_pos _) ⟨(0 : Fin n), Finset.mem_univ _⟩
  have hsum : (∑ i, Ideal.exp (s i - (μ : EReal))) = ((∑ i, Real.exp (r i - μ) : ℝ) : EReal) := by
    rw [← sum_real]; exact Finset.sum_congr rfl fun i _ => hon i
  rw [hS, hN, hsum, Ideal.div_coe hpos.ne', sum_mul_real _ (by positivity)]
  refine Finset.sum_congr rfl fun i _ => ?_
  rw [Ideal.div_coe hpos.ne', mul_assoc, mul_assoc, mul_comm (v (σ i))]

/-- A head divided by the root of its mean square plus a positive number is real: where an entry is infinite the
root is infinite and every quotient zero. -/
theorem norm_real {n : ℕ} (x : Fin n → EReal) {c e : ℝ} (hc : 0 < c) (he : 0 < e) (i : Fin n) :
    ∃ r : ℝ, x i * Ideal.rsqrt ((∑ d, x d * x d) * (c : EReal) + (e : EReal)) = (r : EReal) := by
  have hnn : ∀ d, 0 ≤ x d * x d := fun d => by
    rcases le_total 0 (x d) with h | h
    · exact mul_nonneg h h
    · rw [← neg_mul_neg]
      have : 0 ≤ -x d := by rw [EReal.le_neg]; simpa using h
      exact mul_nonneg this this
  by_cases hx : ∀ d, ∃ r : ℝ, x d = (r : EReal)
  · choose r hr using hx
    have h : (∑ d, x d * x d) * (c : EReal) + (e : EReal) = (((∑ d, r d * r d) * c + e : ℝ) : EReal) := by
      rw [EReal.coe_add, EReal.coe_mul, ← sum_real]
      simp only [hr, EReal.coe_mul]
    have hp : 0 < (∑ d, r d * r d) * c + e := by
      have : 0 ≤ ∑ d, r d * r d := Finset.sum_nonneg fun d _ => mul_self_nonneg _
      positivity
    rw [h, Ideal.rsqrt_coe, if_neg hp.not_gt, if_neg hp.ne', hr, ← EReal.coe_mul]
    exact ⟨_, rfl⟩
  · obtain ⟨d, hd⟩ := not_forall.1 hx
    have htop : x d * x d = ⊤ := by
      obtain h | ⟨r, h⟩ | h : x d = ⊥ ∨ (∃ r : ℝ, x d = r) ∨ x d = ⊤ := by induction x d <;> simp
      · rw [h]; rfl
      · exact absurd ⟨r, h⟩ hd
      · rw [h]; rfl
    have hs : (∑ d, x d * x d) = ⊤ :=
      top_le_iff.1 (htop ▸ Finset.single_le_sum (f := fun d => x d * x d) (fun d _ => hnn d) (Finset.mem_univ d))
    rw [hs, EReal.top_mul_coe_of_pos hc, EReal.top_add_coe, Ideal.rsqrt_top, mul_zero]
    exact ⟨0, rfl⟩

/-- The scores of queries that carry a nonnegative real scale are the scores times the scale. -/
theorem score_scale {n : ℕ} (a g k : Fin n → EReal) {c : ℝ} (hc : 0 ≤ c) :
    (∑ d, a d * (g d * (c : EReal)) * k d) = (∑ d, a d * g d * k d) * (c : EReal) := by
  rw [sum_mul_real _ hc]
  refine Finset.sum_congr rfl fun d _ => ?_
  rw [← mul_assoc, mul_right_comm]

/-- Products and sums of reals are real: the score of a place. -/
theorem score_real {n : ℕ} (a k : Fin n → EReal) (ha : ∀ d, ∃ r : ℝ, a d = r) (hk : ∀ d, ∃ r : ℝ, k d = r)
    (c : ℝ) (b : EReal) (hb : ∃ r : ℝ, b = r) : ∃ r : ℝ, (∑ d, a d * k d) * (c : EReal) + b = r := by
  choose ra hra using ha
  choose rk hrk using hk
  obtain ⟨rb, rfl⟩ := hb
  have : (∑ d, a d * k d) = ((∑ d, ra d * rk d : ℝ) : EReal) := by
    rw [← sum_real]; exact Finset.sum_congr rfl fun d _ => by rw [hra, hrk, EReal.coe_mul]
  exact ⟨(∑ d, ra d * rk d) * c + rb, by rw [this, EReal.coe_add, EReal.coe_mul]⟩

end Cert.NattenMath
end
-- ==== Proof.NattenHead.lean ====
module

public import proofs.«01_k».proof.Proof.NattenRow
public import proofs.«01_k».proof.Proof.NattenMath

/-!
The neighbourhood attention kernel at an index: the output of a row block at a place and a lane of one head, and
the normalised queries and keys.
-/

@[expose] public section
set_option maxRecDepth 16384
noncomputable section
open Idealize.ShloMosaic Idealize.SL.Sem Idealize.ShloMosaic.Pipeline
namespace Cert.KernelIdeal.NattenHead
open Cert.KernelIdeal Cert.KernelIdeal.Gen Cert.KernelIdeal.NattenRow

/-- Lane `d` of head `hh` among the 128 lanes of two heads. -/
def lane (hh : Fin 2) (d : Fin 64) : Fin 128 := ⟨64 * hh.val + d.val, by omega⟩

/-- Row `p` of head `hh` among the 128 stacked query rows. -/
def stack (hh : Fin 2) (p : Fin 64) : Fin 128 := ⟨64 * hh.val + p.val, by omega⟩

/-- A sum over the lanes is the sum over the two heads' lanes. -/
theorem sum_lane (f : Fin 128 → EReal) : ∑ k, f k = ∑ d, f (lane 0 d) + ∑ d, f (lane 1 d) := by
  have h := Fin.sum_univ_add (a := 64) (b := 64) (f := fun k : Fin (64 + 64) => f k)
  refine h.trans ?_
  refine congrArg₂ (· + ·) (Finset.sum_congr rfl fun d _ => congrArg f (Fin.ext ?_))
    (Finset.sum_congr rfl fun d _ => congrArg f (Fin.ext ?_))
  · show d.val = 64 * 0 + d.val; omega
  · show 64 + d.val = 64 * 1 + d.val; omega

/-- The mask of the lower head chooses its first argument on that head's lanes. -/
theorem select_lane {α : Type} (hh : Fin 2) (d : Fin 64) (a b : α) :
    Scalar.select (IntOp.cmpi CmpIPredicate.slt (BitVec.ofNat 32 (lane hh d).val) 64#32) a b = if hh = 0 then a else b := by
  have h : ∀ hh : Fin 2, ∀ d : Fin 64, IntOp.cmpi CmpIPredicate.slt (BitVec.ofNat 32 (lane hh d).val) 64#32
      = if hh = 0 then 1#1 else 0#1 := by decide +kernel
  rw [h]; split <;> rfl

/-- The head mask of the ones matrix is one exactly on the lanes of the same head. -/
theorem select_block {α : Type} (hh h' : Fin 2) (d d' : Fin 64) (a b : α) :
    Scalar.select (IntOp.cmpi CmpIPredicate.eq (IntOp.shrsi ArithUnit.vector (BitVec.ofNat 32 (lane h' d').val) 6#32)
        (IntOp.shrsi ArithUnit.vector (BitVec.ofNat 32 (lane hh d).val) 6#32)) a b = if h' = hh then a else b := by
  have h : ∀ hh : Fin 2, ∀ d : Fin 64, IntOp.shrsi ArithUnit.vector (BitVec.ofNat 32 (lane hh d).val) 6#32
      = BitVec.ofNat 32 hh.val := by decide +kernel
  have h2 : ∀ hh h' : Fin 2, IntOp.cmpi CmpIPredicate.eq (BitVec.ofNat 32 h'.val) (BitVec.ofNat 32 hh.val)
      = if h' = hh then 1#1 else 0#1 := by decide +kernel
  rw [h, h, h2]; split <;> rfl

/-- The stacked queries: each head's rows hold that head's lanes, the other head's being zero. -/
theorem pay5_apply (q : Vec Ideal S64x128 .bf16) (hh h' : Fin 2) (p d : Fin 64) :
    k0_pay5 (F := Ideal) k0_pay245 q (ix2 (stack hh p) (lane h' d)) = if h' = hh then q (ix2 p (lane h' d)) else 0 := by
  pointwise [k0_pay5, k0_pay245, k0_pay4]
  have hs := select_lane (α := EReal) h' d
  by_cases h0 : hh = 0
  · subst h0
    have : ((stack 0 p).val) < 64 := by show 64 * 0 + p.val < 64; omega
    rw [dif_pos this, hs]
    have hp : (⟨(stack 0 p).val, this⟩ : Fin 64) = p := Fin.ext (by show 64 * 0 + p.val = p.val; omega)
    rw [hp]
  · obtain rfl : hh = 1 := by omega
    have : ¬ ((stack 1 p).val) < 64 := by show ¬ 64 * 1 + p.val < 64; omega
    rw [dif_neg this, hs]
    have hp : (⟨(stack 1 p).val - 64, by have := (stack 1 p).isLt; omega⟩ : Fin 64) = p :=
      Fin.ext (by show 64 * 1 + p.val - 64 = p.val; omega)
    rw [hp]
    fin_cases h' <;> rfl

/-- The scores: one product of a query row with a key row. -/
theorem pay42_apply (q : FVec Ideal S128x128 .bf16) (kk : Vec Ideal S512x128 .bf16) (a : Fin 128) (j : Fin 512) :
    k0_pay42 (F := Ideal) q kk (ix2 a j) = ∑ l : Fin 128, q (ix2 a l) * kk (ix2 j l) := by
  pointwise [k0_pay42]

/-- The scores with the bias of the row's head. -/
theorem pay74_apply (s : FVec Ideal S128x512 .f32) (b : Fin 2 → Vec Ideal S1x1x64x512 .bf16) (hh : Fin 2) (p : Fin 64)
    (j : Fin 512) :
    k0_pay74 (F := Ideal) s (b 0) (b 1) (ix2 (stack hh p) j) = s (ix2 (stack hh p) j) + b hh (ix4 0 0 p j) := by
  pointwise [k0_pay74]
  congr 1
  by_cases h0 : hh = 0
  · subst h0
    have : ((stack 0 p).val) < 64 := by show 64 * 0 + p.val < 64; omega
    rw [dif_pos this]
    exact congrArg (b 0) (congrArg (fun x => ix4 0 0 x j) (Fin.ext (by show 64 * 0 + p.val = p.val; omega)))
  · obtain rfl : hh = 1 := by omega
    have : ¬ ((stack 1 p).val) < 64 := by show ¬ 64 * 1 + p.val < 64; omega
    rw [dif_neg this]
    exact congrArg (b 1) (congrArg (fun x => ix4 0 0 x j) (Fin.ext (by show 64 * 1 + p.val - 64 = p.val; omega)))

/-- The bits of −∞. -/
theorem neg_inf : Ideal.ofBits .f32 0xFF800000#32 = ⊥ := by
  simp [Ideal.ofBits, Ideal.ieee, -EReal.coe_mul]

/-- The weights: exponentials of the scores less their row's maximum. -/
theorem pay106_apply (s : FVec Ideal S128x512 .f32) (a : Fin 128) (j : Fin 512) :
    k0_pay106 (F := Ideal) s (ix2 a j)
      = Ideal.exp (s (ix2 a j) - Finset.fold max ⊥ (fun x : Fin 512 => s (ix2 a x)) Finset.univ) := by
  pointwise [k0_pay106]
  rw [neg_inf]

/-- Lane `l` of the weighted values. -/
def valCol (l : Fin 128) : Fin 256 := ⟨l.val, by omega⟩

/-- Lane `l` of the sums of the weights. -/
def sumCol (l : Fin 128) : Fin 256 := ⟨128 + l.val, by omega⟩

/-- The weighted values. -/
theorem pay170_val (e : FVec Ideal S128x512 .bf16) (v : Vec Ideal S1x512x128 .bf16) (a l : Fin 128) :
    k0_pay170 (F := Ideal) k0_pay2 e v (ix2 a (valCol l)) = ∑ j : Fin 512, e (ix2 a j) * v (ix3 0 j l) := by
  pointwise [k0_pay170, k0_pay2]
  refine Finset.sum_congr rfl fun j _ => ?_
  have : (valCol l).val < 128 := l.isLt
  rw [dif_pos this]
  rfl

/-- The sums of the weights. -/
theorem pay170_sum (e : FVec Ideal S128x512 .bf16) (v : Vec Ideal S1x512x128 .bf16) (a l : Fin 128) :
    k0_pay170 (F := Ideal) k0_pay2 e v (ix2 a (sumCol l)) = ∑ j : Fin 512, e (ix2 a j) := by
  pointwise [k0_pay170, k0_pay2]
  refine Finset.sum_congr rfl fun j _ => ?_
  have : ¬ (sumCol l).val < 128 := by show ¬ 128 + l.val < 128; omega
  rw [dif_neg this, mul_one]

/-- The row block's last step: the quotient of its head's row, times the gate. -/
theorem pay174_apply (o2 : FVec Ideal S128x256 .f32) (g : Vec Ideal S1x64x128 .bf16) (hh : Fin 2) (p d : Fin 64) :
    k0_pay174 (F := Ideal) k0_pay245 o2 g (ix3 0 p (lane hh d))
      = Ideal.div (o2 (ix2 (stack hh p) (valCol (lane hh d)))) (o2 (ix2 (stack hh p) (sumCol (lane hh d))))
        * (g (ix3 0 p (lane hh d)) * Ideal.logistic (g (ix3 0 p (lane hh d)))) := by
  pointwise [k0_pay174, k0_pay245]
  rw [select_lane, Cert.Scalars.half, Cert.Scalars.sigmoid]
  congr 1
  by_cases h0 : hh = 0
  · subst h0
    rw [if_pos rfl]
    have : (⟨p.val, by omega⟩ : Fin 128) = stack 0 p := Fin.ext (by show p.val = 64 * 0 + p.val; omega)
    rw [← this]; rfl
  · obtain rfl : hh = 1 := by omega
    rw [if_neg h0]
    rfl

/-- A row block at a place and a lane of one head: the head's weighted values divided by the sum of its weights,
times the gate. -/
theorem rowOut_apply (q : Vec Ideal S64x128 .bf16) (kk : Vec Ideal S512x128 .bf16)
    (b : Fin 2 → Vec Ideal S1x1x64x512 .bf16) (v : Vec Ideal S1x512x128 .bf16) (g : Vec Ideal S1x64x128 .bf16)
    (hh : Fin 2) (p d : Fin 64) (w : Fin 512 → EReal)
    (hw : ∀ j, w j = (∑ d' : Fin 64, q (ix2 p (lane hh d')) * kk (ix2 j (lane hh d'))) + b hh (ix4 0 0 p j)) :
    rowOut k0_pay245 q kk (b 0) (b 1) v g (ix3 0 p (lane hh d))
      = Ideal.div (∑ j, Ideal.exp (w j - Finset.fold max ⊥ w Finset.univ) * v (ix3 0 j (lane hh d)))
          (∑ j, Ideal.exp (w j - Finset.fold max ⊥ w Finset.univ))
        * (g (ix3 0 p (lane hh d)) * Ideal.logistic (g (ix3 0 p (lane hh d)))) := by
  have hsc : ∀ j, k0_pay74 (F := Ideal) (k0_pay42 (k0_pay5 k0_pay245 q) kk) (b 0) (b 1) (ix2 (stack hh p) j) = w j := by
    intro j
    rw [pay74_apply, pay42_apply, sum_lane, hw]
    congr 1
    simp only [pay5_apply]
    by_cases h0 : hh = 0
    · subst h0; simp
    · obtain rfl : hh = 1 := by omega
      simp
  have he : ∀ j, k0_pay106 (F := Ideal) (k0_pay74 (k0_pay42 (k0_pay5 k0_pay245 q) kk) (b 0) (b 1)) (ix2 (stack hh p) j)
      = Ideal.exp (w j - Finset.fold max ⊥ w Finset.univ) := by
    intro j
    rw [pay106_apply]
    simp only [hsc]
  unfold rowOut
  rw [pay174_apply, pay170_val, pay170_sum]
  simp only [he]

/-- The bits of 1/64. -/
theorem lit_64th : Ideal.ofBits .f32 0x3C800000#32 = ((1 / 64 : ℝ) : EReal) := by
  simp [Ideal.ofBits, Ideal.ieee, -EReal.coe_mul]; norm_num

/-- The bits of 1/8. -/
theorem lit_8th : Ideal.ofBits .f32 0x3E000000#32 = ((1 / 8 : ℝ) : EReal) := by
  simp [Ideal.ofBits, Ideal.ieee, -EReal.coe_mul]; norm_num

/-- The bits of one. -/
theorem lit_one : Ideal.ofBits .f32 0x3F800000#32 = 1 := by
  simp [Ideal.ofBits, Ideal.ieee, -EReal.coe_mul]; norm_num

/-- The normalised queries at an index, the scale of the scores inside the gain. -/
theorem pay246_apply (x : Vec Ideal S1x4096x128 .bf16) (g : Vec Ideal S1x128 .f32) (t : Fin 4096) (hh : Fin 2) (d : Fin 64) :
    k0_pay246 (F := Ideal) x g (ix2 t (lane hh d))
      = x (ix3 0 t (lane hh d)) * Ideal.rsqrt ((∑ d' : Fin 64, x (ix3 0 t (lane hh d')) * x (ix3 0 t (lane hh d')))
          * ((1 / 64 : ℝ) : EReal) + Ideal.ofBits .f32 0x358637BD#32) * (g (ix2 0 (lane hh d)) * ((1 / 8 : ℝ) : EReal)) := by
  pointwise [k0_pay246, k0_pay244]
  rw [sum_lane]
  simp only [select_block, lit_64th, lit_8th]
  by_cases h0 : hh = 0
  · subst h0; simp
  · obtain rfl : hh = 1 := by omega
    simp

/-- The normalised keys at an index. -/
theorem pay1_apply (x : FVec Ideal S4096x128 .bf16) (g : Vec Ideal S1x128 .f32) (t : Fin 4096) (hh : Fin 2) (d : Fin 64) :
    k0_pay1 (F := Ideal) k0_pay244 x g (ix2 t (lane hh d))
      = x (ix2 t (lane hh d)) * Ideal.rsqrt ((∑ d' : Fin 64, x (ix2 t (lane hh d')) * x (ix2 t (lane hh d')))
          * ((1 / 64 : ℝ) : EReal) + Ideal.ofBits .f32 0x358637BD#32) * g (ix2 0 (lane hh d)) := by
  pointwise [k0_pay1, k0_pay244]
  rw [sum_lane]
  simp only [select_block, lit_64th, lit_one, mul_one]
  by_cases h0 : hh = 0
  · subst h0; simp
  · obtain rfl : hh = 1 := by omega
    simp

end Cert.KernelIdeal.NattenHead
end
-- ==== Proof.NattenSpec.lean ====
module

public import proofs.«01_k».proof.Proof.NattenMath
public import Idealize.ShloMosaic.Lib.Pointwise

/-!
Neighbourhood attention on a grid of 64 by 64 tokens, in plain form: every token attends to the 8 rows and 16
columns nearest it.
-/

@[expose] public section
noncomputable section
open Idealize.ShloMosaic
namespace Cert.NattenSpec

/-- The projections of all tokens: queries, keys, values and gates, 1024 columns each. -/
abbrev Proj := (⟨3, ![4, 4096, 4096]⟩ : Shape).Idx → EReal
/-- A gain for the 64 entries of a head. -/
abbrev Gain := (⟨1, ![64]⟩ : Shape).Idx → EReal
/-- The bias of a head at a relative row and column. -/
abbrev Bias := (⟨3, ![16, 15, 31]⟩ : Shape).Idx → EReal

/-- The token at row `i`, column `p` of the grid. -/
def tok (i p : Fin 64) : Fin 4096 := ⟨i.val * 64 + p.val, by omega⟩

/-- Entry `d` of head `h` among the 1024 columns of all heads. -/
def hcol (h : Fin 16) (d : Fin 64) : Fin 1024 := ⟨h.val * 64 + d.val, by omega⟩

/-- Entry `d` of head `h` of section `s` (queries, keys, values, gates) among all columns. -/
def scol (s : Fin 4) (h : Fin 16) (d : Fin 64) : Fin 4096 := ⟨s.val * 1024 + (h.val * 64 + d.val), by omega⟩

/-- Entry `d` of head `h` of section `s` of a token. -/
def head (X : Proj) (b : Fin 4) (s : Fin 4) (t : Fin 4096) (h : Fin 16) (d : Fin 64) : EReal := X (ix3 b t (scol s h d))

/-- A head divided by the root of its mean square. -/
def nrm (x : Fin 64 → EReal) (d : Fin 64) : EReal :=
  x d * Ideal.rsqrt ((∑ d', x d' * x d') * ((1 / 64 : ℝ) : EReal) + Ideal.ofBits .f32 0x358637BD#32)

/-- The `r`-th of the eight rows about row `i`. -/
def rowAt (i : Fin 64) (r : Fin 8) : Fin 64 := ⟨min (i.val - 4) 56 + r.val, by omega⟩

/-- The `c`-th of the sixteen columns about column `p`. -/
def colAt (p : Fin 64) (c : Fin 16) : Fin 64 := ⟨min (p.val - 8) 48 + c.val, by omega⟩

/-- The row number of neighbour `n`. -/
def nrow (n : Fin 128) : Fin 8 := ⟨n.val / 16, by omega⟩

/-- The column number of neighbour `n`. -/
def ncol (n : Fin 128) : Fin 16 := ⟨n.val % 16, by omega⟩

/-- Neighbour `n` of the token at row `i`, column `p`. -/
def nbr (i p : Fin 64) (n : Fin 128) : Fin 4096 := tok (rowAt i (nrow n)) (colAt p (ncol n))

/-- How many rows below its token the neighbour's row lies, from −7. -/
def relR (i : Fin 64) (r : Fin 8) : Fin 15 := ⟨(rowAt i r).val + 7 - i.val, by simp only [rowAt]; omega⟩

/-- How many columns right of its token the neighbour's column lies, from −15. -/
def relC (p : Fin 64) (c : Fin 16) : Fin 31 := ⟨(colAt p c).val + 15 - p.val, by simp only [colAt]; omega⟩

/-- The score of neighbour `n`. -/
def score (X : Proj) (gq gk : Gain) (B : Bias) (b : Fin 4) (i p : Fin 64) (h : Fin 16) (n : Fin 128) : EReal :=
  (∑ d, (nrm (head X b 0 (tok i p) h) d * gq (ix1 d)) * (nrm (head X b 1 (nbr i p n) h) d * gk (ix1 d)))
      * ((1 / 8 : ℝ) : EReal) + B (ix3 h (relR i (nrow n)) (relC p (ncol n)))

/-- The output: the softmax average of the neighbours' values, times the gate. -/
def attn (X : Proj) (gq gk : Gain) (B : Bias) (b : Fin 4) (i p : Fin 64) (h : Fin 16) (d : Fin 64) : EReal :=
  (∑ n, Ideal.div (Ideal.exp (score X gq gk B b i p h n - Finset.fold max ⊥ (score X gq gk B b i p h) Finset.univ))
        (∑ n, Ideal.exp (score X gq gk B b i p h n - Finset.fold max ⊥ (score X gq gk B b i p h) Finset.univ))
      * head X b 2 (nbr i p n) h d)
    * (head X b 3 (tok i p) h d * Ideal.logistic (head X b 3 (tok i p) h d))

/-- The bits of the number added to the mean square are a positive real. -/
theorem eps_real : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A normalised head is real. -/
theorem nrm_real (x : Fin 64 → EReal) (d : Fin 64) : ∃ r : ℝ, nrm x d = (r : EReal) := by
  obtain ⟨e, he, h⟩ := eps_real
  unfold nrm
  rw [h]
  exact NattenMath.norm_real x (by norm_num) he d

/-- A product of reals is real. -/
theorem mul_real {a b : EReal} (ha : ∃ r : ℝ, a = r) (hb : ∃ r : ℝ, b = r) : ∃ r : ℝ, a * b = r := by
  obtain ⟨ra, rfl⟩ := ha; obtain ⟨rb, rfl⟩ := hb; exact ⟨ra * rb, (EReal.coe_mul _ _).symm⟩

/-- With real gains and bias every score is real. -/
theorem score_real (X : Proj) (gq gk : Gain) (B : Bias) (hq : ∀ d, ∃ r : ℝ, gq d = r) (hk : ∀ d, ∃ r : ℝ, gk d = r)
    (hB : ∀ x, ∃ r : ℝ, B x = r) (b : Fin 4) (i p : Fin 64) (h : Fin 16) (n : Fin 128) :
    ∃ r : ℝ, score X gq gk B b i p h n = r :=
  NattenMath.score_real _ _ (fun d => mul_real (nrm_real _ d) (hq _)) (fun d => mul_real (nrm_real _ d) (hk _)) _ _ (hB _)

end Cert.NattenSpec
end
-- ==== Proof.NattenRef.lean ====
module

public import proofs.«01_k».proof.Proof.Gen.ReferenceIdeal.Read
public import proofs.«01_k».proof.Proof.NattenSpec

/-!
The reference of the neighbourhood attention at an index: its tables of neighbours, its gathers, its softmax.
-/

@[expose] public section
set_option maxRecDepth 16384
noncomputable section
open Idealize.ShloMosaic Idealize.SL.Sem
namespace Cert.ReferenceIdeal.NattenRef
open Cert.ReferenceIdeal Cert.ReferenceIdeal.Read Cert.NattenSpec

/-- An index of rank two by its coordinates. -/
theorem ext2 {n0 n1 : ℕ} (x : (⟨2, ![n0, n1]⟩ : Shape).Idx) (a : Fin n0) (b : Fin n1) (h0 : (x 0).val = a.val)
    (h1 : (x 1).val = b.val) : x = ix2 a b := by
  funext k; match k with | ⟨0, _⟩ => exact Fin.ext h0 | ⟨1, _⟩ => exact Fin.ext h1

/-- An index of rank three by its coordinates. -/
theorem ext3 {n0 n1 n2 : ℕ} (x : (⟨3, ![n0, n1, n2]⟩ : Shape).Idx) (a : Fin n0) (b : Fin n1) (c : Fin n2)
    (h0 : (x 0).val = a.val) (h1 : (x 1).val = b.val) (h2 : (x 2).val = c.val) : x = ix3 a b c := by
  funext k; match k with | ⟨0, _⟩ => exact Fin.ext h0 | ⟨1, _⟩ => exact Fin.ext h1 | ⟨2, _⟩ => exact Fin.ext h2

/-- An index of rank four by its coordinates. -/
theorem ext4 {n0 n1 n2 n3 : ℕ} (x : (⟨4, ![n0, n1, n2, n3]⟩ : Shape).Idx) (a : Fin n0) (b : Fin n1) (c : Fin n2)
    (d : Fin n3) (h0 : (x 0).val = a.val) (h1 : (x 1).val = b.val) (h2 : (x 2).val = c.val) (h3 : (x 3).val = d.val) :
    x = ix4 a b c d := by
  funext k
  match k with | ⟨0, _⟩ => exact Fin.ext h0 | ⟨1, _⟩ => exact Fin.ext h1 | ⟨2, _⟩ => exact Fin.ext h2 | ⟨3, _⟩ => exact Fin.ext h3

/-- The table of neighbouring rows. -/
theorem rows_apply (i : Fin 64) (r : Fin 8) :
    val_main_v43 (F := Ideal) (ix2 i r) = BitVec.ofNat 32 (rowAt i r).val := by
  simp only [val_main_v43_apply, val_main_v42_apply, val_main_v41_apply, val_main_v40_apply, val_main_v39_apply,
    val_main_v38_apply, val_main_call0_v4_apply, val_main_call0_v3_apply, val_main_call0_v2_apply,
    val_main_call0_v1_apply, val_main_call0_v0_apply, val_main_c_5_apply, val_main_c_6_apply, val_main_v37_apply,
    val_main_v36_apply, val_main_v35_apply, val_main_v34_apply, val_main_c_apply]
  exact (by decide +kernel : ∀ i : Fin 64, ∀ r : Fin 8, IntOp.addi (IntOp.minsi 56#32 (IntOp.maxsi 0#32
    (IntOp.subi (BitVec.ofNat 32 i.val) 4#32))) (BitVec.ofNat 32 r.val) = BitVec.ofNat 32 (rowAt i r).val) i r

/-- The table of neighbouring columns. -/
theorem cols_apply (p : Fin 64) (c : Fin 16) :
    val_main_v53 (F := Ideal) (ix2 p c) = BitVec.ofNat 32 (colAt p c).val := by
  simp only [val_main_v53_apply, val_main_v52_apply, val_main_v51_apply, val_main_v50_apply, val_main_v49_apply,
    val_main_v48_apply, val_main_call1_v4_apply, val_main_call1_v3_apply, val_main_call1_v2_apply,
    val_main_call1_v1_apply, val_main_call1_v0_apply, val_main_c_8_apply, val_main_c_9_apply, val_main_v47_apply,
    val_main_v46_apply, val_main_v45_apply, val_main_v44_apply, val_main_c_7_apply]
  exact (by decide +kernel : ∀ i : Fin 64, ∀ r : Fin 16, IntOp.addi (IntOp.minsi 48#32 (IntOp.maxsi 0#32
    (IntOp.subi (BitVec.ofNat 32 i.val) 8#32))) (BitVec.ofNat 32 r.val) = BitVec.ofNat 32 (colAt i r).val) p c

/-- The table of relative rows. -/
theorem relRows_apply (i : Fin 64) (r : Fin 8) :
    val_main_v57 (F := Ideal) (ix2 i r) = BitVec.ofNat 32 (relR i r).val := by
  simp only [val_main_v57_apply, val_main_v56_apply, val_main_c_10_apply, val_main_v55_apply, val_main_v54_apply,
    rows_apply, val_main_v35_apply, val_main_v34_apply]
  exact (by decide +kernel : ∀ i : Fin 64, ∀ r : Fin 8, IntOp.addi (IntOp.subi (BitVec.ofNat 32 (rowAt i r).val)
    (BitVec.ofNat 32 i.val)) 7#32 = BitVec.ofNat 32 (relR i r).val) i r

/-- The table of relative columns. -/
theorem relCols_apply (p : Fin 64) (c : Fin 16) :
    val_main_v61 (F := Ideal) (ix2 p c) = BitVec.ofNat 32 (relC p c).val := by
  simp only [val_main_v61_apply, val_main_v60_apply, val_main_c_11_apply, val_main_v59_apply, val_main_v58_apply,
    cols_apply, val_main_v45_apply, val_main_v44_apply]
  exact (by decide +kernel : ∀ i : Fin 64, ∀ r : Fin 16, IntOp.addi (IntOp.subi (BitVec.ofNat 32 (colAt i r).val)
    (BitVec.ofNat 32 i.val)) 15#32 = BitVec.ofNat 32 (relC i r).val) p c

/-- The neighbouring rows by token and neighbour. -/
theorem v64_at (i p : Fin 64) (n : Fin 128) :
    val_main_v64 (F := Ideal) (ix2 (tok i p) n) = BitVec.ofNat 32 (rowAt i (nrow n)).val := by
  rw [val_main_v64_apply, val_main_v63_apply, val_main_v62_apply, ← rows_apply]
  refine congrArg _ (ext2 _ _ _ ?_ ?_)
  · show ((i.val * 64 + p.val) * 128 + n.val) / 8192 = i.val; omega
  · show ((i.val * 64 + p.val) * 128 + n.val) / 16 % 8 = n.val / 16; omega

/-- The relative rows by token and neighbour. -/
theorem v73_at (i p : Fin 64) (n : Fin 128) :
    val_main_v73 (F := Ideal) (ix2 (tok i p) n) = BitVec.ofNat 32 (relR i (nrow n)).val := by
  rw [val_main_v73_apply, val_main_v72_apply, val_main_v71_apply, ← relRows_apply]
  refine congrArg _ (ext2 _ _ _ ?_ ?_)
  · show ((i.val * 64 + p.val) * 128 + n.val) / 8192 = i.val; omega
  · show ((i.val * 64 + p.val) * 128 + n.val) / 16 % 8 = n.val / 16; omega

/-- The neighbouring columns by token and neighbour. -/
theorem v69_at (i p : Fin 64) (n : Fin 128) :
    val_main_v69 (F := Ideal) (ix2 (tok i p) n) = BitVec.ofNat 32 (colAt p (ncol n)).val := by
  rw [val_main_v69_apply, val_main_v68_apply, val_main_v67_apply, ← cols_apply]
  refine congrArg _ (ext2 _ _ _ ?_ ?_)
  · show ((i.val * 64 + p.val) * 128 + n.val) / 128 % 64 = p.val; omega
  · show ((i.val * 64 + p.val) * 128 + n.val) % 16 = n.val % 16; omega

/-- The relative columns by token and neighbour. -/
theorem v76_at (i p : Fin 64) (n : Fin 128) :
    val_main_v76 (F := Ideal) (ix2 (tok i p) n) = BitVec.ofNat 32 (relC p (ncol n)).val := by
  rw [val_main_v76_apply, val_main_v75_apply, val_main_v74_apply, ← relCols_apply]
  refine congrArg _ (ext2 _ _ _ ?_ ?_)
  · show ((i.val * 64 + p.val) * 128 + n.val) / 128 % 64 = p.val; omega
  · show ((i.val * 64 + p.val) * 128 + n.val) % 16 = n.val % 16; omega

/-- The token of a row and a column, as a word. -/
theorem word_tok : ∀ R C : Fin 64, IntOp.addi (IntOp.muli (BitVec.ofNat 32 R.val) 64#32) (BitVec.ofNat 32 C.val)
    = BitVec.ofNat 32 (R.val * 64 + C.val) := by decide +kernel

/-- A token's word is not negative. -/
theorem word_select (a : ℕ) (ha : a < 4096) (x : BitVec 32) :
    Scalar.select (IntOp.cmpi .slt (BitVec.ofNat 32 a) 0#32) x (BitVec.ofNat 32 a) = BitVec.ofNat 32 a := by
  have h : IntOp.cmpi .slt (BitVec.ofNat 32 a) 0#32 = 0#1 :=
    (by decide +kernel : ∀ a : Fin 4096, IntOp.cmpi .slt (BitVec.ofNat 32 a.val) 0#32 = 0#1) ⟨a, ha⟩
  rw [h]; rfl

/-- A small word read back as a number. -/
theorem word_nat (a : ℕ) (ha : a < 4096) : (BitVec.ofNat 32 a).toInt.toNat = a :=
  (by decide +kernel : ∀ a : Fin 4096, (BitVec.ofNat 32 a.val).toInt.toNat = a.val) ⟨a, ha⟩

/-- The token of each neighbour. -/
theorem v70_at (i p : Fin 64) (n : Fin 128) :
    val_main_v70 (F := Ideal) (ix2 (tok i p) n) = BitVec.ofNat 32 (nbr i p n).val := by
  rw [val_main_v70_apply, val_main_v66_apply, v64_at, v69_at, val_main_v65_apply, val_main_c_12_apply]
  exact word_tok _ _

/-- The start indices of the gather of the keys. -/
theorem v82_at (i p : Fin 64) (n : Fin 128) (x : S4096x128x1.Idx) (h0 : (x 0).val = (tok i p).val) (h1 : (x 1).val = n.val) :
    val_main_v82 (F := Ideal) x = BitVec.ofNat 32 (nbr i p n).val := by
  rw [val_main_v82_apply, ext2 (idx_main_v82 x) (tok i p) n h0 h1, val_main_v81_apply, val_main_v78_apply, v70_at,
    val_main_v77_apply, val_main_c_13_apply]
  exact word_select _ (nbr i p n).isLt _

/-- The start indices of the gather of the values. -/
theorem v121_at (i p : Fin 64) (n : Fin 128) (x : S4096x128x1.Idx) (h0 : (x 0).val = (tok i p).val) (h1 : (x 1).val = n.val) :
    val_main_v121 (F := Ideal) x = BitVec.ofNat 32 (nbr i p n).val := by
  rw [val_main_v121_apply, ext2 (idx_main_v121 x) (tok i p) n h0 h1, val_main_v120_apply, val_main_v117_apply, v70_at,
    val_main_v116_apply, val_main_c_23_apply]
  exact word_select _ (nbr i p n).isLt _

/-- A gather of the tokens a table names: the named token's entry. -/
theorem gather_tok (x : S4x4096x16x64.Idx → EReal) (idx : IVec S4096x128x1 32) (b : Fin 4) (t : Fin 4096) (n : Fin 128)
    (h : Fin 16) (d : Fin 64) (t' : Fin 4096)
    (hidx : ∀ y : S4096x128x1.Idx, (y 0).val = t.val → (y 1).val = n.val → idx y = BitVec.ofNat 32 t'.val)
    (y : S4x4096x128x16x64.Idx) (h0 : (y 0).val = b.val) (h1 : (y 1).val = t.val) (h2 : (y 2).val = n.val)
    (h3 : (y 3).val = h.val) (h4 : (y 4).val = d.val) :
    Host.gather gather_S4x4096x16x64_S4096x128x1_S4x4096x128x16x64_034_1_n_n_1_2_411664 x idx y = x (ix4 b t' h d) := by
  unfold Host.gather
  refine congrArg x (ext4 _ _ _ _ _ ?_ ?_ ?_ ?_)
  · show GatherDims.start _ y idx 0 + GatherDims.batchCoord _ y 0 + GatherDims.offCoord _ y 0 = _
    rw [GatherDims.batchCoord_eq_zero _ _ _ List.not_mem_nil]
    unfold GatherDims.start
    rw [dif_neg (by decide)]
    rw [Nat.zero_add]
    exact h0
  · show GatherDims.start _ y idx 1 + GatherDims.batchCoord _ y 1 + GatherDims.offCoord _ y 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    rw [hidx _ (by exact h1) (by exact h2), word_nat _ t'.isLt]
    show min t'.val 4095 + 0 + 0 = t'.val
    omega
  · show GatherDims.start _ y idx 2 + GatherDims.batchCoord _ y 2 + GatherDims.offCoord _ y 2 = _
    rw [GatherDims.batchCoord_eq_zero _ _ _ List.not_mem_nil]
    unfold GatherDims.start
    rw [dif_neg (by decide)]
    rw [Nat.zero_add]
    exact h3
  · show GatherDims.start _ y idx 3 + GatherDims.batchCoord _ y 3 + GatherDims.offCoord _ y 3 = _
    rw [GatherDims.batchCoord_eq_zero _ _ _ List.not_mem_nil]
    unfold GatherDims.start
    rw [dif_neg (by decide)]
    rw [Nat.zero_add]
    exact h4

end Cert.ReferenceIdeal.NattenRef
end
-- ==== Proof.NattenRefValue.lean ====
module

public import proofs.«01_k».proof.Proof.NattenRef
public import Idealize.ShloMosaic.Lib.Pointwise

/-!
The reference of the neighbourhood attention computes the plain form at every index.
-/

@[expose] public section
set_option maxRecDepth 16384
noncomputable section
open Idealize.ShloMosaic Idealize.SL.Sem
namespace Cert.ReferenceIdeal.NattenRef
open Cert.ReferenceIdeal Cert.ReferenceIdeal.Gen Cert.ReferenceIdeal.Read Cert.NattenSpec

/-- The gather of the bias table at the relative row and column of a neighbour. -/
theorem gather_bias (x : S16x15x31.Idx → EReal) (h : Fin 16) (i p : Fin 64) (n : Fin 128) (y : S16x4096x128.Idx)
    (h0 : (y 0).val = h.val) (h1 : (y 1).val = (tok i p).val) (h2 : (y 2).val = n.val) :
    Host.gather gather_S16x15x31_S4096x128x2_S16x4096x128_0_12_n_n_12_2_1611 x (val_main_v99 (F := Ideal)) y
      = x (ix3 h (relR i (nrow n)) (relC p (ncol n))) := by
  have hr : ∀ z : S4096x128x2.Idx, (z 0).val = (tok i p).val → (z 1).val = n.val → (z 2).val = 0 →
      val_main_v99 (F := Ideal) z = BitVec.ofNat 32 (relR i (nrow n)).val := by
    intro z z0 z1 z2
    unfold val_main_v99
    pointwise
    rw [dif_pos (by rw [z2]; decide), val_main_v97_apply, ext2 (idx_main_v97 _) (tok i p) n z0 z1, val_main_v91_apply,
      val_main_v88_apply, v73_at, val_main_v87_apply, val_main_c_16_apply]
    exact word_select _ (by omega) _
  have hc : ∀ z : S4096x128x2.Idx, (z 0).val = (tok i p).val → (z 1).val = n.val → (z 2).val = 1 →
      val_main_v99 (F := Ideal) z = BitVec.ofNat 32 (relC p (ncol n)).val := by
    intro z z0 z1 z2
    unfold val_main_v99
    pointwise
    rw [dif_neg (by rw [z2]; decide), val_main_v98_apply, ext2 (idx_main_v98 _) (tok i p) n z0 z1, val_main_v96_apply,
      val_main_v93_apply, v76_at, val_main_v92_apply, val_main_c_18_apply]
    exact word_select _ (by omega) _
  unfold Host.gather
  refine congrArg x (ext3 _ _ _ _ ?_ ?_ ?_)
  · show GatherDims.start _ y _ 0 + GatherDims.batchCoord _ y 0 + GatherDims.offCoord _ y 0 = _
    rw [GatherDims.batchCoord_eq_zero _ _ _ List.not_mem_nil]
    unfold GatherDims.start
    rw [dif_neg (by decide), Nat.zero_add]
    exact h0
  · show GatherDims.start _ y _ 1 + GatherDims.batchCoord _ y 1 + GatherDims.offCoord _ y 1 = _
    rw [GatherDims.batchCoord_eq_zero _ _ _ List.not_mem_nil,
      GatherDims.offCoord_eq_zero _ _ _ (fun h => ((GatherDims.mem_sKept _ _).mp h).1 (by decide))]
    unfold GatherDims.start
    rw [dif_pos (by decide), hr _ (by exact h1) (by exact h2) (by rfl), word_nat _ (by omega)]
    have := (relR i (nrow n)).isLt
    show min (relR i (nrow n)).val 14 + 0 + 0 = (relR i (nrow n)).val
    omega
  · show GatherDims.start _ y _ 2 + GatherDims.batchCoord _ y 2 + GatherDims.offCoord _ y 2 = _
    rw [GatherDims.batchCoord_eq_zero _ _ _ List.not_mem_nil,
      GatherDims.offCoord_eq_zero _ _ _ (fun h => ((GatherDims.mem_sKept _ _).mp h).1 (by decide))]
    unfold GatherDims.start
    rw [dif_pos (by decide), hc _ (by exact h1) (by exact h2) (by rfl), word_nat _ (by omega)]
    have := (relC p (ncol n)).isLt
    show min (relC p (ncol n)).val 30 + 0 + 0 = (relC p (ncol n)).val
    omega

variable (x0 : S4x4096x4096.Idx → EReal) (x1 x2 : S64.Idx → EReal) (x3 : S16x15x31.Idx → EReal)

/-- The queries by head. -/
theorem v5_at (b : Fin 4) (t : Fin 4096) (h : Fin 16) (d : Fin 64) :
    val_main_v5 (F := Ideal) x0 (ix4 b t h d) = head x0 b 0 t h d := by
  rw [val_main_v5_apply, val_main_v1_apply, val_main_v0_apply]
  refine congrArg x0 (ext3 _ _ _ _ ?_ ?_ ?_)
  · show (((b.val * 4096 + t.val) * 16 + h.val) * 64 + d.val) / 4194304 = b.val; omega
  · show (((b.val * 4096 + t.val) * 16 + h.val) * 64 + d.val) / 1024 % 4096 = t.val; omega
  · show (((b.val * 4096 + t.val) * 16 + h.val) * 64 + d.val) % 1024 = 0 * 1024 + (h.val * 64 + d.val); omega

/-- The keys by head. -/
theorem v19_at (b : Fin 4) (t : Fin 4096) (h : Fin 16) (d : Fin 64) :
    val_main_v19 (F := Ideal) x0 (ix4 b t h d) = head x0 b 1 t h d := by
  rw [val_main_v19_apply, val_main_v2_apply, val_main_v0_apply]
  refine congrArg x0 (ext3 _ _ _ _ ?_ ?_ ?_)
  · show (((b.val * 4096 + t.val) * 16 + h.val) * 64 + d.val) / 4194304 = b.val; omega
  · show (((b.val * 4096 + t.val) * 16 + h.val) * 64 + d.val) / 1024 % 4096 = t.val; omega
  · show 1024 + (((b.val * 4096 + t.val) * 16 + h.val) * 64 + d.val) % 1024 = 1 * 1024 + (h.val * 64 + d.val); omega

/-- The values by head. -/
theorem v33_at (b : Fin 4) (t : Fin 4096) (h : Fin 16) (d : Fin 64) :
    val_main_v33 (F := Ideal) x0 (ix4 b t h d) = head x0 b 2 t h d := by
  rw [val_main_v33_apply, val_main_v3_apply, val_main_v0_apply]
  refine congrArg x0 (ext3 _ _ _ _ ?_ ?_ ?_)
  · show (((b.val * 4096 + t.val) * 16 + h.val) * 64 + d.val) / 4194304 = b.val; omega
  · show (((b.val * 4096 + t.val) * 16 + h.val) * 64 + d.val) / 1024 % 4096 = t.val; omega
  · show 2048 + (((b.val * 4096 + t.val) * 16 + h.val) * 64 + d.val) % 1024 = 2 * 1024 + (h.val * 64 + d.val); omega

/-- The gates by head. -/
theorem v4_at (b : Fin 4) (t : Fin 4096) (h : Fin 16) (d : Fin 64) :
    val_main_v4 (F := Ideal) x0 (ix3 b t (hcol h d)) = head x0 b 3 t h d := by
  rw [val_main_v4_apply, val_main_v0_apply]
  refine congrArg x0 (ext3 _ _ _ _ rfl rfl ?_)
  show 3072 + (h.val * 64 + d.val) = 3 * 1024 + (h.val * 64 + d.val); omega

/-- The bits of 64. -/
theorem lit_64 : Ideal.ofBits .f32 0x42800000#32 = ((64 : ℝ) : EReal) := by
  simp [Ideal.ofBits, Ideal.ieee, -EReal.coe_mul]; norm_num

/-- The bits of 1/8. -/
theorem lit_8th : Ideal.ofBits .f32 0x3E000000#32 = ((1 / 8 : ℝ) : EReal) := by
  simp [Ideal.ofBits, Ideal.ieee, -EReal.coe_mul]; norm_num

/-- The bits of zero. -/
theorem lit_zero : Ideal.ofBits .f32 0x00000000#32 = 0 := by
  simp [Ideal.ofBits, Ideal.ieee, -EReal.coe_mul]

/-- The bits of one. -/
theorem lit_one : Ideal.ofBits .f32 0x3F800000#32 = 1 := by
  simp [Ideal.ofBits, Ideal.ieee, -EReal.coe_mul]; norm_num

/-- The bits of −∞. -/
theorem neg_inf : Ideal.ofBits .f32 0xFF800000#32 = ⊥ := by
  simp [Ideal.ofBits, Ideal.ieee, -EReal.coe_mul]

/-- The normalised queries. -/
theorem v18_at (b : Fin 4) (t : Fin 4096) (h : Fin 16) (d : Fin 64) :
    val_main_v18 (F := Ideal) x0 x1 (ix4 b t h d) = nrm (head x0 b 0 t h) d * x1 (ix1 d) := by
  have hs : val_main_v7 (F := Ideal) x0 (ix3 b t h) = ∑ d', head x0 b 0 t h d' * head x0 b 0 t h d' := by
    rw [val_main_v7_apply, val_main_cst_apply]
    refine Eq.trans (congrArg₂ (· + ·) lit_zero (Finset.sum_congr rfl fun k _ => ?_)) (zero_add _)
    rw [ext4 (idx_main_v7 (ix3 b t h) k) b t h k rfl rfl rfl rfl, val_main_v6_apply, v5_at]
    rfl
  rw [val_main_v18_apply, val_main_v15_apply, v5_at, val_main_v14_apply, val_main_v13_apply, val_main_v12_apply,
    val_main_v10_apply, val_main_v8_apply, ext3 (idx_main_v8 (idx_main_v14 (ix4 b t h d))) b t h rfl rfl rfl, hs,
    val_main_v9_apply, val_main_cst_0_apply, val_main_v11_apply, val_main_cst_1_apply, val_main_v17_apply,
    val_main_v16_apply]
  show head x0 b 0 t h d * Ideal.rsqrt (Ideal.div _ (Ideal.ofBits .f32 0x42800000#32) + _) * x1 _ = _
  rw [lit_64, Ideal.div_coe (by norm_num)]
  unfold nrm
  congr 2
  funext a; match a with | ⟨0, _⟩ => rfl

/-- The normalised keys. -/
theorem v32_at (b : Fin 4) (t : Fin 4096) (h : Fin 16) (d : Fin 64) :
    val_main_v32 (F := Ideal) x0 x2 (ix4 b t h d) = nrm (head x0 b 1 t h) d * x2 (ix1 d) := by
  have hs : val_main_v21 (F := Ideal) x0 (ix3 b t h) = ∑ d', head x0 b 1 t h d' * head x0 b 1 t h d' := by
    rw [val_main_v21_apply, val_main_cst_2_apply]
    refine Eq.trans (congrArg₂ (· + ·) lit_zero (Finset.sum_congr rfl fun k _ => ?_)) (zero_add _)
    rw [ext4 (idx_main_v21 (ix3 b t h) k) b t h k rfl rfl rfl rfl, val_main_v20_apply, v19_at]
    rfl
  rw [val_main_v32_apply, val_main_v29_apply, v19_at, val_main_v28_apply, val_main_v27_apply, val_main_v26_apply,
    val_main_v24_apply, val_main_v22_apply, ext3 (idx_main_v22 (idx_main_v28 (ix4 b t h d))) b t h rfl rfl rfl, hs,
    val_main_v23_apply, val_main_cst_3_apply, val_main_v25_apply, val_main_cst_4_apply, val_main_v31_apply,
    val_main_v30_apply]
  show head x0 b 1 t h d * Ideal.rsqrt (Ideal.div _ (Ideal.ofBits .f32 0x42800000#32) + _) * x2 _ = _
  rw [lit_64, Ideal.div_coe (by norm_num)]
  unfold nrm
  congr 2
  funext a; match a with | ⟨0, _⟩ => rfl

/-- The scores. -/
theorem v104_at (b : Fin 4) (i p : Fin 64) (h : Fin 16) (n : Fin 128) :
    val_main_v104 (F := Ideal) x0 x1 x2 x3 (ix4 b (tok i p) h n) = score x0 x1 x2 x3 b i p h n := by
  rw [val_main_v104_apply, val_main_v86_apply, val_main_v84_apply, val_main_v85_apply, val_main_cst_15_apply,
    val_main_v103_apply, val_main_v102_apply, val_main_v101_apply]
  refine congrArg₂ (· + ·) (congrArg₂ (· * ·) (Finset.sum_congr rfl fun d _ => ?_) lit_8th) ?_
  · rw [ext4 (lidx_main_v84 (ix4 b (tok i p) h n) d) b (tok i p) h d rfl rfl rfl rfl, v18_at]
    refine congrArg _ ?_
    unfold val_main_v83
    rw [gather_tok _ _ b (tok i p) n h d (nbr i p n) (fun y h0 h1 => v82_at i p n y h0 h1) _ rfl rfl rfl rfl rfl, v32_at]
  · unfold val_main_v100
    exact gather_bias x3 h i p n _ rfl rfl rfl

/-- The greatest score. -/
theorem v105_at (b : Fin 4) (i p : Fin 64) (h : Fin 16) :
    val_main_v105 (F := Ideal) x0 x1 x2 x3 (ix3 b (tok i p) h)
      = Finset.fold max ⊥ (score x0 x1 x2 x3 b i p h) Finset.univ := by
  unfold val_main_v105
  pointwise
  simp only [v104_at, val_main_cst_20_apply]
  exact congrArg (fun z => Finset.fold max z (score x0 x1 x2 x3 b i p h) Finset.univ) neg_inf

/-- The weights. -/
theorem v111_at (b : Fin 4) (i p : Fin 64) (h : Fin 16) (n : Fin 128) :
    val_main_v111 (F := Ideal) x0 x1 x2 x3 (ix4 b (tok i p) h n)
      = Ideal.exp (score x0 x1 x2 x3 b i p h n - Finset.fold max ⊥ (score x0 x1 x2 x3 b i p h) Finset.univ) := by
  rw [val_main_v111_apply, val_main_v110_apply, v104_at, val_main_v109_apply, val_main_v108_apply, val_main_v107_apply,
    ext3 (idx_main_v108 (idx_main_v109 (ix4 b (tok i p) h n))) b (tok i p) h rfl rfl rfl, v105_at, val_main_v106_apply,
    val_main_cst_21_apply]
  show Ideal.exp (_ - max (Ideal.ofBits .f32 0xFF800000#32) _) = _
  rw [neg_inf, max_eq_right bot_le]

/-- The attention of a head: the softmax average of its neighbours' values. -/
theorem v123_at (b : Fin 4) (i p : Fin 64) (h : Fin 16) (d : Fin 64) :
    val_main_v123 (F := Ideal) x0 x1 x2 x3 (ix4 b (tok i p) h d)
      = ∑ n, Ideal.div (Ideal.exp (score x0 x1 x2 x3 b i p h n - Finset.fold max ⊥ (score x0 x1 x2 x3 b i p h) Finset.univ))
        (∑ n, Ideal.exp (score x0 x1 x2 x3 b i p h n - Finset.fold max ⊥ (score x0 x1 x2 x3 b i p h) Finset.univ))
      * head x0 b 2 (nbr i p n) h d := by
  have hS : val_main_v112 (F := Ideal) x0 x1 x2 x3 (ix3 b (tok i p) h)
      = ∑ n, Ideal.exp (score x0 x1 x2 x3 b i p h n - Finset.fold max ⊥ (score x0 x1 x2 x3 b i p h) Finset.univ) := by
    rw [val_main_v112_apply, val_main_cst_22_apply]
    refine Eq.trans (congrArg₂ (· + ·) lit_zero (Finset.sum_congr rfl fun k _ => ?_)) (zero_add _)
    rw [ext4 (idx_main_v112 (ix3 b (tok i p) h) k) b (tok i p) h k rfl rfl rfl rfl, v111_at]
  rw [val_main_v123_apply]
  refine Finset.sum_congr rfl fun n _ => ?_
  refine congrArg₂ (· * ·) ?_ ?_
  · rw [ext4 (lidx_main_v123 (ix4 b (tok i p) h d) n) b (tok i p) h n rfl rfl rfl rfl, val_main_v115_apply, v111_at,
      val_main_v114_apply, val_main_v113_apply,
      ext3 (idx_main_v113 (idx_main_v114 (ix4 b (tok i p) h n))) b (tok i p) h rfl rfl rfl, hS]
    rfl
  · unfold val_main_v122
    rw [gather_tok _ _ b (tok i p) n h d (nbr i p n) (fun y h0 h1 => v121_at i p n y h0 h1) _ rfl rfl rfl rfl rfl, v33_at]

/-- The reference at an index is the plain form. -/
theorem v127_at (b : Fin 4) (i p : Fin 64) (h : Fin 16) (d : Fin 64) :
    val_main_v127 (F := Ideal) x0 x1 x2 x3 (ix3 b (tok i p) (hcol h d)) = attn x0 x1 x2 x3 b i p h d := by
  rw [val_main_v127_apply, val_main_v126_apply, val_main_v124_apply,
    ext4 (idx_main_v124 (ix3 b (tok i p) (hcol h d))) b (tok i p) h d
      (by show ((b.val * 4096 + (tok i p).val) * 1024 + (h.val * 64 + d.val)) / 4194304 = b.val; omega)
      (by show ((b.val * 4096 + (tok i p).val) * 1024 + (h.val * 64 + d.val)) / 1024 % 4096 = (tok i p).val; omega)
      (by show ((b.val * 4096 + (tok i p).val) * 1024 + (h.val * 64 + d.val)) / 64 % 16 = h.val; omega)
      (by show ((b.val * 4096 + (tok i p).val) * 1024 + (h.val * 64 + d.val)) % 64 = d.val; omega),
    v123_at, val_main_v125_apply, v4_at, val_main_call2_v5_apply, val_main_call2_v4_apply, val_main_call2_cst_0_apply,
    val_main_call2_v3_apply, val_main_call2_v2_apply, val_main_call2_cst_apply, val_main_call2_v1_apply,
    val_main_call2_v0_apply, v4_at]
  show _ * (_ * Ideal.div (Ideal.ofBits .f32 0x3F800000#32) (Ideal.ofBits .f32 0x3F800000#32 + Ideal.exp (-_))) = _
  rw [lit_one]
  rfl

end Cert.ReferenceIdeal.NattenRef
end
-- ==== Proof.NattenTable.lean ====
module

public import proofs.«01_k».proof.Proof.NattenHead
public import proofs.«01_k».proof.Proof.NattenRefValue
public import Idealize.ShloMosaic.Lib.Claim

/-!
What the kernel's host side hands the kernel: the table of biases, one band of eight rows per starting row, with −∞ at
the columns no token of the band may see; and the two gains, each written twice side by side for the pair of heads.
-/

@[expose] public section
set_option maxRecDepth 16384
noncomputable section
open Idealize.ShloMosaic Idealize.ShloMosaic.TcCoe Idealize.SL.Sem
namespace Cert.KernelIdeal.NattenTable
open Cert.KernelIdeal Cert.KernelIdeal.Gen Cert.NattenSpec Cert.KernelIdeal.NattenHead
open Cert.ReferenceIdeal.NattenRef (ext3 word_nat)

/-- The bands of eight rows, one for each of the eight starting rows. -/
def bands (x : FVec Ideal S16x15x64x64 .f32) : FVec Ideal S16x8x64x512 .f32 :=
  shapeCast S16x8x64x512 (transpose S16x8x64x8x64 [0, 1, 3, 2, 4] (concatenate S16x8x8x64x64 1
     [⟨S16x1x8x64x64, broadcastInDim S16x1x8x64x64 ![0, 2, 3, 4] bcast_S16x8x64x64_S16x1x8x64x64_0_2_3_4
        (extractStridedSlice S16x8x64x64 ![0, 0, 0, 0] x slices_S16x15x64x64_S16x8x64x64_0_0_0_0)⟩,
      ⟨S16x1x8x64x64, broadcastInDim S16x1x8x64x64 ![0, 2, 3, 4] bcast_S16x8x64x64_S16x1x8x64x64_0_2_3_4
        (extractStridedSlice S16x8x64x64 ![0, 1, 0, 0] x slices_S16x15x64x64_S16x8x64x64_0_1_0_0)⟩,
      ⟨S16x1x8x64x64, broadcastInDim S16x1x8x64x64 ![0, 2, 3, 4] bcast_S16x8x64x64_S16x1x8x64x64_0_2_3_4
        (extractStridedSlice S16x8x64x64 ![0, 2, 0, 0] x slices_S16x15x64x64_S16x8x64x64_0_2_0_0)⟩,
      ⟨S16x1x8x64x64, broadcastInDim S16x1x8x64x64 ![0, 2, 3, 4] bcast_S16x8x64x64_S16x1x8x64x64_0_2_3_4
        (extractStridedSlice S16x8x64x64 ![0, 3, 0, 0] x slices_S16x15x64x64_S16x8x64x64_0_3_0_0)⟩,
      ⟨S16x1x8x64x64, broadcastInDim S16x1x8x64x64 ![0, 2, 3, 4] bcast_S16x8x64x64_S16x1x8x64x64_0_2_3_4
        (extractStridedSlice S16x8x64x64 ![0, 4, 0, 0] x slices_S16x15x64x64_S16x8x64x64_0_4_0_0)⟩,
      ⟨S16x1x8x64x64, broadcastInDim S16x1x8x64x64 ![0, 2, 3, 4] bcast_S16x8x64x64_S16x1x8x64x64_0_2_3_4
        (extractStridedSlice S16x8x64x64 ![0, 5, 0, 0] x slices_S16x15x64x64_S16x8x64x64_0_5_0_0)⟩,
      ⟨S16x1x8x64x64, broadcastInDim S16x1x8x64x64 ![0, 2, 3, 4] bcast_S16x8x64x64_S16x1x8x64x64_0_2_3_4
        (extractStridedSlice S16x8x64x64 ![0, 6, 0, 0] x slices_S16x15x64x64_S16x8x64x64_0_6_0_0)⟩,
      ⟨S16x1x8x64x64, broadcastInDim S16x1x8x64x64 ![0, 2, 3, 4] bcast_S16x8x64x64_S16x1x8x64x64_0_2_3_4
        (extractStridedSlice S16x8x64x64 ![0, 7, 0, 0] x slices_S16x15x64x64_S16x8x64x64_0_7_0_0)⟩]
     concatenates_S16x1x8x64x64_S16x1x8x64x64_S16x1x8x64x64_S16x1x8x64x64_S16x1x8x64x64_S16x1x8x64x64_S16x1x8x64x64_S16x1x8x64x64_S16x8x8x64x64_d1)
    transposes_S16x8x8x64x64_S16x8x64x8x64_0_1_3_2_4) shapeCasts_S16x8x64x8x64_S16x8x64x512

/-- Row `r` of the band starting at `s` is row `s + r`. -/
theorem bands_apply (x : FVec Ideal S16x15x64x64 .f32) (h : Fin 16) (s : Fin 8) (p : Fin 64) (r : Fin 8) (k : Fin 64) :
    bands x (ix4 h s p ⟨64 * r.val + k.val, by omega⟩) = x (ix4 h ⟨s.val + r.val, by omega⟩ p k) := by
  pointwise [bands]
  split_ifs <;> exact congrArg (fun y => x (ix4 h y p k)) (Fin.ext (by simp only []; omega))

/-- The bias at every offset of columns, −∞ where the column is out of reach. -/
def masked (x : FVec Ideal S16x15x31 .f32) : FVec Ideal S16x15x64x64 .f32 :=
  select (broadcastInDim S16x15x64x64 ![0, 1, 2, 3] bcast_S1x1x64x64_S16x15x64x64_0_1_2_3
      (broadcastInDim S1x1x64x64 ![2, 3] bcast_S64x64_S1x1x64x64_2_3 fun i => lit1 (S64x64.rowMajor i)))
    (Host.gather gather_S16x15x31_S64x64x1_S16x15x64x64_01_2_n_n_2_2_16151 x
      (broadcastInDim S64x64x1 ![0, 1] bcast_S64x64_S64x64x1_0_1
        (select (constantI S64x64 1 0#1)
          (addi (fun i => lit0 (S64x64.rowMajor i)) (broadcastInDim S64x64 ![] bcast_S_S64x64 (constantI S_ 32 31#32)))
          fun i => lit0 (S64x64.rowMajor i))))
    (broadcastInDim S16x15x64x64 ![] bcast_S_S16x15x64x64 (constant S_ .f32 0xFF800000#32))

theorem v26_from (X : Valuation τ sig (Elt Ideal)) :
    StableHlo.after hostOps0_2 X (Proc.tc.devRef main_v26) = bands (X (Proc.tc.devRef main_v6)) := by
  unfold_abbrev_sides
  after_results
  rfl

theorem v28_from (X : Valuation τ sig (Elt Ideal)) :
    StableHlo.after hostOps0_2 X (Proc.tc.devRef main_v28) = shapeCast S1x128 (concatenate S128 0
      [⟨S64, X (Proc.tc.devRef main_arg1)⟩, ⟨S64, X (Proc.tc.devRef main_arg1)⟩] concatenates_S64_S64_S128_d0)
      shapeCasts_S128_S1x128 := by
  unfold_abbrev_sides
  after_results
  rfl

theorem v30_from (X : Valuation τ sig (Elt Ideal)) :
    StableHlo.after hostOps0_2 X (Proc.tc.devRef main_v30) = shapeCast S1x128 (concatenate S128 0
      [⟨S64, X (Proc.tc.devRef main_arg2)⟩, ⟨S64, X (Proc.tc.devRef main_arg2)⟩] concatenates_S64_S64_S128_d0)
      shapeCasts_S128_S1x128 := by
  unfold_abbrev_sides
  after_results
  rfl

theorem v6_from (X : Valuation τ sig (Elt Ideal)) :
    StableHlo.after hostOps0_1 X (Proc.tc.devRef main_v6) = select
      (broadcastInDim S16x15x64x64 ![0, 1, 2, 3] bcast_S1x1x64x64_S16x15x64x64_0_1_2_3 (X (Proc.tc.devRef main_v0)))
      (X (Proc.tc.devRef main_v5))
      (broadcastInDim S16x15x64x64 ![] bcast_S_S16x15x64x64 (X (Proc.tc.devRef main_cst))) := by
  unfold_abbrev_sides
  after_results
  rfl

theorem v6_value (X : Valuation τ sig (Elt Ideal)) :
    StableHlo.after hostOps0_1 (StableHlo.after hostOps0 X) (Proc.tc.devRef main_v6)
      = masked (X (Proc.tc.devRef main_arg3)) := by
  rw [v6_from]
  unfold_abbrev_sides
  after_results
  rfl

theorem arg1_kept (X : Valuation τ sig (Elt Ideal)) :
    StableHlo.after hostOps0_1 (StableHlo.after hostOps0 X) (Proc.tc.devRef main_arg1) = X (Proc.tc.devRef main_arg1) := by
  unfold_abbrev_sides
  after_results

theorem arg2_kept (X : Valuation τ sig (Elt Ideal)) :
    StableHlo.after hostOps0_1 (StableHlo.after hostOps0 X) (Proc.tc.devRef main_arg2) = X (Proc.tc.devRef main_arg2) := by
  unfold_abbrev_sides
  after_results

variable (m : (ℓ : Loc nD τ sig) → Buf (Elt Ideal) ℓ) (c : Dev nD)

theorem V_v26 : V m c main_v26 = bands (masked (m (c.tc.loc main_arg3))) := by
  show StableHlo.after hostOps0_2 (StableHlo.after hostOps0_1 (StableHlo.after hostOps0 fun b => m (c, b)))
    (Proc.tc.devRef main_v26) = _
  rw [v26_from, v6_value]

theorem V_v28 : V m c main_v28 = shapeCast S1x128 (concatenate S128 0
      [⟨S64, m (c.tc.loc main_arg1)⟩, ⟨S64, m (c.tc.loc main_arg1)⟩] concatenates_S64_S64_S128_d0)
      shapeCasts_S128_S1x128 := by
  show StableHlo.after hostOps0_2 (StableHlo.after hostOps0_1 (StableHlo.after hostOps0 fun b => m (c, b))) _ = _
  rw [v28_from, arg1_kept]

theorem V_v30 : V m c main_v30 = shapeCast S1x128 (concatenate S128 0
      [⟨S64, m (c.tc.loc main_arg2)⟩, ⟨S64, m (c.tc.loc main_arg2)⟩] concatenates_S64_S64_S128_d0)
      shapeCasts_S128_S1x128 := by
  show StableHlo.after hostOps0_2 (StableHlo.after hostOps0_1 (StableHlo.after hostOps0 fun b => m (c, b))) _ = _
  rw [v30_from, arg2_kept]

/-- The two copies of a gain, side by side. -/
theorem twice_apply (g : FVec Ideal S64 .f32) (hh : Fin 2) (d : Fin 64) :
    shapeCast S1x128 (concatenate S128 0 [⟨S64, g⟩, ⟨S64, g⟩] concatenates_S64_S64_S128_d0) shapeCasts_S128_S1x128
      (ix2 0 (lane hh d)) = g (ix1 d) := by
  pointwise [lane]
  split_ifs <;> exact congrArg (fun y => g (ix1 y)) (Fin.ext (by simp only []; omega))

/-- The columns in reach are marked. -/
theorem lit1_in (p : Fin 64) (k : Fin 16) : lit1 (S64x64.rowMajor (ix2 p (colAt p k))) = 1#1 :=
  (by decide +kernel : ∀ p : Fin 64, ∀ k : Fin 16, lit1 (S64x64.rowMajor (ix2 p (colAt p k))) = 1#1) p k

/-- The offset of a column in reach. -/
theorem lit0_in (p : Fin 64) (k : Fin 16) :
    lit0 (S64x64.rowMajor (ix2 p (colAt p k))) = BitVec.ofNat 32 (relC p k).val :=
  (by decide +kernel : ∀ p : Fin 64, ∀ k : Fin 16,
    lit0 (S64x64.rowMajor (ix2 p (colAt p k))) = BitVec.ofNat 32 (relC p k).val) p k

/-- The columns out of reach are not marked. -/
theorem lit1_out (p k : Fin 64) (h : k.val < min (p.val - 8) 48 ∨ min (p.val - 8) 48 + 16 ≤ k.val) :
    lit1 (S64x64.rowMajor (ix2 p k)) = 0#1 :=
  (by decide +kernel : ∀ p k : Fin 64, (k.val < min (p.val - 8) 48 ∨ min (p.val - 8) 48 + 16 ≤ k.val) →
    lit1 (S64x64.rowMajor (ix2 p k)) = 0#1) p k h

theorem gather_at (x : FVec Ideal S16x15x31 .f32) (ind : IVec S64x64x1 32) (h : Fin 16) (r : Fin 15) (p k : Fin 64)
    (o : Fin 31) (hi : ∀ z : S64x64x1.Idx, (z 0).val = p.val → (z 1).val = k.val → ind z = BitVec.ofNat 32 o.val) :
    Host.gather gather_S16x15x31_S64x64x1_S16x15x64x64_01_2_n_n_2_2_16151 x ind (ix4 h r p k) = x (ix3 h r o) := by
  unfold Host.gather
  refine congrArg x (ext3 _ _ _ _ ?_ ?_ ?_)
  · show GatherDims.start _ _ _ 0 + GatherDims.batchCoord _ _ 0 + GatherDims.offCoord _ _ 0 = _
    rw [GatherDims.batchCoord_eq_zero _ _ _ List.not_mem_nil]
    unfold GatherDims.start
    rw [dif_neg (by decide), Nat.zero_add]
    rfl
  · show GatherDims.start _ _ _ 1 + GatherDims.batchCoord _ _ 1 + GatherDims.offCoord _ _ 1 = _
    rw [GatherDims.batchCoord_eq_zero _ _ _ List.not_mem_nil]
    unfold GatherDims.start
    rw [dif_neg (by decide), Nat.zero_add]
    rfl
  · show GatherDims.start _ _ _ 2 + GatherDims.batchCoord _ _ 2 + GatherDims.offCoord _ _ 2 = _
    rw [GatherDims.batchCoord_eq_zero _ _ _ List.not_mem_nil,
      GatherDims.offCoord_eq_zero _ _ _ (fun h => ((GatherDims.mem_sKept _ _).mp h).1 (by decide))]
    unfold GatherDims.start
    rw [dif_pos (by decide), hi _ (by rfl) (by rfl), word_nat _ (by omega)]
    have := o.isLt
    show min o.val (31 - 1) + 0 + 0 = o.val
    omega

/-- A bias in reach. -/
theorem masked_in (x : FVec Ideal S16x15x31 .f32) (h : Fin 16) (r : Fin 15) (p : Fin 64) (k : Fin 16) :
    masked x (ix4 h r p (colAt p k)) = x (ix3 h r (relC p k)) := by
  pointwise [masked]
  rw [lit1_in, gather_at x _ h r p _ (relC p k)]
  · rfl
  · intro z z0 z1
    rw [show z = ix3 p (colAt p k) 0 from ext3 z _ _ _ z0 z1 (by have := (z 2).isLt; exact Nat.lt_one_iff.mp this)]
    pointwise
    exact lit0_in p k

/-- Out of reach the bias is −∞. -/
theorem masked_out (x : FVec Ideal S16x15x31 .f32) (h : Fin 16) (r : Fin 15) (p k : Fin 64)
    (hk : k.val < min (p.val - 8) 48 ∨ min (p.val - 8) 48 + 16 ≤ k.val) : masked x (ix4 h r p k) = ⊥ := by
  pointwise [masked]
  rw [lit1_out p k hk]
  exact Cert.ReferenceIdeal.NattenRef.neg_inf

/-- The table's entry at a column in reach. -/
theorem table_in (h : Fin 16) (s : Fin 8) (p : Fin 64) (r : Fin 8) (k : Fin 16) :
    bands (masked (m (c.tc.loc main_arg3))) (ix4 h s p ⟨64 * r.val + (colAt p k).val, by omega⟩)
      = (m (c.tc.loc main_arg3) : S16x15x31.Idx → EReal) (ix3 h ⟨s.val + r.val, by omega⟩ (relC p k)) := by
  rw [bands_apply, masked_in]

/-- The table's entry at a column out of reach. -/
theorem table_out (h : Fin 16) (s : Fin 8) (p : Fin 64) (r : Fin 8) (k : Fin 64)
    (hk : k.val < min (p.val - 8) 48 ∨ min (p.val - 8) 48 + 16 ≤ k.val) :
    bands (masked (m (c.tc.loc main_arg3))) (ix4 h s p ⟨64 * r.val + k.val, by omega⟩) = (⊥ : EReal) := by
  rw [bands_apply, masked_out _ _ _ _ _ hk]

end Cert.KernelIdeal.NattenTable
end
-- ==== Proof.NattenPiece.lean ====
module

public import proofs.«01_k».proof.Proof.NattenTable

/-!
One row block of the kernel at an index is the attention of the token it stands for, and so is each piece a trip of the
loop stores.
-/

@[expose] public section
set_option maxRecDepth 16384
noncomputable section
open Idealize.ShloMosaic Idealize.SL.Sem
namespace Cert.KernelIdeal.NattenPiece
open Cert.KernelIdeal Cert.KernelIdeal.Gen Cert.NattenSpec Cert.KernelIdeal.NattenHead Cert.KernelIdeal.NattenRow
open Cert.ReferenceIdeal.NattenRef (ext2 ext3 ext4)

/-- Row `r`, column `k` of a window of eight rows. -/
def at8 (r : Fin 8) (k : Fin 64) : Fin 512 := ⟨64 * r.val + k.val, by omega⟩

/-- The place of neighbour `n` in the window of eight rows. -/
def place (p : Fin 64) (n : Fin 128) : Fin 512 := at8 (nrow n) (colAt p (ncol n))

theorem place_inj (p : Fin 64) : Function.Injective (place p) := by
  intro a b h
  have h' := congrArg Fin.val h
  simp only [place, at8, nrow, ncol, colAt] at h'
  ext; omega

/-- A place that is no neighbour's lies in a column out of reach. -/
theorem out_of_reach (p : Fin 64) (j : Fin 512) (hj : j ∉ Set.range (place p)) :
    ∃ (r : Fin 8) (k : Fin 64), j = at8 r k ∧ (k.val < min (p.val - 8) 48 ∨ min (p.val - 8) 48 + 16 ≤ k.val) := by
  refine ⟨⟨j.val / 64, by omega⟩, ⟨j.val % 64, by omega⟩, Fin.ext (by simp only [at8]; omega), ?_⟩
  by_contra hc
  simp only [not_or, not_lt, not_le] at hc
  refine hj ⟨⟨16 * (j.val / 64) + (j.val % 64 - min (p.val - 8) 48), by omega⟩, Fin.ext ?_⟩
  simp only [place, at8, nrow, ncol, colAt]
  omega

/-- A row block at an index, from what its slices hold. -/
theorem rowOut_value (X : Proj) (gq gk : Gain) (B : Bias) (hgq : ∀ d, ∃ r : ℝ, gq d = r) (hgk : ∀ d, ∃ r : ℝ, gk d = r)
    (hB : ∀ x, ∃ r : ℝ, B x = r) (n : Fin 4) (i p : Fin 64) (h : Fin 16) (hh : Fin 2) (d : Fin 64)
    (q : Vec Ideal S64x128 .bf16) (kk : Vec Ideal S512x128 .bf16)
    (b : Fin 2 → Vec Ideal S1x1x64x512 .bf16) (v : Vec Ideal S1x512x128 .bf16) (g : Vec Ideal S1x64x128 .bf16)
    (hq : ∀ d', q (ix2 p (lane hh d')) = nrm (head X n 0 (tok i p) h) d' * (gq (ix1 d') * ((1 / 8 : ℝ) : EReal)))
    (hk : ∀ r k d', kk (ix2 (at8 r k) (lane hh d')) = nrm (head X n 1 (tok (rowAt i r) k) h) d' * gk (ix1 d'))
    (hin : ∀ r k, b hh (ix4 0 0 p (at8 r (colAt p k))) = B (ix3 h (relR i r) (relC p k)))
    (hout : ∀ r (k : Fin 64), k.val < min (p.val - 8) 48 ∨ min (p.val - 8) 48 + 16 ≤ k.val →
      b hh (ix4 0 0 p (at8 r k)) = (⊥ : EReal))
    (hv : ∀ r k, v (ix3 0 (at8 r k) (lane hh d)) = head X n 2 (tok (rowAt i r) k) h d)
    (hg : g (ix3 0 p (lane hh d)) = head X n 3 (tok i p) h d) :
    rowOut k0_pay245 q kk (b 0) (b 1) v g (ix3 0 p (lane hh d)) = attn X gq gk B n i p h d := by
  refine (rowOut_apply q kk b v g hh p d _ fun _ => rfl).trans ?_
  rw [NattenMath.softmax_window (score X gq gk B n i p h) (score_real X gq gk B hgq hgk hB n i p h) (place p)
    (place_inj p) _ (fun j => v (ix3 0 j (lane hh d)))]
  · unfold attn
    rw [hg]
    congr 1
    exact Finset.sum_congr rfl fun n' _ => congrArg _ (hv _ _)
  · intro n'
    show _ + _ = _
    rw [place, hin]
    unfold score
    congr 1
    simp only [hq, hk]
    exact NattenMath.score_scale _ _ _ (by norm_num)
  · intro j hj
    obtain ⟨r, k, rfl, hk'⟩ := out_of_reach p j hj
    show _ + _ = _
    rw [hout r k hk']
    exact EReal.add_bot _

/-- The row of the image that row block `r` of trip `k` computes. -/
def rowOf (k : Fin k0_t1_loop.trips) (r : Fin 32) : Fin 64 :=
  ⟨32 * k.val + r.val, by have h : k0_t1_loop.trips = 2 := by decide
                          have := k.isLt; omega⟩

theorem off1_eq : ∀ (k : Fin k0_t1_loop.trips) (r : Fin 32),
    k0_off1 k (BitVec.ofNat 32 r.val) 0 = (rowOf k r).val * 64 ∧ k0_off1 k (BitVec.ofNat 32 r.val) 1 = 0 := by
  decide +kernel

theorem off2_eq : ∀ (k : Fin k0_t1_loop.trips) (r : Fin 32),
    k0_off2 k (BitVec.ofNat 32 r.val) 0 = min ((rowOf k r).val - 4) 56 * 64 ∧ k0_off2 k (BitVec.ofNat 32 r.val) 1 = 0 := by
  decide +kernel

theorem off3_eq : ∀ (k : Fin k0_t1_loop.trips) (r : Fin 32),
    k0_off3 k (BitVec.ofNat 32 r.val) 0 = 0
    ∧ k0_off3 k (BitVec.ofNat 32 r.val) 1 = min ((rowOf k r).val - 4) 56 + 7 - (rowOf k r).val
    ∧ k0_off3 k (BitVec.ofNat 32 r.val) 2 = 0 ∧ k0_off3 k (BitVec.ofNat 32 r.val) 3 = 0 := by
  decide +kernel

theorem off4_eq : ∀ (k : Fin k0_t1_loop.trips) (r : Fin 32),
    k0_off4 k (BitVec.ofNat 32 r.val) 0 = 1
    ∧ k0_off4 k (BitVec.ofNat 32 r.val) 1 = min ((rowOf k r).val - 4) 56 + 7 - (rowOf k r).val
    ∧ k0_off4 k (BitVec.ofNat 32 r.val) 2 = 0 ∧ k0_off4 k (BitVec.ofNat 32 r.val) 3 = 0 := by
  decide +kernel

theorem off5_eq : ∀ (k : Fin k0_t1_loop.trips) (r : Fin 32),
    k0_off5 k (BitVec.ofNat 32 r.val) 0 = 0 ∧ k0_off5 k (BitVec.ofNat 32 r.val) 1 = min ((rowOf k r).val - 4) 56 * 64
    ∧ k0_off5 k (BitVec.ofNat 32 r.val) 2 = 0 := by
  decide +kernel

theorem off6_eq : ∀ (k : Fin k0_t1_loop.trips) (r : Fin 32),
    k0_off6 k (BitVec.ofNat 32 r.val) 0 = 0 ∧ k0_off6 k (BitVec.ofNat 32 r.val) 1 = (rowOf k r).val * 64
    ∧ k0_off6 k (BitVec.ofNat 32 r.val) 2 = 0 := by
  decide +kernel

/-- The attention at an index of a grid point's block: two heads of every token. -/
def G (X : Proj) (gq gk : Gain) (B : Bias) (n : Fin 4) (hd : Fin 2 → Fin 16) : S1x4096x128.Idx → EReal := fun y =>
  attn X gq gk B n ⟨(y 1).val / 64, by have : (y 1).val < 4096 := (y 1).isLt; omega⟩ ⟨(y 1).val % 64, by omega⟩
    (hd ⟨(y 2).val / 64, by have : (y 2).val < 128 := (y 2).isLt; omega⟩) ⟨(y 2).val % 64, by omega⟩

theorem G_at (X : Proj) (gq gk : Gain) (B : Bias) (n : Fin 4) (hd : Fin 2 → Fin 16) (y : S1x4096x128.Idx) (i p : Fin 64)
    (hh : Fin 2) (d : Fin 64) (h1 : (y 1).val = (tok i p).val) (h2 : (y 2).val = (lane hh d).val) :
    G X gq gk B n hd y = attn X gq gk B n i p (hd hh) d := by
  unfold G
  simp only [tok, lane] at h1 h2
  congr 1
  · ext; simp only []; omega
  · ext; simp only []; omega
  · congr 1; ext; simp only []; omega
  · ext; simp only []; omega

/-- Each piece holds the attention at the indices it is stored at. -/
theorem piece_value (X : Proj) (gq gk : Gain) (B : Bias) (hgq : ∀ d, ∃ r : ℝ, gq d = r) (hgk : ∀ d, ∃ r : ℝ, gk d = r)
    (hB : ∀ x, ∃ r : ℝ, B x = r) (n : Fin 4) (hd : Fin 2 → Fin 16)
    (arg4 arg5 : Memref sig .tc .vmem S1x4096x128 .bf16) (arg8 : Memref sig .tc .vmem S2x8x64x512 .bf16)
    (arg10 arg11 : Memref sig .tc .vmem S4096x128 .bf16)
    (X4 : BufTy.Contents (Elt Ideal) arg4.view.ty) (X5 : BufTy.Contents (Elt Ideal) arg5.view.ty)
    (X8 : BufTy.Contents (Elt Ideal) arg8.view.ty) (X10 : BufTy.Contents (Elt Ideal) arg10.view.ty)
    (X11 : BufTy.Contents (Elt Ideal) arg11.view.ty)
    (h10 : ∀ t hh d, arg10.view.read (Elt Ideal) X10 (ix2 t (lane hh d))
      = nrm (head X n 0 t (hd hh)) d * (gq (ix1 d) * ((1 / 8 : ℝ) : EReal)))
    (h11 : ∀ t hh d, arg11.view.read (Elt Ideal) X11 (ix2 t (lane hh d)) = nrm (head X n 1 t (hd hh)) d * gk (ix1 d))
    (h4 : ∀ t hh d, arg4.view.read (Elt Ideal) X4 (ix3 0 t (lane hh d)) = head X n 2 t (hd hh) d)
    (h5 : ∀ t hh d, arg5.view.read (Elt Ideal) X5 (ix3 0 t (lane hh d)) = head X n 3 t (hd hh) d)
    (hin : ∀ (hh : Fin 2) (s : Fin 8) (p : Fin 64) (r : Fin 8) (k : Fin 16),
      arg8.view.read (Elt Ideal) X8 (ix4 hh s p (at8 r (colAt p k))) = B (ix3 (hd hh) ⟨s.val + r.val, by omega⟩ (relC p k)))
    (hout : ∀ (hh : Fin 2) (s : Fin 8) (p : Fin 64) (r : Fin 8) (k : Fin 64),
      k.val < min (p.val - 8) 48 ∨ min (p.val - 8) 48 + 16 ≤ k.val →
      arg8.view.read (Elt Ideal) X8 (ix4 hh s p (at8 r k)) = (⊥ : EReal))
    (k : Fin k0_t1_loop.trips) (r : Fin 32) (x : (piece arg4 arg5 arg8 arg10 arg11 k0_pay245 X4 X5 X8 X10 X11 k r).1.shape.Idx) :
    (piece arg4 arg5 arg8 arg10 arg11 k0_pay245 X4 X5 X8 X10 X11 k r).2 x
      = G X gq gk B n hd ((piece arg4 arg5 arg8 arg10 arg11 k0_pay245 X4 X5 X8 X10 X11 k r).1.emb x) := by
  obtain ⟨p, hh, d, rfl⟩ : ∃ (p : Fin 64) (hh : Fin 2) (d : Fin 64), x = ix3 0 p (lane hh d) := by
    have h1 : (x 1).val < 64 := (x 1).isLt
    have h2 : (x 2).val < 128 := (x 2).isLt
    refine ⟨⟨(x 1).val, h1⟩, ⟨(x 2).val / 64, by omega⟩, ⟨(x 2).val % 64, by omega⟩, ext3 x _ _ _ ?_ rfl ?_⟩
    · exact Nat.lt_one_iff.mp (x 0).isLt
    · simp only [lane]; omega
  obtain ⟨a10, a11⟩ := off1_eq k r
  obtain ⟨a20, a21⟩ := off2_eq k r
  obtain ⟨a30, a31, a32, a33⟩ := off3_eq k r
  obtain ⟨a40, a41, a42, a43⟩ := off4_eq k r
  obtain ⟨a50, a51, a52⟩ := off5_eq k r
  obtain ⟨a60, a61, a62⟩ := off6_eq k r
  rw [G_at X gq gk B n hd _ (rowOf k r) p hh d]
  · unfold NattenRow.piece
    have hs : min ((rowOf k r).val - 4) 56 + 7 - (rowOf k r).val < 8 := by omega
    refine rowOut_value X gq gk B hgq hgk hB n (rowOf k r) p (hd hh) hh d _ _ ![_, _] _ _ ?_ ?_ ?_ ?_ ?_ ?_
    · intro d'
      refine (congrArg (arg10.view.read (Elt Ideal) X10) (ext2 _ (tok (rowOf k r) p) (lane hh d') ?_ ?_)).trans (h10 _ _ _)
      · show k0_off1 k (BitVec.ofNat 32 r.val) 0 + 1 * p.val = _
        rw [a10]; simp only [tok]; omega
      · show k0_off1 k (BitVec.ofNat 32 r.val) 1 + 1 * (lane hh d').val = _
        rw [a11]; omega
    · intro r' k' d'
      refine (congrArg (arg11.view.read (Elt Ideal) X11)
        (ext2 _ (tok (rowAt (rowOf k r) r') k') (lane hh d') ?_ ?_)).trans (h11 _ _ _)
      · show k0_off2 k (BitVec.ofNat 32 r.val) 0 + 1 * (at8 r' k').val = _
        rw [a20]; simp only [tok, rowAt, at8]; omega
      · show k0_off2 k (BitVec.ofNat 32 r.val) 1 + 1 * (lane hh d').val = _
        rw [a21]; omega
    · intro r' k'
      have e : (relR (rowOf k r) r') = ⟨(⟨_, hs⟩ : Fin 8).val + r'.val, by omega⟩ := by
        ext; simp only [relR, rowAt]; omega
      rw [e, ← hin hh ⟨_, hs⟩ p r' k']
      by_cases h0 : hh = 0
      · subst h0
        refine congrArg (arg8.view.read (Elt Ideal) X8) (ext4 _ _ _ _ _ ?_ ?_ ?_ ?_)
        · show k0_off3 k (BitVec.ofNat 32 r.val) 0 + 1 * 0 = _
          rw [a30]; rfl
        · show k0_off3 k (BitVec.ofNat 32 r.val) 1 + 1 * 0 = _
          rw [a31]; rfl
        · show k0_off3 k (BitVec.ofNat 32 r.val) 2 + 1 * p.val = _
          rw [a32]; omega
        · show k0_off3 k (BitVec.ofNat 32 r.val) 3 + 1 * (at8 r' (colAt p k')).val = _
          rw [a33]; omega
      · obtain rfl : hh = 1 := by omega
        refine congrArg (arg8.view.read (Elt Ideal) X8) (ext4 _ _ _ _ _ ?_ ?_ ?_ ?_)
        · show k0_off4 k (BitVec.ofNat 32 r.val) 0 + 1 * 0 = _
          rw [a40]; rfl
        · show k0_off4 k (BitVec.ofNat 32 r.val) 1 + 1 * 0 = _
          rw [a41]; rfl
        · show k0_off4 k (BitVec.ofNat 32 r.val) 2 + 1 * p.val = _
          rw [a42]; omega
        · show k0_off4 k (BitVec.ofNat 32 r.val) 3 + 1 * (at8 r' (colAt p k')).val = _
          rw [a43]; omega
    · intro r' k' hk'
      rw [← hout hh ⟨_, hs⟩ p r' k' hk']
      by_cases h0 : hh = 0
      · subst h0
        refine congrArg (arg8.view.read (Elt Ideal) X8) (ext4 _ _ _ _ _ ?_ ?_ ?_ ?_)
        · show k0_off3 k (BitVec.ofNat 32 r.val) 0 + 1 * 0 = _
          rw [a30]; rfl
        · show k0_off3 k (BitVec.ofNat 32 r.val) 1 + 1 * 0 = _
          rw [a31]; rfl
        · show k0_off3 k (BitVec.ofNat 32 r.val) 2 + 1 * p.val = _
          rw [a32]; omega
        · show k0_off3 k (BitVec.ofNat 32 r.val) 3 + 1 * (at8 r' k').val = _
          rw [a33]; omega
      · obtain rfl : hh = 1 := by omega
        refine congrArg (arg8.view.read (Elt Ideal) X8) (ext4 _ _ _ _ _ ?_ ?_ ?_ ?_)
        · show k0_off4 k (BitVec.ofNat 32 r.val) 0 + 1 * 0 = _
          rw [a40]; rfl
        · show k0_off4 k (BitVec.ofNat 32 r.val) 1 + 1 * 0 = _
          rw [a41]; rfl
        · show k0_off4 k (BitVec.ofNat 32 r.val) 2 + 1 * p.val = _
          rw [a42]; omega
        · show k0_off4 k (BitVec.ofNat 32 r.val) 3 + 1 * (at8 r' k').val = _
          rw [a43]; omega
    · intro r' k'
      refine (congrArg (arg4.view.read (Elt Ideal) X4)
        (ext3 _ 0 (tok (rowAt (rowOf k r) r') k') (lane hh d) ?_ ?_ ?_)).trans (h4 _ _ _)
      · show k0_off5 k (BitVec.ofNat 32 r.val) 0 + 1 * 0 = _
        rw [a50]; rfl
      · show k0_off5 k (BitVec.ofNat 32 r.val) 1 + 1 * (at8 r' k').val = _
        rw [a51]; simp only [tok, rowAt, at8]; omega
      · show k0_off5 k (BitVec.ofNat 32 r.val) 2 + 1 * (lane hh d).val = _
        rw [a52]; omega
    · refine (congrArg (arg5.view.read (Elt Ideal) X5) (ext3 _ 0 (tok (rowOf k r) p) (lane hh d) ?_ ?_ ?_)).trans (h5 _ _ _)
      · show k0_off6 k (BitVec.ofNat 32 r.val) 0 + 1 * 0 = _
        rw [a60]; rfl
      · show k0_off6 k (BitVec.ofNat 32 r.val) 1 + 1 * p.val = _
        rw [a61]; simp only [tok]; omega
      · show k0_off6 k (BitVec.ofNat 32 r.val) 2 + 1 * (lane hh d).val = _
        rw [a62]; omega
  · show k0_off6 k (BitVec.ofNat 32 r.val) 1 + 1 * p.val = _
    rw [a61]; simp only [tok]; omega
  · show k0_off6 k (BitVec.ofNat 32 r.val) 2 + 1 * (lane hh d).val = _
    rw [a62]; omega

end Cert.KernelIdeal.NattenPiece
end
-- ==== Proof.NattenValue.lean ====
module

public import proofs.«01_k».proof.Proof.NattenPiece
public import proofs.«01_k».proof.Proof.Gen.Pre_finite_params
public import proofs.«01_k».proof.Defs
public import Idealize.ShloMosaic.Lib.VecWindow

/-!
The neighbourhood attention: the kernel's result array is the reference's, whenever the gains and the bias are finite.
-/

@[expose] public section
set_option maxRecDepth 16384
noncomputable section
open Idealize.ShloMosaic Idealize.ShloMosaic.TcCoe Idealize.SL.Sem
open Idealize.ShloMosaic.Pipeline (Dat)
namespace Cert.KernelIdeal.NattenValue
open Cert.KernelIdeal Cert.KernelIdeal.Gen Cert.NattenSpec Cert.KernelIdeal.NattenHead Cert.KernelIdeal.NattenRow
open Cert.KernelIdeal.NattenPiece Cert.KernelIdeal.NattenTable
open Cert.ReferenceIdeal.NattenRef (ext2 ext3 ext4)

/-- The pieces of both trips, read back at an index of the block, are the attention there. -/
theorem trips_value (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S2x8x64x512 .bf16) (harg8 : arg8.IsWhole) (arg9 : Memref sig .tc .vmem S1x4096x128 .bf16) (harg9 : arg9.IsWhole) (arg10 : Memref sig .tc .vmem S4096x128 .bf16) (harg10 : arg10.IsWhole) (arg11 : Memref sig .tc .vmem S4096x128 .bf16) (harg11 : arg11.IsWhole) (v13 : IVec S1x128 1) (hv : v13 = k0_pay245) (X_arg4 : BufTy.Contents (Elt Ideal) arg4.view.ty) (X_arg5 : BufTy.Contents (Elt Ideal) arg5.view.ty) (X_arg8 : BufTy.Contents (Elt Ideal) arg8.view.ty) (X_arg10 : BufTy.Contents (Elt Ideal) arg10.view.ty) (X_arg11 : BufTy.Contents (Elt Ideal) arg11.view.ty)
    (X : Proj) (gq gk : Gain) (B : Bias)
    (hgq : ∀ d, ∃ r : ℝ, gq d = r) (hgk : ∀ d, ∃ r : ℝ, gk d = r) (hB : ∀ x, ∃ r : ℝ, B x = r) (n : Fin 4) (hd : Fin 2 → Fin 16)
    (h10 : ∀ t hh d, arg10.view.read (Elt Ideal) X_arg10 (ix2 t (lane hh d))
      = nrm (head X n 0 t (hd hh)) d * (gq (ix1 d) * ((1 / 8 : ℝ) : EReal)))
    (h11 : ∀ t hh d, arg11.view.read (Elt Ideal) X_arg11 (ix2 t (lane hh d)) = nrm (head X n 1 t (hd hh)) d * gk (ix1 d))
    (h4 : ∀ t hh d, arg4.view.read (Elt Ideal) X_arg4 (ix3 0 t (lane hh d)) = head X n 2 t (hd hh) d)
    (h5 : ∀ t hh d, arg5.view.read (Elt Ideal) X_arg5 (ix3 0 t (lane hh d)) = head X n 3 t (hd hh) d)
    (hin : ∀ (hh : Fin 2) (s : Fin 8) (p : Fin 64) (r : Fin 8) (k : Fin 16),
      arg8.view.read (Elt Ideal) X_arg8 (ix4 hh s p (at8 r (colAt p k))) = B (ix3 (hd hh) ⟨s.val + r.val, by omega⟩ (relC p k)))
    (hout : ∀ (hh : Fin 2) (s : Fin 8) (p : Fin 64) (r : Fin 8) (k : Fin 64),
      k.val < min (p.val - 8) 48 ∨ min (p.val - 8) 48 + 16 ≤ k.val →
      arg8.view.read (Elt Ideal) X_arg8 (ix4 hh s p (at8 r k)) = (⊥ : EReal))
    {sp : Space} (v : View sig .tc sp S1x4096x128 .bf16) (f : v.ty.Contents (Elt Ideal)) (y : S1x4096x128.Idx) :
    v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 arg11 harg11 v13 X_arg4 X_arg5 X_arg8 X_arg10 X_arg11 2)) y
      = G X gq gk B n hd y := by
  have e : pb_k0_t1 (F := Ideal) 𝒱 c bd i arg2 harg2 arg3 harg3 arg4 harg4 arg5 harg5 arg6 harg6 arg7 harg7 arg8 harg8 arg9 harg9 arg10 harg10 arg11 harg11 v13 X_arg4 X_arg5 X_arg8 X_arg10 X_arg11 2
      = (List.ofFn fun r : Fin 32 => NattenRow.piece arg4 arg5 arg8 arg10 arg11 v13 X_arg4 X_arg5 X_arg8 X_arg10 X_arg11 (1 : Fin 2) r.rev)
        ++ ((List.ofFn fun r : Fin 32 => NattenRow.piece arg4 arg5 arg8 arg10 arg11 v13 X_arg4 X_arg5 X_arg8 X_arg10 X_arg11 (0 : Fin 2) r.rev) ++ []) := by
    have e1 := pb_k0_t1_succ (F := Ideal) 𝒱 c bd i arg2 harg2 arg3 harg3 arg4 harg4 arg5 harg5 arg6 harg6 arg7 harg7 arg8 harg8 arg9 harg9 arg10 harg10 arg11 harg11 v13 X_arg4 X_arg5 X_arg8 X_arg10 X_arg11 (1 : Fin 2)
    have e0 := pb_k0_t1_succ (F := Ideal) 𝒱 c bd i arg2 harg2 arg3 harg3 arg4 harg4 arg5 harg5 arg6 harg6 arg7 harg7 arg8 harg8 arg9 harg9 arg10 harg10 arg11 harg11 v13 X_arg4 X_arg5 X_arg8 X_arg10 X_arg11 (0 : Fin 2)
    exact e1.trans (congrArg₂ (· ++ ·) (trip_eq 𝒱 c bd i arg2 harg2 arg3 harg3 arg4 harg4 arg5 harg5 arg6 harg6 arg7 harg7 arg8 harg8 arg9 harg9 arg10 harg10 arg11 harg11 v13 X_arg4 X_arg5 X_arg8 X_arg10 X_arg11 (1 : Fin 2))
      (e0.trans (congrArg₂ (· ++ ·) (trip_eq 𝒱 c bd i arg2 harg2 arg3 harg3 arg4 harg4 arg5 harg5 arg6 harg6 arg7 harg7 arg8 harg8 arg9 harg9 arg10 harg10 arg11 harg11 v13 X_arg4 X_arg5 X_arg8 X_arg10 X_arg11 (0 : Fin 2)) rfl)))
  rw [e, hv]
  refine View.read_writes_apply_of_pieces (Val := Elt Ideal) (e := .bf16) v f (G X gq gk B n hd) _ ?_ y ?_
  · intro q hq x
    simp only [List.mem_append, List.mem_ofFn, List.not_mem_nil, or_false] at hq
    obtain ⟨r, rfl⟩ | ⟨r, rfl⟩ := hq
    · exact piece_value X gq gk B hgq hgk hB n hd arg4 arg5 arg8 arg10 arg11 _ _ _ _ _ h10 h11 h4 h5 hin hout (1 : Fin 2) r.rev x
    · exact piece_value X gq gk B hgq hgk hB n hd arg4 arg5 arg8 arg10 arg11 _ _ _ _ _ h10 h11 h4 h5 hin hout (0 : Fin 2) r.rev x
  · have hy : (y 1).val < 4096 := (y 1).isLt
    have key : ∀ (k : Fin k0_t1_loop.trips) (r : Fin 32), (rowOf k r).val = (y 1).val / 64 →
        y ∈ (NattenRow.piece arg4 arg5 arg8 arg10 arg11 k0_pay245 X_arg4 X_arg5 X_arg8 X_arg10 X_arg11 k r).1.set := by
      intro k r hk
      obtain ⟨a60, a61, a62⟩ := off6_eq k r
      refine (LoadRect.mem_set _).mpr fun a => ?_
      match a with
      | ⟨0, _⟩ =>
        refine ⟨0, Nat.one_pos, ?_⟩
        show (y 0).val = k0_off6 k (BitVec.ofNat 32 r.val) 0 + 1 * 0
        rw [a60]; exact Nat.lt_one_iff.mp (y 0).isLt
      | ⟨1, _⟩ =>
        refine ⟨(y 1).val % 64, Nat.mod_lt _ (by decide), ?_⟩
        show (y 1).val = k0_off6 k (BitVec.ofNat 32 r.val) 1 + 1 * ((y 1).val % 64)
        rw [a61, hk]; omega
      | ⟨2, _⟩ =>
        refine ⟨(y 2).val, (y 2).isLt, ?_⟩
        show (y 2).val = k0_off6 k (BitVec.ofNat 32 r.val) 2 + 1 * (y 2).val
        rw [a62]; omega
    by_cases h : (y 1).val / 64 < 32
    · refine ⟨_, ?_, key (0 : Fin 2) ⟨(y 1).val / 64, h⟩ ?_⟩
      · simp only [List.mem_append, List.mem_ofFn, List.not_mem_nil, or_false]
        exact Or.inr ⟨Fin.rev ⟨(y 1).val / 64, h⟩, by rw [Fin.rev_rev]⟩
      · show 32 * 0 + (y 1).val / 64 = _
        omega
    · refine ⟨_, ?_, key (1 : Fin 2) ⟨(y 1).val / 64 - 32, by omega⟩ ?_⟩
      · simp only [List.mem_append, List.mem_ofFn, List.not_mem_nil, or_false]
        exact Or.inl ⟨Fin.rev ⟨(y 1).val / 64 - 32, by omega⟩, by rw [Fin.rev_rev]⟩
      · show 32 * 1 + ((y 1).val / 64 - 32) = _
        omega

/-- What a grid point leaves in its output block is the attention, when its input blocks hold the projections, the gains
and the bias. -/
theorem out_value (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S2x8x64x512 .bf16) (harg8 : arg8.IsWhole) (arg9 : Memref sig .tc .vmem S1x4096x128 .bf16) (harg9 : arg9.IsWhole) (arg10 : Memref sig .tc .vmem S4096x128 .bf16) (harg10 : arg10.IsWhole) (arg11 : Memref sig .tc .vmem S4096x128 .bf16) (harg11 : arg11.IsWhole)     (x0 : Vec Ideal S1x4096x128 .bf16) (x1 : Vec Ideal S1x4096x128 .bf16) (x2 : Vec Ideal S1x4096x128 .bf16) (x3 : Vec Ideal S1x4096x128 .bf16) (x4 : Vec Ideal S1x128 .f32) (x5 : Vec Ideal S1x128 .f32) (x6 : Vec Ideal S2x8x64x512 .bf16)
    (X : Proj) (gq gk : Gain) (B : Bias)
    (hgq : ∀ d, ∃ r : ℝ, gq d = r) (hgk : ∀ d, ∃ r : ℝ, gk d = r) (hB : ∀ x, ∃ r : ℝ, B x = r) (n : Fin 4) (hd : Fin 2 → Fin 16)
    (h0 : ∀ t hh d, x0 (ix3 0 t (lane hh d)) = head X n 0 t (hd hh) d)
    (h1 : ∀ t hh d, x1 (ix3 0 t (lane hh d)) = head X n 1 t (hd hh) d)
    (h2 : ∀ t hh d, x2 (ix3 0 t (lane hh d)) = head X n 2 t (hd hh) d)
    (h3 : ∀ t hh d, x3 (ix3 0 t (lane hh d)) = head X n 3 t (hd hh) d)
    (h4 : ∀ hh d, x4 (ix2 0 (lane hh d)) = gq (ix1 d)) (h5 : ∀ hh d, x5 (ix2 0 (lane hh d)) = gk (ix1 d))
    (hin : ∀ (hh : Fin 2) (s : Fin 8) (p : Fin 64) (r : Fin 8) (k : Fin 16),
      x6 (ix4 hh s p (at8 r (colAt p k))) = B (ix3 (hd hh) ⟨s.val + r.val, by omega⟩ (relC p k)))
    (hout : ∀ (hh : Fin 2) (s : Fin 8) (p : Fin 64) (r : Fin 8) (k : Fin 64),
      k.val < min (p.val - 8) 48 ∨ min (p.val - 8) 48 + 16 ≤ k.val → x6 (ix4 hh s p (at8 r k)) = (⊥ : EReal))
    (y : S1x4096x128.Idx) :
    out0_A_7 (F := Ideal) c i arg2 harg2 arg3 harg3 arg4 harg4 arg5 harg5 arg6 harg6 arg7 harg7 arg8 harg8 arg9 harg9 arg10 harg10 arg11 harg11 x0 x1 x2 x3 x4 x5 x6 y = G X gq gk B n hd y := by
  unfold out0_A_7 kernelRun0_A
  dsimp only
  unfold kernelRun0_A.sl.HS0_1 kernelRun0_A.sl.HS1_1 kernelRun0_A.sl.r
  refine trips_value _ _ _ _ _ _ _ _ _ _ _ _ _ _ _ _ _ _ _ _ _ _ _ _ _ rfl _ _ _ _ _ X gq gk B hgq hgk hB n hd ?_ ?_ ?_ ?_ ?_ ?_ _ _ y
  · intro t hh d
    rw [View.read_writes_full, View.readAt_full, View.readAt_full, Memref.IsWhole.read_unread, Memref.IsWhole.read_unread, pay246_apply]
    simp only [h0, h4]
    rfl
  · intro t hh d
    rw [View.read_writes_full, View.readAt_full, View.readAt_full, Memref.IsWhole.read_unread, Memref.IsWhole.read_unread, pay1_apply]
    have e : ∀ d', k0_pay247 (F := Ideal) x1 (ix2 t (lane hh d')) = head X n 1 t (hd hh) d' := by
      intro d'; pointwise [k0_pay247]; exact h1 t hh d'
    simp only [e, h5]
    rfl
  · intro t hh d; rw [Memref.IsWhole.read_unread]; exact h2 t hh d
  · intro t hh d; rw [Memref.IsWhole.read_unread]; exact h3 t hh d
  · intro hh s p r k; rw [Memref.IsWhole.read_unread]; exact hin hh s p r k
  · intro hh s p r k hk; rw [Memref.IsWhole.read_unread]; exact hout hh s p r k hk
/-- The windows' block indices at every grid point. -/
theorem idx : ∀ t : Fin cfg0.N,
    win0_0.index t = ![(grid0.coords t 0).val, 0, (grid0.coords t 1).val]
      ∧ win0_1.index t = ![(grid0.coords t 0).val, 0, 8 + (grid0.coords t 1).val]
      ∧ win0_2.index t = ![(grid0.coords t 0).val, 0, 16 + (grid0.coords t 1).val]
      ∧ win0_3.index t = ![(grid0.coords t 0).val, 0, 24 + (grid0.coords t 1).val]
      ∧ win0_4.index t = ![0, 0] ∧ win0_5.index t = ![0, 0]
      ∧ win0_6.index t = ![(grid0.coords t 1).val, 0, 0, 0]
      ∧ win0_7.index t = ![(grid0.coords t 0).val, 0, (grid0.coords t 1).val] :=
  (by decide +kernel : ∀ t : Fin grid0.N, _)

variable (m : (ℓ : Loc nD τ sig) → Buf (Elt Ideal) ℓ)

/-- The two heads of a grid point. -/
def heads (t : Fin cfg0.N) (hh : Fin 2) : Fin 16 :=
  ⟨2 * (grid0.coords t 1).val + hh.val, by have : (grid0.coords t 1).val < 8 := (grid0.coords t 1).isLt; omega⟩

/-- The batch row of a grid point. -/
def bat (t : Fin cfg0.N) : Fin 4 := ⟨(grid0.coords t 0).val, (grid0.coords t 0).isLt⟩

theorem block0 (c : Dev nD) (t : Fin cfg0.N) (x : Fin 4096) (hh : Fin 2) (d : Fin 64) :
    (iblk m c 0 t : S1x4096x128.Idx → EReal) (ix3 0 x (lane hh d))
      = head (m (c.tc.loc main_arg0)) (bat t) 0 x (heads t hh) d := by
  unfold head
  blk_ext [iblk, V, idx t, bat, heads, scol, lane]

theorem block1 (c : Dev nD) (t : Fin cfg0.N) (x : Fin 4096) (hh : Fin 2) (d : Fin 64) :
    (iblk m c 1 t : S1x4096x128.Idx → EReal) (ix3 0 x (lane hh d))
      = head (m (c.tc.loc main_arg0)) (bat t) 1 x (heads t hh) d := by
  unfold head
  blk_ext [iblk, V, idx t, bat, heads, scol, lane]

theorem block2 (c : Dev nD) (t : Fin cfg0.N) (x : Fin 4096) (hh : Fin 2) (d : Fin 64) :
    (iblk m c 2 t : S1x4096x128.Idx → EReal) (ix3 0 x (lane hh d))
      = head (m (c.tc.loc main_arg0)) (bat t) 2 x (heads t hh) d := by
  unfold head
  blk_ext [iblk, V, idx t, bat, heads, scol, lane]

theorem block3 (c : Dev nD) (t : Fin cfg0.N) (x : Fin 4096) (hh : Fin 2) (d : Fin 64) :
    (iblk m c 3 t : S1x4096x128.Idx → EReal) (ix3 0 x (lane hh d))
      = head (m (c.tc.loc main_arg0)) (bat t) 3 x (heads t hh) d := by
  unfold head
  blk_ext [iblk, V, idx t, bat, heads, scol, lane]

theorem block4 (c : Dev nD) (t : Fin cfg0.N) (hh : Fin 2) (d : Fin 64) :
    (iblk m c 4 t : S1x128.Idx → EReal) (ix2 0 (lane hh d)) = (m (c.tc.loc main_arg1) : S64.Idx → EReal) (ix1 d) := by
  refine Eq.trans ?_ (twice_apply _ hh d)
  rw [← V_v28 m c]
  blk_ext [iblk, idx t]

theorem block5 (c : Dev nD) (t : Fin cfg0.N) (hh : Fin 2) (d : Fin 64) :
    (iblk m c 5 t : S1x128.Idx → EReal) (ix2 0 (lane hh d)) = (m (c.tc.loc main_arg2) : S64.Idx → EReal) (ix1 d) := by
  refine Eq.trans ?_ (twice_apply _ hh d)
  rw [← V_v30 m c]
  blk_ext [iblk, idx t]

theorem block6 (c : Dev nD) (t : Fin cfg0.N) (hh : Fin 2) (s : Fin 8) (p : Fin 64) (j : Fin 512) :
    (iblk m c 6 t : S2x8x64x512.Idx → EReal) (ix4 hh s p j)
      = bands (masked (m (c.tc.loc main_arg3))) (ix4 (heads t hh) s p j) := by
  rw [← V_v26 m c]
  blk_ext [iblk, idx t, heads]

/-- Every entry is a real number. -/
def Real' {ι : Type} (f : ι → EReal) : Prop := ∀ x, ∃ r : ℝ, f x = (r : EReal)

/-- The attention as one array. -/
def REF (X : Proj) (gq gk : Gain) (B : Bias) : S4x4096x1024.Idx → EReal := fun y =>
  attn X gq gk B (y 0) ⟨(y 1).val / 64, by have : (y 1).val < 4096 := (y 1).isLt; omega⟩ ⟨(y 1).val % 64, by omega⟩
    ⟨(y 2).val / 64, by have : (y 2).val < 1024 := (y 2).isLt; omega⟩ ⟨(y 2).val % 64, by omega⟩

theorem REF_at (X : Proj) (gq gk : Gain) (B : Bias) (y : S4x4096x1024.Idx) (b : Fin 4) (i p : Fin 64) (h : Fin 16)
    (d : Fin 64) (h0 : (y 0).val = b.val) (h1 : (y 1).val = 64 * i.val + p.val) (h2 : (y 2).val = 64 * h.val + d.val) :
    REF X gq gk B y = attn X gq gk B b i p h d := by
  unfold REF
  congr 1
  · exact Fin.ext h0
  · apply Fin.ext; show (y 1).val / 64 = _; omega
  · apply Fin.ext; show (y 1).val % 64 = _; omega
  · apply Fin.ext; show (y 2).val / 64 = _; omega
  · apply Fin.ext; show (y 2).val % 64 = _; omega

/-- The kernel's array. -/
theorem final (c : Dev nD) (hgq : Real' (ι := S64.Idx) (m (c.tc.loc main_arg1)))
    (hgk : Real' (ι := S64.Idx) (m (c.tc.loc main_arg2)))
    (hB : Real' (ι := S16x15x31.Idx) (m (c.tc.loc main_arg3))) :
    (dats m 0 c).arrAt 7 (cfgs 0).N = REF (m (c.tc.loc main_arg0)) (m (c.tc.loc main_arg1)) (m (c.tc.loc main_arg2))
      (m (c.tc.loc main_arg3)) := by
  refine (dats m 0 c).arrAt_eq_of_covers 7 _ (by decide +kernel) fun t _ y => ?_
  blk_simp
  rw [after0_7, outsAt0]
  refine (out_value _ _ _ _ _ _ _ _ _ _ _ _ _ _ _ _ _ _ _ _ _ _ _ _ _ _ _ _ _ _ (m (c.tc.loc main_arg1)) (m (c.tc.loc main_arg2))
    (m (c.tc.loc main_arg3)) hgq hgk hB (bat t) (heads t) (block0 m c t) (block1 m c t) (block2 m c t) (block3 m c t)
    (block4 m c t) (block5 m c t) ?_ ?_ _).trans ?_
  · intro hh s p r k
    exact (block6 m c t hh s p _).trans (table_in m c _ s p r k)
  · intro hh s p r k hk
    exact (block6 m c t hh s p _).trans (table_out m c _ s p r k hk)
  have b1 : ((y : S1x4096x128.Idx) 1).val < 4096 := ((y : S1x4096x128.Idx) 1).isLt
  have b2 : ((y : S1x4096x128.Idx) 2).val < 128 := ((y : S1x4096x128.Idx) 2).isLt
  have b0 : ((y : S1x4096x128.Idx) 0).val < 1 := ((y : S1x4096x128.Idx) 0).isLt
  have hh0 : (heads t ⟨((y : S1x4096x128.Idx) 2).val / 64, by omega⟩).val
      = 2 * (grid0.coords t 1).val + ((y : S1x4096x128.Idx) 2).val / 64 := rfl
  refine (G_at _ _ _ _ _ _ y ⟨((y : S1x4096x128.Idx) 1).val / 64, by omega⟩ ⟨((y : S1x4096x128.Idx) 1).val % 64, by omega⟩
    ⟨((y : S1x4096x128.Idx) 2).val / 64, by omega⟩ ⟨((y : S1x4096x128.Idx) 2).val % 64, by omega⟩ ?_ ?_).trans
    (REF_at _ _ _ _ _ _ _ _ _ _ ?_ ?_ ?_).symm
  · simp only [tok]; omega
  · simp only [lane]; omega
  · simp [idx t, bat]
  · simp [idx t]; omega
  · simp [idx t]; omega

end Cert.KernelIdeal.NattenValue
end
-- ==== Proof.NattenClaim.lean ====
module

public import proofs.«01_k».proof.Proof.NattenValue
public import proofs.«01_k».proof.Proof.NattenRefValue

/-!
The claim of the neighbourhood attention, its precondition read as "every gain and every bias is a real number".
-/

@[expose] public section
set_option maxRecDepth 16384
noncomputable section
open Idealize.ShloMosaic Idealize.ShloMosaic.TcCoe Idealize.SL.Sem
namespace Cert.KernelIdeal.NattenClaim
open Cert.KernelIdeal Cert.KernelIdeal.Gen Cert.NattenSpec Cert.KernelIdeal.NattenValue

/-- A value whose size is below infinity is a real number. -/
theorem real_of_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- The reference's array is the plain form's. -/
theorem ref_eq (X : Proj) (gq gk : Gain) (B : Bias) :
    Cert.ReferenceIdeal.Read.val_main_v127 (F := Ideal) X gq gk B = REF X gq gk B := by
  funext y
  have b0 : (y 0).val < 4 := (y 0).isLt
  have b1 : (y 1).val < 4096 := (y 1).isLt
  have b2 : (y 2).val < 1024 := (y 2).isLt
  refine Eq.trans (congrArg _ ?_) (Cert.ReferenceIdeal.NattenRef.v127_at X gq gk B (y 0)
    ⟨(y 1).val / 64, by omega⟩ ⟨(y 1).val % 64, by omega⟩ ⟨(y 2).val / 64, by omega⟩ ⟨(y 2).val % 64, by omega⟩)
  refine Cert.ReferenceIdeal.NattenRef.ext3 _ _ _ _ ?_ ?_ ?_
  · rfl
  · simp only [tok]; omega
  · show (y 2).val = (y 2).val / 64 * 64 + (y 2).val % 64; omega

theorem algebraic : Cert.algebraic_KernelIdeal_ReferenceIdeal_pre_finite_params := by
  intro m g m' g' hpre hagree
  have hq : ∀ c : Dev nD, Real' (ι := S64.Idx) (m (c.tc.loc main_arg1)) := fun c d =>
    real_of_lt _ (congrFun (hpre c).1 d)
  have hk : ∀ c : Dev nD, Real' (ι := S64.Idx) (m (c.tc.loc main_arg2)) := fun c d =>
    real_of_lt _ (congrFun (hpre c).2.1 d)
  have hB : ∀ c : Dev nD, Real' (ι := S16x15x31.Idx) (m (c.tc.loc main_arg3)) := fun c d =>
    real_of_lt _ (congrFun (hpre c).2.2 d)
  refine ⟨fun c => REF (m (c.tc.loc main_arg0)) (m (c.tc.loc main_arg1)) (m (c.tc.loc main_arg2)) (m (c.tc.loc main_arg3)),
    ?_, ?_⟩
  · refine (θ_run Cert.KernelIdeal.defs _ _).mono (fun r h c => ?_) (Cert.KernelIdeal.Value.run_blocks m g)
    obtain ⟨h1, h2⟩ := h c
    exact ⟨h1.trans (final m c (hq c) (hk c) (hB c)), h2⟩
  · refine (θ_run Cert.ReferenceIdeal.defs _ _).mono (fun r h c => ?_) (Cert.ReferenceIdeal.Value.run (F := Ideal) m' g')
    obtain ⟨h1, h2⟩ := h c
    obtain ⟨a0, a1, a2, a3⟩ := hagree c
    rw [Cert.ReferenceIdeal.Read.val_main_v127_eq, a0, a1, a2, a3] at h1
    exact ⟨h1.trans (ref_eq _ _ _ _), h2⟩

end Cert.KernelIdeal.NattenClaim
end
-- ==== Proof.OutValue.lean ====
/- The output projection with the residual: the kernel's result array is the reference's term. -/
module

public import proofs.«01_k».proof.Proof.Gen.KernelOutIdeal.Value
public import proofs.«01_k».proof.Proof.Gen.ReferenceOutIdeal.Run
public import proofs.«01_k».proof.Proof.Gen.ReferenceOutIdeal.Read
public import proofs.«01_k».proof.Defs
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelOutIdeal.OutValue

open Cert.KernelOutIdeal Cert.KernelOutIdeal.Gen

variable (m : (ℓ : Loc nD τ sig) → Buf (Elt Ideal) ℓ)

/-- The four windows' block indices at every grid point. -/
theorem idx : ∀ t : Fin cfg0.N,
    win0_0.index t = ![(grid0.coords t 1).val, 0] ∧ win0_1.index t = ![0, 0, (grid0.coords t 0).val]
      ∧ win0_2.index t = ![(grid0.coords t 1).val, (grid0.coords t 0).val]
      ∧ win0_3.index t = ![(grid0.coords t 1).val, (grid0.coords t 0).val] :=
  (by decide +kernel : ∀ t : Fin grid0.N, _)

/-- The reference's result, read at an index: the residual plus the row of the merged branches times
    the column of the output weights. -/
def REF (x0 : FVec Ideal S16384x4096 .bf16) (x1 : FVec Ideal S1x4096x4096 .bf16) (x2 : FVec Ideal S16384x4096 .f32) :
    FVec Ideal S16384x4096 .f32 :=
  fun i => x2 i + ∑ k : Fin 4096, x0 (ix2 (i 0) k) * x1 (ix3 0 k (i 1))

/-- The reference's composed term is `REF`. -/
theorem ref_eq (x0 : FVec Ideal S16384x4096 .bf16) (x1 : FVec Ideal S1x4096x4096 .bf16) (x2 : FVec Ideal S16384x4096 .f32) :
    Cert.ReferenceOutIdeal.Read.val_main_v4 (F := Ideal) x0 x1 x2 = REF x0 x1 x2 := by
  funext i
  idx_vars i
  pointwise [Cert.ReferenceOutIdeal.Read.val_main_v4, Cert.ReferenceOutIdeal.Read.val_main_v3, Cert.ReferenceOutIdeal.Read.val_main_v2, Cert.ReferenceOutIdeal.Read.val_main_v1, Cert.ReferenceOutIdeal.Read.val_main_v0, REF]

/-- What one grid point stores at a block index is `REF` at the array index under it. -/
theorem point (c : Dev nD) (t : Fin cfg0.N) (y : S1024x1024.Idx) :
    k0_pay1 (iblk m c 2 t) (iblk m c 0 t) (iblk m c 1 t) y
      = REF (m ((c : Thread nD τ).loc main_arg0)) (m ((c : Thread nD τ).loc main_arg1)) (m ((c : Thread nD τ).loc main_arg2))
          (((cfg0.win 3).blk t).view.emb y) := by
  pointwise [k0_pay1, REF]
  blk_point [iblk, V, idx t]

/-- The kernel's result array is `REF` of its arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The call computes its reference. -/
theorem algebraic : Cert.algebraic_KernelOutIdeal_ReferenceOutIdeal := by
  pair_intro
  · run_from Cert.KernelOutIdeal.Gen.run_main m g
  · run_from Cert.ReferenceOutIdeal.Value.run m' g'
    · exact (Cert.ReferenceOutIdeal.Read.val_main_v4_eq _ _ _).trans ((ref_eq _ _ _).trans (final m c).symm)

end Cert.KernelOutIdeal.OutValue

end
-- ==== Proof.GatesValue.lean ====
/- The gate projection, which also casts the next layer's weights: both result arrays are the reference's terms. -/
module

public import proofs.«01_k».proof.Proof.Gen.KernelGatesIdeal.Value
public import proofs.«01_k».proof.Proof.Gen.ReferenceGatesIdeal.Run
public import proofs.«01_k».proof.Proof.Gen.ReferenceGatesIdeal.Read
public import proofs.«01_k».proof.Defs
public import Idealize.ShloMosaic.Lib.Claim
public import proofs.«01_k».proof.Proof.Scalars
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelGatesIdeal.GatesValue

open Cert.KernelGatesIdeal Cert.KernelGatesIdeal.Gen

variable (m : (ℓ : Loc nD τ sig) → Buf (Elt Ideal) ℓ)

/-- The windows' block indices at every grid point. -/
theorem idx : ∀ t : Fin cfg0.N,
    win0_0.index t = ![(grid0.coords t 0).val, 0]
      ∧ win0_2.index t = ![1, (grid0.coords t 0).val * 16 + (grid0.coords t 1).val, 0]
      ∧ win0_3.index t = ![(grid0.coords t 0).val, (grid0.coords t 1).val]
      ∧ win0_4.index t = ![0, (grid0.coords t 0).val * 16 + (grid0.coords t 1).val, 0] :=
  (by decide +kernel : ∀ t : Fin grid0.N, _)

/-- The weights' window is indexed by elements: at a grid point its block begins at row 0 and at the
    gates' column offset plus 1024 times the point's column. -/
theorem idx1 (t : Fin cfg0.N) (y : S1x4096x1024.Idx) (a : Fin 3) :
    ((win0_1.rect t).emb y a : Nat) = ![0, 0, 13568 + 1024 * (grid0.coords t 1).val] a + y a := by
  refine (win0_1.rect_emb_val_off t y a).trans ?_
  exact congrArg (· + (y a : Nat)) ((by decide +kernel : ∀ (t : Fin grid0.N) (a : Fin 3),
    win0_1.index t a = ![0, 0, 13568 + 1024 * (grid0.coords t 1).val] a) t a)

/-- The gates, read at an index: the logistic function of the row of the normalised input times the
    gate column of the input weights. -/
def REFG (x0 : FVec Ideal S16384x4096 .bf16) (x1 : FVec Ideal S1x4096x29952 .bf16) : FVec Ideal S16384x16384 .bf16 :=
  fun i => Ideal.logistic (∑ k : Fin 4096, x0 (ix2 (i 0) k) * x1 (ix3 0 k ⟨13568 + (i 1).val, by
    have h : (i 1).val < 16384 := (i 1).isLt
    omega⟩))

/-- The next layer's weights. -/
def REFW (x2 : FVec Ideal S4x4096x29952 .f32) : FVec Ideal S1x4096x29952 .bf16 :=
  fun i => x2 (ix3 1 (i 1) (i 2))

/-- The reference's composed term for the gates is `REFG`. -/
theorem refg_eq (x0 : FVec Ideal S16384x4096 .bf16) (x1 : FVec Ideal S1x4096x29952 .bf16) :
    Cert.ReferenceGatesIdeal.Read.val_main_v11 (F := Ideal) x0 x1 = REFG x0 x1 := by
  funext i
  idx_vars i
  pointwise [Cert.ReferenceGatesIdeal.Read.val_main_v11, Cert.ReferenceGatesIdeal.Read.val_main_v10, Cert.ReferenceGatesIdeal.Read.val_main_v9, Cert.ReferenceGatesIdeal.Read.val_main_v8, Cert.ReferenceGatesIdeal.Read.val_main_v7, Cert.ReferenceGatesIdeal.Read.val_main_v6, Cert.ReferenceGatesIdeal.Read.val_main_v5, Cert.ReferenceGatesIdeal.Read.val_main_v4, Cert.ReferenceGatesIdeal.Read.val_main_v3, Cert.ReferenceGatesIdeal.Read.val_main_v2, Cert.ReferenceGatesIdeal.Read.val_main_v1, Cert.ReferenceGatesIdeal.Read.val_main_v0, Cert.ReferenceGatesIdeal.Read.val_main_cst, Cert.ReferenceGatesIdeal.Read.val_main_cst_0, REFG, Ideal.logistic]

/-- The reference's composed term for the weights is `REFW`. -/
theorem refw_eq (x2 : FVec Ideal S4x4096x29952 .f32) :
    Cert.ReferenceGatesIdeal.Read.val_main_v13 (F := Ideal) x2 = REFW x2 := by
  funext i
  idx_vars i
  pointwise [Cert.ReferenceGatesIdeal.Read.val_main_v13, Cert.ReferenceGatesIdeal.Read.val_main_v12, REFW]

/-- What one grid point stores into the gates at a block index. -/
theorem pointg (c : Dev nD) (t : Fin cfg0.N) (y : S1024x1024.Idx) :
    k0_pay1 (iblk m c 0 t) (iblk m c 1 t) y
      = REFG (m ((c : Thread nD τ).loc main_arg0)) (m ((c : Thread nD τ).loc main_arg1))
          (((cfg0.win 3).blk t).view.emb y) := by
  pointwise [k0_pay1, REFG]
  rw [Cert.Scalars.half, Cert.Scalars.sigmoid]
  blk_point [iblk, V, idx t]
  · exact (idx1 t _ 1).trans (by simp)
  · exact (idx1 t _ 2).trans (by simp [Nat.add_assoc, Nat.mul_comm])

/-- What one grid point stores into the next weights at a block index. -/
theorem pointw (c : Dev nD) (t : Fin cfg0.N) (y : S1x16x29952.Idx) :
    k0_pay2 (iblk m c 2 t) y
      = REFW (m ((c : Thread nD τ).loc main_arg2)) (((cfg0.win 4).blk t).view.emb y) := by
  pointwise [k0_pay2, REFW]
  blk_point [iblk, V, idx t]

/-- The array of gates after the run. -/
theorem finalg (c : Dev nD) : (dats m 0 c).arrAt 3 (cfgs 0).N
    = REFG (m ((c : Thread nD τ).loc main_arg0)) (m ((c : Thread nD τ).loc main_arg1)) := by
  refine (dats m 0 c).arrAt_eq_of_covers 3 _ (by decide +kernel) fun t _ y => ?_
  blk_simp
  rw [after0_3]; frame_out
  exact pointg m c t y

/-- The array of the next layer's weights after the run. -/
theorem finalw (c : Dev nD) : (dats m 0 c).arrAt 4 (cfgs 0).N
    = REFW (m ((c : Thread nD τ).loc main_arg2)) := by
  refine (dats m 0 c).arrAt_eq_of_covers 4 _ (by decide +kernel) fun t _ y => ?_
  blk_simp
  rw [after0_4]; frame_out
  exact pointw m c t y

/-- The call computes its reference. -/
theorem algebraic : Cert.algebraic_KernelGatesIdeal_ReferenceGatesIdeal := by
  pair_intro
  · run_from Cert.KernelGatesIdeal.Gen.run_main m g
  · refine θ_run_mono (Cert.ReferenceGatesIdeal.Value.run m' g') ?_
    intro r hr c
    obtain ⟨h1, h2, h3, h4, h5⟩ := hr c
    obtain ⟨a0, a1, a2⟩ := hagree c
    rw [Cert.ReferenceGatesIdeal.Read.val_main_v11_eq, a0, a1] at h1
    rw [Cert.ReferenceGatesIdeal.Read.val_main_v13_eq, a2] at h2
    exact ⟨h1.trans ((refg_eq _ _).trans (finalg m c).symm), h2.trans ((refw_eq _).trans (finalw m c).symm),
      h3, h4, h5⟩

end Cert.KernelGatesIdeal.GatesValue

end
-- ==== Proof.MergeValue.lean ====
/- The gated merge of the four branches: the kernel's result array is the reference's term. -/
module

public import proofs.«01_k».proof.Proof.Gen.KernelMergeIdeal.Value
public import proofs.«01_k».proof.Proof.Gen.ReferenceMergeIdeal.Run
public import proofs.«01_k».proof.Proof.Gen.ReferenceMergeIdeal.Read
public import proofs.«01_k».proof.Defs
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMergeIdeal.MergeValue

open Cert.KernelMergeIdeal Cert.KernelMergeIdeal.Gen

variable (m : (ℓ : Loc nD τ sig) → Buf (Elt Ideal) ℓ)

/-- The windows' block indices at every grid point. -/
theorem idx : ∀ t : Fin cfg0.N,
    win0_0.index t = ![(grid0.coords t 1).val, 0] ∧ win0_1.index t = ![(grid0.coords t 1).val, 0]
      ∧ win0_2.index t = ![(grid0.coords t 1).val, 0] ∧ win0_3.index t = ![(grid0.coords t 1).val, 0]
      ∧ win0_4.index t = ![0, 0, 0, (grid0.coords t 0).val]
      ∧ win0_5.index t = ![(grid0.coords t 1).val, (grid0.coords t 0).val]
      ∧ win0_6.index t = ![(grid0.coords t 1).val, 4 + (grid0.coords t 0).val]
      ∧ win0_7.index t = ![(grid0.coords t 1).val, 8 + (grid0.coords t 0).val]
      ∧ win0_8.index t = ![(grid0.coords t 1).val, 12 + (grid0.coords t 0).val]
      ∧ win0_9.index t = ![(grid0.coords t 1).val, (grid0.coords t 0).val] :=
  (by decide +kernel : ∀ t : Fin grid0.N, _)

/-- Branch `n`'s share of the merge at row `r`, column `j`: its gate times its row of the branch times
    the column of the branch's output weights. -/
def TERM (n : Fin 4) (y : FVec Ideal S16384x1024 .bf16) (w : FVec Ideal S1x4x1024x4096 .bf16)
    (g : FVec Ideal S16384x16384 .bf16) (r : Fin 16384) (j : Fin 4096) : EReal :=
  g (ix2 r ⟨n.val * 4096 + j.val, by omega⟩) * ∑ k : Fin 1024, y (ix2 r k) * w (ix4 0 n k j)

/-- The merge: the four branches' shares added. -/
def REF (y0 y1 y2 y3 : FVec Ideal S16384x1024 .bf16) (w : FVec Ideal S1x4x1024x4096 .bf16)
    (g : FVec Ideal S16384x16384 .bf16) : FVec Ideal S16384x4096 .bf16 :=
  fun i => TERM 0 y0 w g (i 0) (i 1) + TERM 1 y1 w g (i 0) (i 1) + TERM 2 y2 w g (i 0) (i 1)
    + TERM 3 y3 w g (i 0) (i 1)

set_option maxHeartbeats 1600000 in
/-- The reference's composed term is `REF`. -/
theorem ref_eq (y0 y1 y2 y3 : FVec Ideal S16384x1024 .bf16) (w : FVec Ideal S1x4x1024x4096 .bf16)
    (g : FVec Ideal S16384x16384 .bf16) :
    Cert.ReferenceMergeIdeal.Read.val_main_v37 (F := Ideal) y0 y1 y2 y3 w g = REF y0 y1 y2 y3 w g := by
  funext i
  idx_vars i
  pointwise [Cert.ReferenceMergeIdeal.Read.val_main_v37, Cert.ReferenceMergeIdeal.Read.val_main_v36, Cert.ReferenceMergeIdeal.Read.val_main_v35, Cert.ReferenceMergeIdeal.Read.val_main_v34, Cert.ReferenceMergeIdeal.Read.val_main_v33, Cert.ReferenceMergeIdeal.Read.val_main_v32, Cert.ReferenceMergeIdeal.Read.val_main_v31, Cert.ReferenceMergeIdeal.Read.val_main_v30, Cert.ReferenceMergeIdeal.Read.val_main_v29, Cert.ReferenceMergeIdeal.Read.val_main_v28, Cert.ReferenceMergeIdeal.Read.val_main_v27, Cert.ReferenceMergeIdeal.Read.val_main_v26, Cert.ReferenceMergeIdeal.Read.val_main_v25, Cert.ReferenceMergeIdeal.Read.val_main_v24, Cert.ReferenceMergeIdeal.Read.val_main_v23, Cert.ReferenceMergeIdeal.Read.val_main_v22, Cert.ReferenceMergeIdeal.Read.val_main_v21, Cert.ReferenceMergeIdeal.Read.val_main_v20, Cert.ReferenceMergeIdeal.Read.val_main_v19, Cert.ReferenceMergeIdeal.Read.val_main_v18, Cert.ReferenceMergeIdeal.Read.val_main_v17, Cert.ReferenceMergeIdeal.Read.val_main_v16, Cert.ReferenceMergeIdeal.Read.val_main_v15, Cert.ReferenceMergeIdeal.Read.val_main_v14, Cert.ReferenceMergeIdeal.Read.val_main_v13, Cert.ReferenceMergeIdeal.Read.val_main_v12, Cert.ReferenceMergeIdeal.Read.val_main_v11, Cert.ReferenceMergeIdeal.Read.val_main_v10, Cert.ReferenceMergeIdeal.Read.val_main_v9, Cert.ReferenceMergeIdeal.Read.val_main_v8, Cert.ReferenceMergeIdeal.Read.val_main_v7, Cert.ReferenceMergeIdeal.Read.val_main_v6, Cert.ReferenceMergeIdeal.Read.val_main_v5, Cert.ReferenceMergeIdeal.Read.val_main_v4, Cert.ReferenceMergeIdeal.Read.val_main_v3, Cert.ReferenceMergeIdeal.Read.val_main_v2, Cert.ReferenceMergeIdeal.Read.val_main_v1, Cert.ReferenceMergeIdeal.Read.val_main_v0, Cert.ReferenceMergeIdeal.Read.val_main_cst, REF, TERM]

set_option maxHeartbeats 1600000 in
/-- What one grid point stores at a block index is `REF` at the array index under it. -/
theorem final (c : Dev nD) : (dats m 0 c).arrAt 9 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 9 _ (by decide +kernel) fun t _ y => ?_
  blk_simp
  rw [after0_9]; frame_out
  pointwise [k0_pay1, k0_pay2, k0_pay3, REF, TERM]
  blk_point [iblk, V, idx t]

/-- The call computes its reference. -/
theorem algebraic : Cert.algebraic_KernelMergeIdeal_ReferenceMergeIdeal := by
  pair_intro
  · run_from Cert.KernelMergeIdeal.Gen.run_main m g
  · run_from Cert.ReferenceMergeIdeal.Value.run m' g'
    · exact (Cert.ReferenceMergeIdeal.Read.val_main_v37_eq _ _ _ _ _ _).trans ((ref_eq _ _ _ _ _ _).trans (final m c).symm)

end Cert.KernelMergeIdeal.MergeValue

end
-- ==== Proof.RkvValue.lean ====
/- The projections r, k and v of the recurrent branch: what the call leaves is what the reference says. -/
module

public import proofs.«01_k».proof.Proof.Gen.KernelRkvIdeal.Value
public import proofs.«01_k».proof.Proof.Gen.ReferenceRkvIdeal.Run
public import proofs.«01_k».proof.Proof.Gen.ReferenceRkvIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelRkvIdeal.RkvValue

open Cert.KernelRkvIdeal Cert.KernelRkvIdeal.Gen

variable (m : (ℓ : Loc nD τ sig) → Buf (Elt Ideal) ℓ)

/-- The windows' block indices at every grid point. -/
theorem idx : ∀ t : Fin cfg0.N,
    win0_0.index t = ![(grid0.coords t 0).val, 0]
      ∧ win0_2.index t = ![(grid0.coords t 0).val, (grid0.coords t 1).val] :=
  (by decide +kernel : ∀ t : Fin grid0.N, _)

/-- The weights' window is indexed by elements: at a grid point its block begins at row 0 and at the
    column offset of these projections plus 1024 times the point's column. -/
theorem idx1 (t : Fin cfg0.N) (y : S1x4096x1024.Idx) (a : Fin 3) :
    ((win0_1.rect t).emb y a : Nat) = ![0, 0, 1024 * (grid0.coords t 1).val] a + y a := by
  refine (win0_1.rect_emb_val_off t y a).trans ?_
  exact congrArg (· + (y a : Nat)) ((by decide +kernel : ∀ (t : Fin grid0.N) (a : Fin 3),
    win0_1.index t a = ![0, 0, 1024 * (grid0.coords t 1).val] a) t a)

/-- The projections r, k and v of the recurrent branch, read at an index: a row of the input times a column of the weights. -/
def REF (x0 : FVec Ideal S16384x4096 .bf16) (x1 : FVec Ideal S1x4096x29952 .bf16) : FVec Ideal S16384x3072 .bf16 :=
  fun i => ∑ k : Fin 4096, x0 (ix2 (i 0) k) * x1 (ix3 0 k ⟨0 + (i 1).val, by
    have h : (i 1).val < 3072 := (i 1).isLt
    omega⟩)

/-- The reference's composed term is `REF`. -/
theorem ref_eq (x0 : FVec Ideal S16384x4096 .bf16) (x1 : FVec Ideal S1x4096x29952 .bf16) :
    Cert.ReferenceRkvIdeal.Read.val_main_v5 (F := Ideal) x0 x1 = REF x0 x1 := by
  funext i
  idx_vars i
  pointwise [Cert.ReferenceRkvIdeal.Read.val_main_v5, Cert.ReferenceRkvIdeal.Read.val_main_v4, Cert.ReferenceRkvIdeal.Read.val_main_v3, Cert.ReferenceRkvIdeal.Read.val_main_v2, Cert.ReferenceRkvIdeal.Read.val_main_v1, Cert.ReferenceRkvIdeal.Read.val_main_v0, REF]

/-- What one grid point stores at a block index. -/
theorem point (c : Dev nD) (t : Fin cfg0.N) (y : S1024x1024.Idx) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, V, idx t]
  · exact (idx1 t _ 1).trans (by simp)
  · exact (idx1 t _ 2).trans (by simp [Nat.add_assoc, Nat.mul_comm])

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call computes its reference. -/
theorem algebraic : Cert.algebraic_KernelRkvIdeal_ReferenceRkvIdeal := by
  pair_intro
  · run_from Cert.KernelRkvIdeal.Gen.run_main m g
  · run_from Cert.ReferenceRkvIdeal.Value.run m' g'
    · exact (Cert.ReferenceRkvIdeal.Read.val_main_v5_eq _ _).trans ((ref_eq _ _).trans (final m c).symm)

end Cert.KernelRkvIdeal.RkvValue

end
-- ==== Proof.LoraValue.lean ====
/- The low-rank projections of the recurrent branch: what the call leaves is what the reference says. -/
module

public import proofs.«01_k».proof.Proof.Gen.KernelLoraIdeal.Value
public import proofs.«01_k».proof.Proof.Gen.ReferenceLoraIdeal.Run
public import proofs.«01_k».proof.Proof.Gen.ReferenceLoraIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelLoraIdeal.LoraValue

open Cert.KernelLoraIdeal Cert.KernelLoraIdeal.Gen

variable (m : (ℓ : Loc nD τ sig) → Buf (Elt Ideal) ℓ)

/-- The windows' block indices at every grid point. -/
theorem idx : ∀ t : Fin cfg0.N,
    win0_0.index t = ![(grid0.coords t 0).val, 0]
      ∧ win0_2.index t = ![(grid0.coords t 0).val, (grid0.coords t 1).val] :=
  (by decide +kernel : ∀ t : Fin grid0.N, _)

/-- The weights' window is indexed by elements: at a grid point its block begins at row 0 and at the
    column offset of these projections plus 256 times the point's column. -/
theorem idx1 (t : Fin cfg0.N) (y : S1x4096x256.Idx) (a : Fin 3) :
    ((win0_1.rect t).emb y a : Nat) = ![0, 0, 3072 + 256 * (grid0.coords t 1).val] a + y a := by
  refine (win0_1.rect_emb_val_off t y a).trans ?_
  exact congrArg (· + (y a : Nat)) ((by decide +kernel : ∀ (t : Fin grid0.N) (a : Fin 3),
    win0_1.index t a = ![0, 0, 3072 + 256 * (grid0.coords t 1).val] a) t a)

/-- The low-rank projections of the recurrent branch, read at an index: a row of the input times a column of the weights. -/
def REF (x0 : FVec Ideal S16384x4096 .bf16) (x1 : FVec Ideal S1x4096x29952 .bf16) : FVec Ideal S16384x256 .bf16 :=
  fun i => ∑ k : Fin 4096, x0 (ix2 (i 0) k) * x1 (ix3 0 k ⟨3072 + (i 1).val, by
    have h : (i 1).val < 256 := (i 1).isLt
    omega⟩)

/-- The reference's composed term is `REF`. -/
theorem ref_eq (x0 : FVec Ideal S16384x4096 .bf16) (x1 : FVec Ideal S1x4096x29952 .bf16) :
    Cert.ReferenceLoraIdeal.Read.val_main_v5 (F := Ideal) x0 x1 = REF x0 x1 := by
  funext i
  idx_vars i
  pointwise [Cert.ReferenceLoraIdeal.Read.val_main_v5, Cert.ReferenceLoraIdeal.Read.val_main_v4, Cert.ReferenceLoraIdeal.Read.val_main_v3, Cert.ReferenceLoraIdeal.Read.val_main_v2, Cert.ReferenceLoraIdeal.Read.val_main_v1, Cert.ReferenceLoraIdeal.Read.val_main_v0, REF]

/-- What one grid point stores at a block index. -/
theorem point (c : Dev nD) (t : Fin cfg0.N) (y : S1024x256.Idx) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, V, idx t]
  · exact (idx1 t _ 1).trans (by simp)
  · exact (idx1 t _ 2).trans (by simp [Nat.add_assoc, Nat.mul_comm])

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call computes its reference. -/
theorem algebraic : Cert.algebraic_KernelLoraIdeal_ReferenceLoraIdeal := by
  pair_intro
  · run_from Cert.KernelLoraIdeal.Gen.run_main m g
  · run_from Cert.ReferenceLoraIdeal.Value.run m' g'
    · exact (Cert.ReferenceLoraIdeal.Read.val_main_v5_eq _ _).trans ((ref_eq _ _).trans (final m c).symm)

end Cert.KernelLoraIdeal.LoraValue

end
-- ==== Proof.GateAValue.lean ====
/- The gate projection of the recurrent branch: what the call leaves is what the reference says. -/
module

public import proofs.«01_k».proof.Proof.Gen.KernelGateAIdeal.Value
public import proofs.«01_k».proof.Proof.Gen.ReferenceGateAIdeal.Run
public import proofs.«01_k».proof.Proof.Gen.ReferenceGateAIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelGateAIdeal.GateAValue

open Cert.KernelGateAIdeal Cert.KernelGateAIdeal.Gen

variable (m : (ℓ : Loc nD τ sig) → Buf (Elt Ideal) ℓ)

/-- The windows' block indices at every grid point. -/
theorem idx : ∀ t : Fin cfg0.N,
    win0_0.index t = ![(grid0.coords t 0).val, 0]
      ∧ win0_2.index t = ![0, (grid0.coords t 0).val * 1 + (grid0.coords t 1).val, 0]
      ∧ win0_3.index t = ![(grid0.coords t 0).val, (grid0.coords t 1).val]
      ∧ win0_4.index t = ![0, (grid0.coords t 0).val * 1 + (grid0.coords t 1).val, 0] :=
  (by decide +kernel : ∀ t : Fin grid0.N, _)

/-- The weights' window is indexed by elements: at a grid point its block begins at row 0 and at the
    column offset of these projections plus 1024 times the point's column. -/
theorem idx1 (t : Fin cfg0.N) (y : S1x4096x1024.Idx) (a : Fin 3) :
    ((win0_1.rect t).emb y a : Nat) = ![0, 0, 3328 + 1024 * (grid0.coords t 1).val] a + y a := by
  refine (win0_1.rect_emb_val_off t y a).trans ?_
  exact congrArg (· + (y a : Nat)) ((by decide +kernel : ∀ (t : Fin grid0.N) (a : Fin 3),
    win0_1.index t a = ![0, 0, 3328 + 1024 * (grid0.coords t 1).val] a) t a)

/-- The gate projection of the recurrent branch, read at an index: a row of the input times a column of the weights. -/
def REF (x0 : FVec Ideal S16384x4096 .bf16) (x1 : FVec Ideal S1x4096x29952 .bf16) : FVec Ideal S16384x1024 .bf16 :=
  fun i => ∑ k : Fin 4096, x0 (ix2 (i 0) k) * x1 (ix3 0 k ⟨3328 + (i 1).val, by
    have h : (i 1).val < 1024 := (i 1).isLt
    omega⟩)

/-- The reference's composed term is `REF`. -/
theorem ref_eq (x0 : FVec Ideal S16384x4096 .bf16) (x1 : FVec Ideal S1x4096x29952 .bf16) :
    Cert.ReferenceGateAIdeal.Read.val_main_v5 (F := Ideal) x0 x1 = REF x0 x1 := by
  funext i
  idx_vars i
  pointwise [Cert.ReferenceGateAIdeal.Read.val_main_v5, Cert.ReferenceGateAIdeal.Read.val_main_v4, Cert.ReferenceGateAIdeal.Read.val_main_v3, Cert.ReferenceGateAIdeal.Read.val_main_v2, Cert.ReferenceGateAIdeal.Read.val_main_v1, Cert.ReferenceGateAIdeal.Read.val_main_v0, REF]

/-- What one grid point stores at a block index. -/
theorem point (c : Dev nD) (t : Fin cfg0.N) (y : S1024x1024.Idx) :
    k0_pay1 (iblk m c 0 t) (iblk m c 1 t) y
      = REF (m ((c : Thread nD τ).loc main_arg0)) (m ((c : Thread nD τ).loc main_arg1))
          (((cfg0.win 3).blk t).view.emb y) := by
  pointwise [k0_pay1, REF]
  blk_point [iblk, V, idx t]
  · exact (idx1 t _ 1).trans (by simp)
  · exact (idx1 t _ 2).trans (by simp [Nat.add_assoc, Nat.mul_comm])

/-- The array after the run. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The weights of the memory's keys and values of this layer. -/
def REFW (x2 : FVec Ideal S4x4096x2048 .f32) : FVec Ideal S1x4096x2048 .bf16 :=
  fun i => x2 (ix3 0 (i 1) (i 2))

/-- The reference's composed term for the weights is `REFW`. -/
theorem refw_eq (x2 : FVec Ideal S4x4096x2048 .f32) :
    Cert.ReferenceGateAIdeal.Read.val_main_v7 (F := Ideal) x2 = REFW x2 := by
  funext i
  idx_vars i
  pointwise [Cert.ReferenceGateAIdeal.Read.val_main_v7, Cert.ReferenceGateAIdeal.Read.val_main_v6, REFW]

/-- What one grid point stores into the cast weights at a block index. -/
theorem pointw (c : Dev nD) (t : Fin cfg0.N) (y : S1x256x2048.Idx) :
    k0_pay2 (iblk m c 2 t) y
      = REFW (m ((c : Thread nD τ).loc main_arg2)) (((cfg0.win 4).blk t).view.emb y) := by
  pointwise [k0_pay2, REFW]
  blk_point [iblk, V, idx t]

/-- The array of cast weights after the run. -/
theorem finalw (c : Dev nD) : (dats m 0 c).arrAt 4 (cfgs 0).N
    = REFW (m ((c : Thread nD τ).loc main_arg2)) := by
  refine (dats m 0 c).arrAt_eq_of_covers 4 _ (by decide +kernel) fun t _ y => ?_
  blk_simp
  rw [after0_4]; frame_out
  exact pointw m c t y

/-- The call computes its reference. -/
theorem algebraic : Cert.algebraic_KernelGateAIdeal_ReferenceGateAIdeal := by
  pair_intro
  · run_from Cert.KernelGateAIdeal.Gen.run_main m g
  · run_from Cert.ReferenceGateAIdeal.Value.run m' g'
    · exact (Cert.ReferenceGateAIdeal.Read.val_main_v5_eq _ _).trans ((ref_eq _ _).trans (final m c).symm)
    · exact (Cert.ReferenceGateAIdeal.Read.val_main_v7_eq _).trans ((refw_eq _).trans (finalw m c).symm)

end Cert.KernelGateAIdeal.GateAValue

end
-- ==== Proof.BranchBValue.lean ====
/- The projections of the spatial-gating branch: what the call leaves is what the reference says. -/
module

public import proofs.«01_k».proof.Proof.Gen.KernelBranchBIdeal.Value
public import proofs.«01_k».proof.Proof.Gen.ReferenceBranchBIdeal.Run
public import proofs.«01_k».proof.Proof.Gen.ReferenceBranchBIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelBranchBIdeal.BranchBValue

open Cert.KernelBranchBIdeal Cert.KernelBranchBIdeal.Gen

variable (m : (ℓ : Loc nD τ sig) → Buf (Elt Ideal) ℓ)

/-- The windows' block indices at every grid point. -/
theorem idx : ∀ t : Fin cfg0.N,
    win0_0.index t = ![(grid0.coords t 0).val, 0]
      ∧ win0_2.index t = ![(grid0.coords t 0).val, (grid0.coords t 1).val] :=
  (by decide +kernel : ∀ t : Fin grid0.N, _)

/-- The weights' window is indexed by elements: at a grid point its block begins at row 0 and at the
    column offset of these projections plus 1024 times the point's column. -/
theorem idx1 (t : Fin cfg0.N) (y : S1x4096x1024.Idx) (a : Fin 3) :
    ((win0_1.rect t).emb y a : Nat) = ![0, 0, 4352 + 1024 * (grid0.coords t 1).val] a + y a := by
  refine (win0_1.rect_emb_val_off t y a).trans ?_
  exact congrArg (· + (y a : Nat)) ((by decide +kernel : ∀ (t : Fin grid0.N) (a : Fin 3),
    win0_1.index t a = ![0, 0, 4352 + 1024 * (grid0.coords t 1).val] a) t a)

/-- The projections of the spatial-gating branch, read at an index: a row of the input times a column of the weights. -/
def REF (x0 : FVec Ideal S16384x4096 .bf16) (x1 : FVec Ideal S1x4096x29952 .bf16) : FVec Ideal S16384x3072 .bf16 :=
  fun i => ∑ k : Fin 4096, x0 (ix2 (i 0) k) * x1 (ix3 0 k ⟨4352 + (i 1).val, by
    have h : (i 1).val < 3072 := (i 1).isLt
    omega⟩)

/-- The reference's composed term is `REF`. -/
theorem ref_eq (x0 : FVec Ideal S16384x4096 .bf16) (x1 : FVec Ideal S1x4096x29952 .bf16) :
    Cert.ReferenceBranchBIdeal.Read.val_main_v5 (F := Ideal) x0 x1 = REF x0 x1 := by
  funext i
  idx_vars i
  pointwise [Cert.ReferenceBranchBIdeal.Read.val_main_v5, Cert.ReferenceBranchBIdeal.Read.val_main_v4, Cert.ReferenceBranchBIdeal.Read.val_main_v3, Cert.ReferenceBranchBIdeal.Read.val_main_v2, Cert.ReferenceBranchBIdeal.Read.val_main_v1, Cert.ReferenceBranchBIdeal.Read.val_main_v0, REF]

/-- What one grid point stores at a block index. -/
theorem point (c : Dev nD) (t : Fin cfg0.N) (y : S1024x1024.Idx) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, V, idx t]
  · exact (idx1 t _ 1).trans (by simp)
  · exact (idx1 t _ 2).trans (by simp [Nat.add_assoc, Nat.mul_comm])

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call computes its reference. -/
theorem algebraic : Cert.algebraic_KernelBranchBIdeal_ReferenceBranchBIdeal := by
  pair_intro
  · run_from Cert.KernelBranchBIdeal.Gen.run_main m g
  · run_from Cert.ReferenceBranchBIdeal.Value.run m' g'
    · exact (Cert.ReferenceBranchBIdeal.Read.val_main_v5_eq _ _).trans ((ref_eq _ _).trans (final m c).symm)

end Cert.KernelBranchBIdeal.BranchBValue

end
-- ==== Proof.BranchCValue.lean ====
/- The projections of the neighbourhood-attention branch: what the call leaves is what the reference says. -/
module

public import proofs.«01_k».proof.Proof.Gen.KernelBranchCIdeal.Value
public import proofs.«01_k».proof.Proof.Gen.ReferenceBranchCIdeal.Run
public import proofs.«01_k».proof.Proof.Gen.ReferenceBranchCIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelBranchCIdeal.BranchCValue

open Cert.KernelBranchCIdeal Cert.KernelBranchCIdeal.Gen

variable (m : (ℓ : Loc nD τ sig) → Buf (Elt Ideal) ℓ)

/-- The windows' block indices at every grid point. -/
theorem idx : ∀ t : Fin cfg0.N,
    win0_0.index t = ![(grid0.coords t 0).val, 0]
      ∧ win0_2.index t = ![0, (grid0.coords t 0).val * 4 + (grid0.coords t 1).val, 0]
      ∧ win0_3.index t = ![(grid0.coords t 0).val, (grid0.coords t 1).val]
      ∧ win0_4.index t = ![0, (grid0.coords t 0).val * 4 + (grid0.coords t 1).val, 0] :=
  (by decide +kernel : ∀ t : Fin grid0.N, _)

/-- The weights' window is indexed by elements: at a grid point its block begins at row 0 and at the
    column offset of these projections plus 1024 times the point's column. -/
theorem idx1 (t : Fin cfg0.N) (y : S1x4096x1024.Idx) (a : Fin 3) :
    ((win0_1.rect t).emb y a : Nat) = ![0, 0, 7424 + 1024 * (grid0.coords t 1).val] a + y a := by
  refine (win0_1.rect_emb_val_off t y a).trans ?_
  exact congrArg (· + (y a : Nat)) ((by decide +kernel : ∀ (t : Fin grid0.N) (a : Fin 3),
    win0_1.index t a = ![0, 0, 7424 + 1024 * (grid0.coords t 1).val] a) t a)

/-- The projections of the neighbourhood-attention branch, read at an index: a row of the input times a column of the weights. -/
def REF (x0 : FVec Ideal S16384x4096 .bf16) (x1 : FVec Ideal S1x4096x29952 .bf16) : FVec Ideal S16384x4096 .bf16 :=
  fun i => ∑ k : Fin 4096, x0 (ix2 (i 0) k) * x1 (ix3 0 k ⟨7424 + (i 1).val, by
    have h : (i 1).val < 4096 := (i 1).isLt
    omega⟩)

/-- The reference's composed term is `REF`. -/
theorem ref_eq (x0 : FVec Ideal S16384x4096 .bf16) (x1 : FVec Ideal S1x4096x29952 .bf16) :
    Cert.ReferenceBranchCIdeal.Read.val_main_v5 (F := Ideal) x0 x1 = REF x0 x1 := by
  funext i
  idx_vars i
  pointwise [Cert.ReferenceBranchCIdeal.Read.val_main_v5, Cert.ReferenceBranchCIdeal.Read.val_main_v4, Cert.ReferenceBranchCIdeal.Read.val_main_v3, Cert.ReferenceBranchCIdeal.Read.val_main_v2, Cert.ReferenceBranchCIdeal.Read.val_main_v1, Cert.ReferenceBranchCIdeal.Read.val_main_v0, REF]

/-- What one grid point stores at a block index. -/
theorem point (c : Dev nD) (t : Fin cfg0.N) (y : S1024x1024.Idx) :
    k0_pay1 (iblk m c 0 t) (iblk m c 1 t) y
      = REF (m ((c : Thread nD τ).loc main_arg0)) (m ((c : Thread nD τ).loc main_arg1))
          (((cfg0.win 3).blk t).view.emb y) := by
  pointwise [k0_pay1, REF]
  blk_point [iblk, V, idx t]
  · exact (idx1 t _ 1).trans (by simp)
  · exact (idx1 t _ 2).trans (by simp [Nat.add_assoc, Nat.mul_comm])

/-- The array after the run. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The branches' output weights, the four stacked of this layer. -/
def REFW (x2 : FVec Ideal S4x4x1024x4096 .f32) : FVec Ideal S1x4096x4096 .bf16 :=
  fun i => x2 (ix4 0 ⟨(i 1).val / 1024, by
    have h : (i 1).val < 4096 := (i 1).isLt
    omega⟩ ⟨(i 1).val % 1024, by omega⟩ (i 2))

/-- The reference's composed term for the weights is `REFW`. -/
theorem refw_eq (x2 : FVec Ideal S4x4x1024x4096 .f32) :
    Cert.ReferenceBranchCIdeal.Read.val_main_v9 (F := Ideal) x2 = REFW x2 := by
  funext i
  idx_vars i
  pointwise [Cert.ReferenceBranchCIdeal.Read.val_main_v9, Cert.ReferenceBranchCIdeal.Read.val_main_v8, Cert.ReferenceBranchCIdeal.Read.val_main_v7, Cert.ReferenceBranchCIdeal.Read.val_main_v6, REFW]

/-- What one grid point stores into the cast weights at a block index. -/
theorem pointw (c : Dev nD) (t : Fin cfg0.N) (y : S1x64x4096.Idx) :
    k0_pay2 (iblk m c 2 t) y
      = REFW (m ((c : Thread nD τ).loc main_arg2)) (((cfg0.win 4).blk t).view.emb y) := by
  pointwise [k0_pay2, REFW]
  blk_point [iblk, V, idx t]

/-- The array of cast weights after the run. -/
theorem finalw (c : Dev nD) : (dats m 0 c).arrAt 4 (cfgs 0).N
    = REFW (m ((c : Thread nD τ).loc main_arg2)) := by
  refine (dats m 0 c).arrAt_eq_of_covers 4 _ (by decide +kernel) fun t _ y => ?_
  blk_simp
  rw [after0_4]; frame_out
  exact pointw m c t y

/-- The call computes its reference. -/
theorem algebraic : Cert.algebraic_KernelBranchCIdeal_ReferenceBranchCIdeal := by
  pair_intro
  · run_from Cert.KernelBranchCIdeal.Gen.run_main m g
  · run_from Cert.ReferenceBranchCIdeal.Value.run m' g'
    · exact (Cert.ReferenceBranchCIdeal.Read.val_main_v5_eq _ _).trans ((ref_eq _ _).trans (final m c).symm)
    · exact (Cert.ReferenceBranchCIdeal.Read.val_main_v9_eq _).trans ((refw_eq _).trans (finalw m c).symm)

end Cert.KernelBranchCIdeal.BranchCValue

end
-- ==== Proof.BranchMValue.lean ====
/- The projections of the memory-attention branch: what the call leaves is what the reference says. -/
module

public import proofs.«01_k».proof.Proof.Gen.KernelBranchMIdeal.Value
public import proofs.«01_k».proof.Proof.Gen.ReferenceBranchMIdeal.Run
public import proofs.«01_k».proof.Proof.Gen.ReferenceBranchMIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelBranchMIdeal.BranchMValue

open Cert.KernelBranchMIdeal Cert.KernelBranchMIdeal.Gen

variable (m : (ℓ : Loc nD τ sig) → Buf (Elt Ideal) ℓ)

/-- The windows' block indices at every grid point. -/
theorem idx : ∀ t : Fin cfg0.N,
    win0_0.index t = ![(grid0.coords t 0).val, 0]
      ∧ win0_2.index t = ![0, (grid0.coords t 0).val * 2 + (grid0.coords t 1).val, 0]
      ∧ win0_3.index t = ![(grid0.coords t 0).val, (grid0.coords t 1).val]
      ∧ win0_4.index t = ![0, (grid0.coords t 0).val * 2 + (grid0.coords t 1).val, 0] :=
  (by decide +kernel : ∀ t : Fin grid0.N, _)

/-- The weights' window is indexed by elements: at a grid point its block begins at row 0 and at the
    column offset of these projections plus 1024 times the point's column. -/
theorem idx1 (t : Fin cfg0.N) (y : S1x4096x1024.Idx) (a : Fin 3) :
    ((win0_1.rect t).emb y a : Nat) = ![0, 0, 11520 + 1024 * (grid0.coords t 1).val] a + y a := by
  refine (win0_1.rect_emb_val_off t y a).trans ?_
  exact congrArg (· + (y a : Nat)) ((by decide +kernel : ∀ (t : Fin grid0.N) (a : Fin 3),
    win0_1.index t a = ![0, 0, 11520 + 1024 * (grid0.coords t 1).val] a) t a)

/-- The projections of the memory-attention branch, read at an index: a row of the input times a column of the weights. -/
def REF (x0 : FVec Ideal S16384x4096 .bf16) (x1 : FVec Ideal S1x4096x29952 .bf16) : FVec Ideal S16384x2048 .bf16 :=
  fun i => ∑ k : Fin 4096, x0 (ix2 (i 0) k) * x1 (ix3 0 k ⟨11520 + (i 1).val, by
    have h : (i 1).val < 2048 := (i 1).isLt
    omega⟩)

/-- The reference's composed term is `REF`. -/
theorem ref_eq (x0 : FVec Ideal S16384x4096 .bf16) (x1 : FVec Ideal S1x4096x29952 .bf16) :
    Cert.ReferenceBranchMIdeal.Read.val_main_v5 (F := Ideal) x0 x1 = REF x0 x1 := by
  funext i
  idx_vars i
  pointwise [Cert.ReferenceBranchMIdeal.Read.val_main_v5, Cert.ReferenceBranchMIdeal.Read.val_main_v4, Cert.ReferenceBranchMIdeal.Read.val_main_v3, Cert.ReferenceBranchMIdeal.Read.val_main_v2, Cert.ReferenceBranchMIdeal.Read.val_main_v1, Cert.ReferenceBranchMIdeal.Read.val_main_v0, REF]

/-- What one grid point stores at a block index. -/
theorem point (c : Dev nD) (t : Fin cfg0.N) (y : S1024x1024.Idx) :
    k0_pay1 (iblk m c 0 t) (iblk m c 1 t) y
      = REF (m ((c : Thread nD τ).loc main_arg0)) (m ((c : Thread nD τ).loc main_arg1))
          (((cfg0.win 3).blk t).view.emb y) := by
  pointwise [k0_pay1, REF]
  blk_point [iblk, V, idx t]
  · exact (idx1 t _ 1).trans (by simp)
  · exact (idx1 t _ 2).trans (by simp [Nat.add_assoc, Nat.mul_comm])

/-- The array after the run. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The output projection's weights of this layer. -/
def REFW (x2 : FVec Ideal S4x4096x4096 .f32) : FVec Ideal S1x4096x4096 .bf16 :=
  fun i => x2 (ix3 0 (i 1) (i 2))

/-- The reference's composed term for the weights is `REFW`. -/
theorem refw_eq (x2 : FVec Ideal S4x4096x4096 .f32) :
    Cert.ReferenceBranchMIdeal.Read.val_main_v7 (F := Ideal) x2 = REFW x2 := by
  funext i
  idx_vars i
  pointwise [Cert.ReferenceBranchMIdeal.Read.val_main_v7, Cert.ReferenceBranchMIdeal.Read.val_main_v6, REFW]

/-- What one grid point stores into the cast weights at a block index. -/
theorem pointw (c : Dev nD) (t : Fin cfg0.N) (y : S1x128x4096.Idx) :
    k0_pay2 (iblk m c 2 t) y
      = REFW (m ((c : Thread nD τ).loc main_arg2)) (((cfg0.win 4).blk t).view.emb y) := by
  pointwise [k0_pay2, REFW]
  blk_point [iblk, V, idx t]

/-- The array of cast weights after the run. -/
theorem finalw (c : Dev nD) : (dats m 0 c).arrAt 4 (cfgs 0).N
    = REFW (m ((c : Thread nD τ).loc main_arg2)) := by
  refine (dats m 0 c).arrAt_eq_of_covers 4 _ (by decide +kernel) fun t _ y => ?_
  blk_simp
  rw [after0_4]; frame_out
  exact pointw m c t y

/-- The call computes its reference. -/
theorem algebraic : Cert.algebraic_KernelBranchMIdeal_ReferenceBranchMIdeal := by
  pair_intro
  · run_from Cert.KernelBranchMIdeal.Gen.run_main m g
  · run_from Cert.ReferenceBranchMIdeal.Value.run m' g'
    · exact (Cert.ReferenceBranchMIdeal.Read.val_main_v5_eq _ _).trans ((ref_eq _ _).trans (final m c).symm)
    · exact (Cert.ReferenceBranchMIdeal.Read.val_main_v7_eq _).trans ((refw_eq _).trans (finalw m c).symm)

end Cert.KernelBranchMIdeal.BranchMValue

end
-- ==== Proof.MemKvValue.lean ====
/- The keys and values of the memory tokens: what the call leaves is what the reference says. -/
module

public import proofs.«01_k».proof.Proof.Gen.KernelMemKvIdeal.Value
public import proofs.«01_k».proof.Proof.Gen.ReferenceMemKvIdeal.Run
public import proofs.«01_k».proof.Proof.Gen.ReferenceMemKvIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelMemKvIdeal.MemKvValue

open Cert.KernelMemKvIdeal Cert.KernelMemKvIdeal.Gen

variable (m : (ℓ : Loc nD τ sig) → Buf (Elt Ideal) ℓ)

/-- The windows' block indices at every grid point. -/
theorem idx : ∀ t : Fin cfg0.N,
    win0_0.index t = ![(grid0.coords t 0).val, 0]
      ∧ win0_2.index t = ![(grid0.coords t 0).val, (grid0.coords t 1).val] :=
  (by decide +kernel : ∀ t : Fin grid0.N, _)

/-- The weights' window is indexed by elements: at a grid point its block begins at row 0 and at the
    column offset of these projections plus 1024 times the point's column. -/
theorem idx1 (t : Fin cfg0.N) (y : S1x4096x1024.Idx) (a : Fin 3) :
    ((win0_1.rect t).emb y a : Nat) = ![0, 0, 1024 * (grid0.coords t 1).val] a + y a := by
  refine (win0_1.rect_emb_val_off t y a).trans ?_
  exact congrArg (· + (y a : Nat)) ((by decide +kernel : ∀ (t : Fin grid0.N) (a : Fin 3),
    win0_1.index t a = ![0, 0, 1024 * (grid0.coords t 1).val] a) t a)

/-- The keys and values of the memory tokens, read at an index: a row of the input times a column of the weights. -/
def REF (x0 : FVec Ideal S1024x4096 .bf16) (x1 : FVec Ideal S1x4096x2048 .bf16) : FVec Ideal S1024x2048 .bf16 :=
  fun i => ∑ k : Fin 4096, x0 (ix2 (i 0) k) * x1 (ix3 0 k ⟨0 + (i 1).val, by
    have h : (i 1).val < 2048 := (i 1).isLt
    omega⟩)

/-- The reference's composed term is `REF`. -/
theorem ref_eq (x0 : FVec Ideal S1024x4096 .bf16) (x1 : FVec Ideal S1x4096x2048 .bf16) :
    Cert.ReferenceMemKvIdeal.Read.val_main_v4 (F := Ideal) x0 x1 = REF x0 x1 := by
  funext i
  idx_vars i
  pointwise [Cert.ReferenceMemKvIdeal.Read.val_main_v4, Cert.ReferenceMemKvIdeal.Read.val_main_v3, Cert.ReferenceMemKvIdeal.Read.val_main_v2, Cert.ReferenceMemKvIdeal.Read.val_main_v1, Cert.ReferenceMemKvIdeal.Read.val_main_v0, REF]

/-- What one grid point stores at a block index. -/
theorem point (c : Dev nD) (t : Fin cfg0.N) (y : S1024x1024.Idx) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, V, idx t]
  · exact (idx1 t _ 1).trans (by simp)
  · exact (idx1 t _ 2).trans (by simp [Nat.add_assoc, Nat.mul_comm])

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call computes its reference. -/
theorem algebraic : Cert.algebraic_KernelMemKvIdeal_ReferenceMemKvIdeal := by
  pair_intro
  · run_from Cert.KernelMemKvIdeal.Gen.run_main m g
  · run_from Cert.ReferenceMemKvIdeal.Value.run m' g'
    · exact (Cert.ReferenceMemKvIdeal.Read.val_main_v4_eq _ _).trans ((ref_eq _ _).trans (final m c).symm)

end Cert.KernelMemKvIdeal.MemKvValue

end
-- ==== Proof.Sums.lean ====
/- Sums taken in parts, and the divisors the kernels write as factors. -/
module

public import proofs.«01_k».proof.Proof.Scalars

@[expose] public section

noncomputable section

open Idealize.ShloMosaic

namespace Cert.Sums

/-- A sum over `a * b` places is the sum over `a` parts of `b` places. -/
theorem sum_parts {a b n : ℕ} (hn : n = a * b) (f : Fin n → EReal) :
    ∑ k, f k = ∑ q : Fin a, ∑ j : Fin b, f ⟨b * q.val + j.val, by
      have hq := q.isLt; have hj := j.isLt; subst hn
      calc b * q.val + j.val < b * q.val + b := by omega
        _ = b * (q.val + 1) := by ring
        _ ≤ b * a := Nat.mul_le_mul_left _ hq
        _ = a * b := Nat.mul_comm ..⟩ := by
  subst hn
  rw [← Fintype.sum_prod_type', ← Equiv.sum_comp finProdFinEquiv]
  refine Finset.sum_congr rfl fun p _ => congrArg f (Fin.ext ?_)
  simp [finProdFinEquiv, Nat.add_comm]

/-- A row of 4096 entries, its eight chunks added one by one. -/
theorem sum_chunks (f : Fin 4096 → EReal) :
    ∑ k, f k = (∑ j : Fin 512, f ⟨0 + j.val, by omega⟩) + (∑ j : Fin 512, f ⟨512 + j.val, by omega⟩)
      + (∑ j : Fin 512, f ⟨1024 + j.val, by omega⟩) + (∑ j : Fin 512, f ⟨1536 + j.val, by omega⟩)
      + (∑ j : Fin 512, f ⟨2048 + j.val, by omega⟩) + (∑ j : Fin 512, f ⟨2560 + j.val, by omega⟩)
      + (∑ j : Fin 512, f ⟨3072 + j.val, by omega⟩) + (∑ j : Fin 512, f ⟨3584 + j.val, by omega⟩) := by
  rw [sum_parts (a := 8) (b := 512) rfl f, Fin.sum_univ_eight]
  rfl

/-- The word of 1/4096. -/
theorem recip_4096 : Ideal.ofBits .f32 0x39800000#32 = ((1 / 4096 : ℝ) : EReal) := by
  simp [Ideal.ofBits, Ideal.ieee, -EReal.coe_mul]; norm_num

/-- The word of 4096. -/
theorem word_4096 : Ideal.ofBits .f32 0x45800000#32 = ((4096 : ℝ) : EReal) := by
  simp [Ideal.ofBits, Ideal.ieee, -EReal.coe_mul]; norm_num

/-- Dividing by 4096 is multiplying by its reciprocal. -/
theorem div_4096 (x : EReal) : Ideal.div x (Ideal.ofBits .f32 0x45800000#32) = x * ((1 / 4096 : ℝ) : EReal) := by
  rw [word_4096, Ideal.div_coe (by norm_num)]

/-- The word of 1/64. -/
theorem recip_64 : Ideal.ofBits .f32 0x3C800000#32 = ((1 / 64 : ℝ) : EReal) := by
  simp [Ideal.ofBits, Ideal.ieee, -EReal.coe_mul]; norm_num

/-- The word of 64. -/
theorem word_64 : Ideal.ofBits .f32 0x42800000#32 = ((64 : ℝ) : EReal) := by
  simp [Ideal.ofBits, Ideal.ieee, -EReal.coe_mul]; norm_num

/-- Dividing by 64 is multiplying by its reciprocal. -/
theorem div_64 (x : EReal) : Ideal.div x (Ideal.ofBits .f32 0x42800000#32) = x * ((1 / 64 : ℝ) : EReal) := by
  rw [word_64, Ideal.div_coe (by norm_num)]

/-- The word of 1/256. -/
theorem recip_256 : Ideal.ofBits .f32 0x3B800000#32 = ((1 / 256 : ℝ) : EReal) := by
  simp [Ideal.ofBits, Ideal.ieee, -EReal.coe_mul]; norm_num

/-- The word of 256. -/
theorem word_256 : Ideal.ofBits .f32 0x43800000#32 = ((256 : ℝ) : EReal) := by
  simp [Ideal.ofBits, Ideal.ieee, -EReal.coe_mul]; norm_num

/-- Dividing by 256 is multiplying by its reciprocal. -/
theorem div_256 (x : EReal) : Ideal.div x (Ideal.ofBits .f32 0x43800000#32) = x * ((1 / 256 : ℝ) : EReal) := by
  rw [word_256, Ideal.div_coe (by norm_num)]

/-- The word of 1/16. -/
theorem recip_16 : Ideal.ofBits .f32 0x3D800000#32 = ((1 / 16 : ℝ) : EReal) := by
  simp [Ideal.ofBits, Ideal.ieee, -EReal.coe_mul]; norm_num

/-- The word of one. -/
theorem lit_one : Ideal.ofBits .f32 0x3F800000#32 = 1 := by
  simp [Ideal.ofBits, Ideal.ieee, -EReal.coe_mul]; norm_num

/-- The word of minus infinity. -/
theorem neg_inf : Ideal.ofBits .f32 0xFF800000#32 = ⊥ := by
  simp [Ideal.ofBits, Ideal.ieee, -EReal.coe_mul]

end Cert.Sums

end
-- ==== Proof.NormValue.lean ====
/- A root-mean-square normalisation: the result array is the reference's term. -/
module

public import proofs.«01_k».proof.Proof.Gen.KernelNormIdeal.Value
public import proofs.«01_k».proof.Proof.Gen.ReferenceNormIdeal.Run
public import proofs.«01_k».proof.Proof.Gen.ReferenceNormIdeal.Read
public import proofs.«01_k».proof.Defs
public import proofs.«01_k».proof.Proof.Sums
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelNormIdeal.NormValue

open Cert.KernelNormIdeal Cert.KernelNormIdeal.Gen

variable (m : (ℓ : Loc nD τ sig) → Buf (Elt Ideal) ℓ)

/-- The windows' block indices at every grid point. -/
theorem idx : ∀ t : Fin cfg0.N,
    win0_0.index t = ![(grid0.coords t 0).val, 0] ∧ win0_1.index t = ![0, 0]
      ∧ win0_2.index t = ![(grid0.coords t 0).val, 0] :=
  (by decide +kernel : ∀ t : Fin grid0.N, _)

/-- The reciprocal root of a row's mean square. -/
def SCALE {n : ℕ} (x : Fin n → EReal) : EReal :=
  Ideal.rsqrt ((∑ k, x k * x k) * ((1 / 4096 : ℝ) : EReal) + Ideal.ofBits .f32 0x358637BD#32)

/-- The normalised rows times the gain. -/
def REF (x0 : FVec Ideal S16384x4096 .f32) (x1 : FVec Ideal S4096 .f32) : FVec Ideal S16384x4096 .bf16 :=
  fun i => x0 i * SCALE (fun k : Fin 4096 => x0 (ix2 (i 0) k)) * x1 (ix1 (i 1))

/-- The reference's composed term is `REF`. -/
theorem ref_eq (x0 : FVec Ideal S16384x4096 .f32) (x1 : FVec Ideal S4096 .f32) :
    Cert.ReferenceNormIdeal.Read.val_main_v13 (F := Ideal) x0 x1 = REF x0 x1 := by
  funext i
  idx_vars i
  pointwise [Cert.ReferenceNormIdeal.Read.val_main_v13, Cert.ReferenceNormIdeal.Read.val_main_v12, Cert.ReferenceNormIdeal.Read.val_main_v11, Cert.ReferenceNormIdeal.Read.val_main_v10, Cert.ReferenceNormIdeal.Read.val_main_v9, Cert.ReferenceNormIdeal.Read.val_main_v8, Cert.ReferenceNormIdeal.Read.val_main_v7, Cert.ReferenceNormIdeal.Read.val_main_v6, Cert.ReferenceNormIdeal.Read.val_main_v5, Cert.ReferenceNormIdeal.Read.val_main_v4, Cert.ReferenceNormIdeal.Read.val_main_v3, Cert.ReferenceNormIdeal.Read.val_main_v2, Cert.ReferenceNormIdeal.Read.val_main_v1, Cert.ReferenceNormIdeal.Read.val_main_v0, Cert.ReferenceNormIdeal.Read.val_main_cst, Cert.ReferenceNormIdeal.Read.val_main_cst_0, Cert.ReferenceNormIdeal.Read.val_main_cst_1, REF, SCALE]
  rw [Cert.Sums.div_4096]

/-- The block's scale of a row: the eight partial sums are the whole sum. -/
theorem scale_at (x : Vec Ideal S512x4096 .f32) (g : Vec Ideal S1x4096 .f32) (r : Fin 512) :
    k0_pay14 (F := Ideal) x g (ix2 r 0) = SCALE (fun k : Fin 4096 => x (ix2 r k)) := by
  unfold SCALE
  rw [Cert.Sums.sum_chunks (fun k : Fin 4096 => x (ix2 r k) * x (ix2 r k)), ← Cert.Sums.recip_4096]
  pointwise [k0_pay14, k0_pay12, k0_pay13, k0_pay4, k0_pay3, k0_pay2]

/-- One column tile at an index. -/
theorem tile_at (s : FVec Ideal S512x1 .f32) (x : Vec Ideal S512x512 .f32) (g : Vec Ideal S1x512 .f32) (r j : Fin 512) :
    k0_pay1 (F := Ideal) s x g (ix2 r j) = x (ix2 r j) * s (ix2 r 0) * g (ix2 0 j) := by
  pointwise [k0_pay1]

/-- The tiles of the block are the one tile at their own columns. -/
theorem tiles (a : FVec Ideal S512x1 .f32) (b : FVec Ideal S512x512 .f32) (x : Vec Ideal S512x512 .f32) (g : Vec Ideal S1x512 .f32) :
    k0_pay11 a x g = k0_pay1 a x g ∧ k0_pay10 a x g = k0_pay1 a x g ∧ k0_pay9 a x g = k0_pay1 a x g
      ∧ k0_pay8 a x g = k0_pay1 a x g ∧ k0_pay7 a b x g = k0_pay1 (k0_pay4 a b) x g
      ∧ k0_pay6 a b x g = k0_pay1 (k0_pay4 a b) x g ∧ k0_pay5 a b x g = k0_pay1 (k0_pay4 a b) x g :=
  ⟨rfl, rfl, rfl, rfl, rfl, rfl, rfl⟩

/-- What the body leaves in the output block. -/
theorem block_at (x : Vec Ideal S512x4096 .f32) (g : Vec Ideal S1x4096 .f32) (y : S512x4096.Idx) :
    out0_2 (F := Ideal) x g y = x y * SCALE (fun k : Fin 4096 => x (ix2 (y 0) k)) * g (ix2 0 (y 1)) := by
  idx_vars y
  rw [show SCALE _ = _ from (scale_at x g y0).symm]
  unfold out0_2
  simp only [(tiles _ (k0_pay13 x g) _ _).1, (tiles _ (k0_pay13 x g) _ _).2.1, (tiles _ (k0_pay13 x g) _ _).2.2.1, (tiles _ (k0_pay13 x g) _ _).2.2.2.1,
    (tiles _ _ _ _).2.2.2.2.1, (tiles _ _ _ _).2.2.2.2.2.1, (tiles _ _ _ _).2.2.2.2.2.2]
  canon_tiles x h
  all_goals
    obtain rfl := (Fin.ext h0 : y0 = x 0)
    obtain ⟨p, rfl⟩ : ∃ p, y1 = ⟨_, p⟩ := ⟨lt_of_eq_of_lt h1.symm y1.isLt, Fin.ext h1⟩
    idx_vars x
    refine (tile_at _ _ _ _ _).trans ?_
    pointwise
    try rfl

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  refine (block_at _ _ _).trans ?_
  unfold REF
  blk_point [iblk, V, idx t]

/-- The call computes its reference. -/
theorem algebraic : Cert.algebraic_KernelNormIdeal_ReferenceNormIdeal := by
  pair_intro
  · run_from Cert.KernelNormIdeal.Gen.run_main m g
  · run_from Cert.ReferenceNormIdeal.Value.run m' g'
    · exact (Cert.ReferenceNormIdeal.Read.val_main_v13_eq _ _).trans ((ref_eq _ _).trans (final m c).symm)

end Cert.KernelNormIdeal.NormValue

end
-- ==== Proof.NormMemValue.lean ====
/- A root-mean-square normalisation: the result array is the reference's term. -/
module

public import proofs.«01_k».proof.Proof.Gen.KernelNormMemIdeal.Value
public import proofs.«01_k».proof.Proof.Gen.ReferenceNormMemIdeal.Run
public import proofs.«01_k».proof.Proof.Gen.ReferenceNormMemIdeal.Read
public import proofs.«01_k».proof.Defs
public import proofs.«01_k».proof.Proof.Sums
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelNormMemIdeal.NormMemValue

open Cert.KernelNormMemIdeal Cert.KernelNormMemIdeal.Gen

variable (m : (ℓ : Loc nD τ sig) → Buf (Elt Ideal) ℓ)

/-- The windows' block indices at every grid point. -/
theorem idx : ∀ t : Fin cfg0.N,
    win0_0.index t = ![(grid0.coords t 0).val, 0] ∧ win0_1.index t = ![0, 0]
      ∧ win0_2.index t = ![(grid0.coords t 0).val, 0] :=
  (by decide +kernel : ∀ t : Fin grid0.N, _)

/-- The reciprocal root of a row's mean square. -/
def SCALE {n : ℕ} (x : Fin n → EReal) : EReal :=
  Ideal.rsqrt ((∑ k, x k * x k) * ((1 / 4096 : ℝ) : EReal) + Ideal.ofBits .f32 0x358637BD#32)

/-- The normalised rows times the gain. -/
def REF (x0 : FVec Ideal S1024x4096 .f32) (x1 : FVec Ideal S4096 .f32) : FVec Ideal S1024x4096 .bf16 :=
  fun i => x0 i * SCALE (fun k : Fin 4096 => x0 (ix2 (i 0) k)) * x1 (ix1 (i 1))

/-- The reference's composed term is `REF`. -/
theorem ref_eq (x0 : FVec Ideal S1024x4096 .f32) (x1 : FVec Ideal S4096 .f32) :
    Cert.ReferenceNormMemIdeal.Read.val_main_v13 (F := Ideal) x0 x1 = REF x0 x1 := by
  funext i
  idx_vars i
  pointwise [Cert.ReferenceNormMemIdeal.Read.val_main_v13, Cert.ReferenceNormMemIdeal.Read.val_main_v12, Cert.ReferenceNormMemIdeal.Read.val_main_v11, Cert.ReferenceNormMemIdeal.Read.val_main_v10, Cert.ReferenceNormMemIdeal.Read.val_main_v9, Cert.ReferenceNormMemIdeal.Read.val_main_v8, Cert.ReferenceNormMemIdeal.Read.val_main_v7, Cert.ReferenceNormMemIdeal.Read.val_main_v6, Cert.ReferenceNormMemIdeal.Read.val_main_v5, Cert.ReferenceNormMemIdeal.Read.val_main_v4, Cert.ReferenceNormMemIdeal.Read.val_main_v3, Cert.ReferenceNormMemIdeal.Read.val_main_v2, Cert.ReferenceNormMemIdeal.Read.val_main_v1, Cert.ReferenceNormMemIdeal.Read.val_main_v0, Cert.ReferenceNormMemIdeal.Read.val_main_cst, Cert.ReferenceNormMemIdeal.Read.val_main_cst_0, Cert.ReferenceNormMemIdeal.Read.val_main_cst_1, REF, SCALE]
  rw [Cert.Sums.div_4096]

/-- The block's scale of a row: the eight partial sums are the whole sum. -/
theorem scale_at (x : Vec Ideal S512x4096 .f32) (g : Vec Ideal S1x4096 .f32) (r : Fin 512) :
    k0_pay14 (F := Ideal) x g (ix2 r 0) = SCALE (fun k : Fin 4096 => x (ix2 r k)) := by
  unfold SCALE
  rw [Cert.Sums.sum_chunks (fun k : Fin 4096 => x (ix2 r k) * x (ix2 r k)), ← Cert.Sums.recip_4096]
  pointwise [k0_pay14, k0_pay12, k0_pay13, k0_pay4, k0_pay3, k0_pay2]

/-- One column tile at an index. -/
theorem tile_at (s : FVec Ideal S512x1 .f32) (x : Vec Ideal S512x512 .f32) (g : Vec Ideal S1x512 .f32) (r j : Fin 512) :
    k0_pay1 (F := Ideal) s x g (ix2 r j) = x (ix2 r j) * s (ix2 r 0) * g (ix2 0 j) := by
  pointwise [k0_pay1]

/-- The tiles of the block are the one tile at their own columns. -/
theorem tiles (a : FVec Ideal S512x1 .f32) (b : FVec Ideal S512x512 .f32) (x : Vec Ideal S512x512 .f32) (g : Vec Ideal S1x512 .f32) :
    k0_pay11 a x g = k0_pay1 a x g ∧ k0_pay10 a x g = k0_pay1 a x g ∧ k0_pay9 a x g = k0_pay1 a x g
      ∧ k0_pay8 a x g = k0_pay1 a x g ∧ k0_pay7 a b x g = k0_pay1 (k0_pay4 a b) x g
      ∧ k0_pay6 a b x g = k0_pay1 (k0_pay4 a b) x g ∧ k0_pay5 a b x g = k0_pay1 (k0_pay4 a b) x g :=
  ⟨rfl, rfl, rfl, rfl, rfl, rfl, rfl⟩

/-- What the body leaves in the output block. -/
theorem block_at (x : Vec Ideal S512x4096 .f32) (g : Vec Ideal S1x4096 .f32) (y : S512x4096.Idx) :
    out0_2 (F := Ideal) x g y = x y * SCALE (fun k : Fin 4096 => x (ix2 (y 0) k)) * g (ix2 0 (y 1)) := by
  idx_vars y
  rw [show SCALE _ = _ from (scale_at x g y0).symm]
  unfold out0_2
  simp only [(tiles _ (k0_pay13 x g) _ _).1, (tiles _ (k0_pay13 x g) _ _).2.1, (tiles _ (k0_pay13 x g) _ _).2.2.1, (tiles _ (k0_pay13 x g) _ _).2.2.2.1,
    (tiles _ _ _ _).2.2.2.2.1, (tiles _ _ _ _).2.2.2.2.2.1, (tiles _ _ _ _).2.2.2.2.2.2]
  canon_tiles x h
  all_goals
    obtain rfl := (Fin.ext h0 : y0 = x 0)
    obtain ⟨p, rfl⟩ : ∃ p, y1 = ⟨_, p⟩ := ⟨lt_of_eq_of_lt h1.symm y1.isLt, Fin.ext h1⟩
    idx_vars x
    refine (tile_at _ _ _ _ _).trans ?_
    pointwise
    try rfl

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  refine (block_at _ _ _).trans ?_
  unfold REF
  blk_point [iblk, V, idx t]

/-- The call computes its reference. -/
theorem algebraic : Cert.algebraic_KernelNormMemIdeal_ReferenceNormMemIdeal := by
  pair_intro
  · run_from Cert.KernelNormMemIdeal.Gen.run_main m g
  · run_from Cert.ReferenceNormMemIdeal.Value.run m' g'
    · exact (Cert.ReferenceNormMemIdeal.Read.val_main_v13_eq _ _).trans ((ref_eq _ _).trans (final m c).symm)

end Cert.KernelNormMemIdeal.NormMemValue

end
-- ==== Proof.MemMath.lean ====
/- The memory attention at an index: one head of the kernel's block. -/
module

public import proofs.«01_k».proof.Proof.Gen.KernelMemAttnIdeal.Value
public import proofs.«01_k».proof.Proof.Sums
public import proofs.«01_k».proof.Proof.NattenMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelMemAttnIdeal.MemMath

open Cert.KernelMemAttnIdeal Cert.KernelMemAttnIdeal.Gen

/-- A head's entries over the root of their mean square. -/
def NRM (x : Fin 256 → EReal) (d : Fin 256) : EReal :=
  x d * Ideal.rsqrt (Ideal.div (∑ k, x k * x k) (Ideal.ofBits .f32 0x43800000#32) + Ideal.ofBits .f32 0x358637BD#32)

/-- The score of a query and a key, normalised and with their gains. -/
def SCORE (x gq y gk : Fin 256 → EReal) : EReal :=
  (∑ d, NRM x d * gq d * (NRM y d * gk d)) * Ideal.ofBits .f32 0x3D800000#32

/-- The greatest score. -/
def TOP (s : Fin 256 → EReal) : EReal := Finset.univ.fold max ⊥ s

/-- The weight of a key among the scores. -/
def WT (s : Fin 256 → EReal) (j : Fin 256) : EReal :=
  Ideal.div (Ideal.exp (s j - TOP s)) (∑ k, Ideal.exp (s k - TOP s))

/-- The output at an entry: the weighted values, gated. -/
def OUT (s v : Fin 256 → EReal) (g : EReal) : EReal := (∑ j, WT s j * v j) * (g * Ideal.logistic g)

/-- The normalised queries of one head at an index, the scale inside the gain. -/
theorem query_at (x : Vec Ideal S1x512x256 .bf16) (g : Vec Ideal S1x256 .f32) (r : Fin 512) (d : Fin 256) :
    k0_pay2 x g (ix2 r d) = NRM (fun k => x (ix3 0 r k)) d * (g (ix2 0 d) * Ideal.ofBits .f32 0x3D800000#32) := by
  pointwise [k0_pay2, NRM]

/-- The normalised keys of one head at an index. -/
theorem key_at (x : Vec Ideal S1x256x256 .bf16) (g : Vec Ideal S1x256 .f32) (r : Fin 256) (d : Fin 256) :
    k0_pay6 x g (ix2 r d) = NRM (fun k => x (ix3 0 r k)) d * g (ix2 0 d) := by
  pointwise [k0_pay6, NRM]

/-- The scores of one head. -/
theorem score_at (x : Vec Ideal S1x512x256 .bf16) (gq : Vec Ideal S1x256 .f32) (y : Vec Ideal S1x256x256 .bf16)
    (gk : Vec Ideal S1x256 .f32) (r : Fin 512) (j : Fin 256) :
    k0_pay9 (k0_pay2 x gq) (k0_pay6 y gk) (ix2 r j)
      = SCORE (fun k => x (ix3 0 r k)) (fun k => gq (ix2 0 k)) (fun k => y (ix3 0 j k)) (fun k => gk (ix2 0 k)) := by
  pointwise [k0_pay9]
  simp only [query_at, key_at]
  unfold SCORE
  rw [Cert.Sums.recip_16]
  exact Cert.NattenMath.score_scale (fun d => NRM (fun k => x (ix3 0 r k)) d) (fun d => gq (ix2 0 d))
    (fun d => NRM (fun k => y (ix3 0 j k)) d * gk (ix2 0 d)) (by norm_num)

/-- The output of one head from its scores. -/
theorem out_at (s : FVec Ideal S512x256 .f32) (v : Vec Ideal S1x256x256 .bf16) (g : Vec Ideal S1x512x256 .bf16)
    (r : Fin 512) (d : Fin 256) :
    k0_pay19 (k0_pay15 s v) g (ix3 0 r d)
      = OUT (fun j => s (ix2 r j)) (fun j => v (ix3 0 j d)) (g (ix3 0 r d)) := by
  unfold OUT WT TOP
  rw [← Cert.Scalars.sigmoid]
  pointwise [k0_pay19, k0_pay15]
  simp only [Cert.Sums.neg_inf, Cert.Scalars.half]

/-- One head. -/
def TILE (q : Vec Ideal S1x512x256 .bf16) (gq : Vec Ideal S1x256 .f32) (k : Vec Ideal S1x256x256 .bf16)
    (gk : Vec Ideal S1x256 .f32) (v : Vec Ideal S1x256x256 .bf16) (g : Vec Ideal S1x512x256 .bf16) :
    FVec Ideal S1x512x256 .bf16 := k0_pay19 (k0_pay15 (k0_pay9 (k0_pay2 q gq) (k0_pay6 k gk)) v) g

/-- One head at an index. -/
theorem tile_at (q : Vec Ideal S1x512x256 .bf16) (gq : Vec Ideal S1x256 .f32) (k : Vec Ideal S1x256x256 .bf16)
    (gk : Vec Ideal S1x256 .f32) (v : Vec Ideal S1x256x256 .bf16) (g : Vec Ideal S1x512x256 .bf16) (r : Fin 512) (d : Fin 256) :
    TILE q gq k gk v g (ix3 0 r d)
      = OUT (fun j => SCORE (fun a => q (ix3 0 r a)) (fun a => gq (ix2 0 a)) (fun a => k (ix3 0 j a)) (fun a => gk (ix2 0 a)))
          (fun j => v (ix3 0 j d)) (g (ix3 0 r d)) := by
  unfold TILE
  rw [out_at]
  simp only [score_at]

/-- The heads of the block are the one head at their own columns. -/
theorem tiles (q : Vec Ideal S1x512x256 .bf16) (gq : Vec Ideal S1x256 .f32) (k : Vec Ideal S1x256x256 .bf16)
    (gk : Vec Ideal S1x256 .f32) (v : Vec Ideal S1x256x256 .bf16) (g : Vec Ideal S1x512x256 .bf16) :
    k0_pay1 (k0_pay24 (k0_pay18 (k0_pay14 (k0_pay5 q gq) (k0_pay8 k gk)) v) g) = TILE q gq k gk v g
      ∧ k0_pay23 (k0_pay17 (k0_pay13 (k0_pay11 (k0_pay4 q gq) k gk)) v) g = TILE q gq k gk v g
      ∧ k0_pay22 (k0_pay16 (k0_pay12 (k0_pay10 (k0_pay3 q gq) (k0_pay7 k gk))) v) (k0_pay20 g) (k0_pay21 g) = TILE q gq k gk v g
      ∧ k0_pay19 (k0_pay15 (k0_pay9 (k0_pay2 q gq) (k0_pay6 k gk)) v) g = TILE q gq k gk v g :=
  ⟨rfl, rfl, rfl, rfl⟩

end Cert.KernelMemAttnIdeal.MemMath

end
-- ==== Proof.MemRef.lean ====
/- The memory attention: the reference's term at an index. -/
module

public import proofs.«01_k».proof.Proof.MemMath
public import proofs.«01_k».proof.Proof.Gen.ReferenceMemAttnIdeal.Read

@[expose] public section

set_option maxRecDepth 16384

noncomputable section

open Idealize.ShloMosaic Idealize.ShloMosaic.TcCoe Idealize.SL.Sem
open Idealize.ShloMosaic.Pipeline (Dat)

namespace Cert.KernelMemAttnIdeal.MemRef

open Cert.KernelMemAttnIdeal Cert.KernelMemAttnIdeal.Gen MemMath Cert.ReferenceMemAttnIdeal.Read

/-- The head of an output channel. -/
def hd (c : Fin 1024) : Fin 4 := ⟨c.val / 256, by omega⟩

/-- The place of an output channel in its head. -/
def pl (c : Fin 1024) : Fin 256 := ⟨c.val % 256, Nat.mod_lt _ (by decide)⟩

/-- The output channel at a place of a head. -/
def ch (h : Fin 4) (d : Fin 256) : Fin 1024 := ⟨h.val * 256 + d.val, by omega⟩

/-- The query or key channel at a place of a head. -/
def lo (h : Fin 4) (d : Fin 256) : Fin 2048 := ⟨h.val * 256 + d.val, by omega⟩

/-- The gate or value channel at a place of a head. -/
def hi (h : Fin 4) (d : Fin 256) : Fin 2048 := ⟨1024 + h.val * 256 + d.val, by omega⟩

theorem ch_hd (c : Fin 1024) : ch (hd c) (pl c) = c := Fin.ext (Nat.div_add_mod' c.val 256)

theorem hi_hd (c : Fin 1024) : hi (hd c) (pl c) = ⟨1024 + c.val, by omega⟩ := Fin.ext (by
  show 1024 + c.val / 256 * 256 + c.val % 256 = 1024 + c.val
  omega)

theorem SCORE_congr {x x' gq gq' y y' gk gk' : Fin 256 → EReal} (h1 : ∀ a, x a = x' a) (h2 : ∀ a, gq a = gq' a)
    (h3 : ∀ a, y a = y' a) (h4 : ∀ a, gk a = gk' a) : SCORE x gq y gk = SCORE x' gq' y' gk' := by
  obtain rfl := funext h1
  obtain rfl := funext h2
  obtain rfl := funext h3
  obtain rfl := funext h4
  rfl

theorem OUT_congr {s s' v v' : Fin 256 → EReal} {g g' : EReal} (h1 : ∀ j, s j = s' j) (h2 : ∀ j, v j = v' j) (h3 : g = g') :
    OUT s v g = OUT s' v' g' := by
  obtain rfl := funext h1
  obtain rfl := funext h2
  subst h3; rfl

/-- The result. -/
def REF (x : FVec Ideal S4x4096x2048 .bf16) (y : FVec Ideal S4x256x2048 .bf16) (gq gk : FVec Ideal S256 .f32) :
    FVec Ideal S4x4096x1024 .bf16 :=
  fun i => OUT
    (fun j => SCORE (fun a => x (ix3 (i 0) (i 1) (lo (hd (i 2)) a))) (fun a => gq (ix1 a))
      (fun a => y (ix3 (i 0) j (lo (hd (i 2)) a))) (fun a => gk (ix1 a)))
    (fun j => y (ix3 (i 0) j (hi (hd (i 2)) (pl (i 2))))) (x (ix3 (i 0) (i 1) (hi (hd (i 2)) (pl (i 2)))))

/-- The reference's queries at an index. -/
theorem query_ref (x : FVec Ideal S4x4096x2048 .bf16) (g : FVec Ideal S256 .f32) (b : Fin 4) (t : Fin 4096) (h : Fin 4) (d : Fin 256) :
    val_main_v19 (F := Ideal) x g (ix4 b t h d) = NRM (fun a => x (ix3 b t (lo h a))) d * g (ix1 d) := by
  pointwise [val_main_v19, val_main_v18, val_main_v17, val_main_v16, val_main_v15, val_main_v14, val_main_v13, val_main_v12, val_main_v11, val_main_v10, val_main_v9, val_main_v8, val_main_v7, val_main_v6, val_main_v1, val_main_v0, val_main_cst, val_main_cst_0, val_main_cst_1, NRM, lo]

/-- The reference's keys at an index. -/
theorem key_ref (y : FVec Ideal S4x256x2048 .bf16) (g : FVec Ideal S256 .f32) (b : Fin 4) (t : Fin 256) (h : Fin 4) (d : Fin 256) :
    val_main_v33 (F := Ideal) y g (ix4 b t h d) = NRM (fun a => y (ix3 b t (lo h a))) d * g (ix1 d) := by
  pointwise [val_main_v33, val_main_v32, val_main_v31, val_main_v30, val_main_v29, val_main_v28, val_main_v27, val_main_v26, val_main_v25, val_main_v24, val_main_v23, val_main_v22, val_main_v21, val_main_v20, val_main_v4, val_main_v3, val_main_cst_2, val_main_cst_3, val_main_cst_4, NRM, lo]

/-- The reference's values at an index. -/
theorem value_ref (y : FVec Ideal S4x256x2048 .bf16) (b : Fin 4) (t : Fin 256) (h : Fin 4) (d : Fin 256) :
    val_main_v34 (F := Ideal) y (ix4 b t h d) = y (ix3 b t (hi h d)) := by
  pointwise [val_main_v34, val_main_v5, val_main_v3, hi]
  simp only [Nat.add_assoc]

/-- The reference's scores at an index. -/
theorem score_ref (x : FVec Ideal S4x4096x2048 .bf16) (y : FVec Ideal S4x256x2048 .bf16) (gq gk : FVec Ideal S256 .f32) (b h : Fin 4) (t : Fin 4096) (j : Fin 256) :
    val_main_v37 (F := Ideal) x y gq gk (ix4 b h t j)
      = SCORE (fun a => x (ix3 b t (lo h a))) (fun a => gq (ix1 a)) (fun a => y (ix3 b j (lo h a))) (fun a => gk (ix1 a)) := by
  pointwise [val_main_v37, val_main_v36, val_main_v35, val_main_cst_5]
  simp only [query_ref, key_ref]
  rfl

/-- A maximum over the last axis, at an index. -/
theorem top_at (s : FVec Ideal Cert.ReferenceMemAttnIdeal.S4x4x4096x256 .f32) (init : FVec Ideal Cert.ReferenceMemAttnIdeal.S_ .f32)
    (hr : Cert.ReferenceMemAttnIdeal.S4x4x4096x256.ReducesTo [3] Cert.ReferenceMemAttnIdeal.S4x4x4096)
    (hu : 0 < Cert.ReferenceMemAttnIdeal.S_.numel) (b h : Fin 4) (t : Fin 4096) :
    Host.reduce (FloatOps.maximumf : Ideal .f32 → Ideal .f32 → Ideal .f32) s init hr hu (ix3 b h t)
      = Finset.univ.fold max (init (Shape.Idx.first hu)) (fun k : Fin 256 => s (ix4 b h t k)) := by
  have h' : Cert.ReferenceMemAttnIdeal.S4x4x4096x256.Reduces [3] Cert.ReferenceMemAttnIdeal.S4x4x4096 := by decide
  refine (Host.reduce_eq_fold_single _ s init hr h' hu _).trans ?_
  have e : s ∘ h'.lift (ix3 b h t) = fun k : Fin 256 => s (ix4 b h t k) := by
    funext k
    refine congrArg s ?_
    funext a
    fin_cases a <;> rfl
  rw [e]
  rfl

/-- The maximum of a row of scores. -/
theorem max_ref (x : FVec Ideal S4x4096x2048 .bf16) (y : FVec Ideal S4x256x2048 .bf16) (gq gk : FVec Ideal S256 .f32) (b h : Fin 4) (t : Fin 4096) :
    val_main_v38 (F := Ideal) x y gq gk (ix3 b h t)
      = Finset.univ.fold max (val_main_cst_6 (F := Ideal) (Shape.Idx.first Cert.ReferenceMemAttnIdeal.Gen.h_S_))
          (fun k : Fin 256 => val_main_v37 (F := Ideal) x y gq gk (ix4 b h t k)) := by
  unfold val_main_v38
  exact top_at _ _ _ _ b h t

/-- The larger of two arrays, at an index. -/
theorem max_at {s : Shape} (a b : FVec Ideal s .f32) (i : s.Idx) :
    maximumf a b i = (max (a i : EReal) (b i : EReal) : EReal) := rfl

/-- The greatest score of a row. -/
theorem top_ref (x : FVec Ideal S4x4096x2048 .bf16) (y : FVec Ideal S4x256x2048 .bf16) (gq gk : FVec Ideal S256 .f32) (b h : Fin 4) (t : Fin 4096) :
    val_main_v40 (F := Ideal) x y gq gk (ix3 b h t) = TOP (fun k => val_main_v37 (F := Ideal) x y gq gk (ix4 b h t k)) := by
  have e1 : val_main_v40 (F := Ideal) x y gq gk (ix3 b h t) = (max (val_main_v39 (F := Ideal) (ix3 b h t) : EReal)
      (val_main_v38 (F := Ideal) x y gq gk (ix3 b h t)) : EReal) := by
    unfold val_main_v40
    exact max_at _ _ _
  have e2 : (val_main_v39 (F := Ideal) (ix3 b h t) : EReal) = ⊥ :=
    (show _ = Ideal.ofBits .f32 0xFF800000#32 from rfl).trans Cert.Sums.neg_inf
  have e3 : (val_main_cst_6 (F := Ideal) (Shape.Idx.first Cert.ReferenceMemAttnIdeal.Gen.h_S_) : EReal) = ⊥ :=
    (show _ = Ideal.ofBits .f32 0xFF800000#32 from rfl).trans Cert.Sums.neg_inf
  have e4 : val_main_v38 (F := Ideal) x y gq gk (ix3 b h t)
      = TOP (fun k => val_main_v37 (F := Ideal) x y gq gk (ix4 b h t k)) :=
    (max_ref x y gq gk b h t).trans (congrArg (fun z : EReal => Finset.univ.fold max z _) e3)
  exact e1.trans ((congrArg₂ max e2 e4).trans (max_eq_right bot_le))

/-- The exponentials at an index. -/
theorem exp_ref
    (x : FVec Ideal S4x4096x2048 .bf16) (y : FVec Ideal S4x256x2048 .bf16) (gq gk : FVec Ideal S256 .f32) (b h : Fin 4) (t : Fin 4096) (j : Fin 256) :
    val_main_v44 (F := Ideal) x y gq gk (ix4 b h t j)
      = Ideal.exp (val_main_v37 (F := Ideal) x y gq gk (ix4 b h t j) - val_main_v40 (F := Ideal) x y gq gk (ix3 b h t)) := by
  unfold val_main_v44 val_main_v43 val_main_v42 val_main_v41
  generalize val_main_v40 (F := Ideal) x y gq gk = m
  generalize val_main_v37 (F := Ideal) x y gq gk = s
  pointwise

/-- The quotients at an index. -/
theorem div_ref
    (x : FVec Ideal S4x4096x2048 .bf16) (y : FVec Ideal S4x256x2048 .bf16) (gq gk : FVec Ideal S256 .f32) (b h : Fin 4) (t : Fin 4096) (j : Fin 256) :
    val_main_v48 (F := Ideal) x y gq gk (ix4 b h t j)
      = Ideal.div (val_main_v44 (F := Ideal) x y gq gk (ix4 b h t j)) (∑ k, val_main_v44 (F := Ideal) x y gq gk (ix4 b h t k)) := by
  unfold val_main_v48 val_main_v47 val_main_v46 val_main_v45 val_main_cst_8
  generalize val_main_v44 (F := Ideal) x y gq gk = s
  pointwise

/-- The reference's weights at an index. -/
theorem weight_ref (x : FVec Ideal S4x4096x2048 .bf16) (y : FVec Ideal S4x256x2048 .bf16) (gq gk : FVec Ideal S256 .f32) (b h : Fin 4) (t : Fin 4096) (j : Fin 256) :
    val_main_v48 (F := Ideal) x y gq gk (ix4 b h t j)
      = WT (fun k => val_main_v37 (F := Ideal) x y gq gk (ix4 b h t k)) j := by
  rw [div_ref]
  simp only [exp_ref, top_ref]
  rfl

/-- The reference's weighted values at an index. -/
theorem mix_ref (x : FVec Ideal S4x4096x2048 .bf16) (y : FVec Ideal S4x256x2048 .bf16) (gq gk : FVec Ideal S256 .f32) (b : Fin 4) (t : Fin 4096) (c : Fin 1024) :
    val_main_v51 (F := Ideal) x y gq gk (ix3 b t c)
      = ∑ j, WT (fun k => SCORE (fun a => x (ix3 b t (lo (hd c) a))) (fun a => gq (ix1 a))
          (fun a => y (ix3 b k (lo (hd c) a))) (fun a => gk (ix1 a))) j * y (ix3 b j (hi (hd c) (pl c))) := by
  have e : val_main_v51 (F := Ideal) x y gq gk (ix3 b t c)
      = ∑ j, val_main_v34 (F := Ideal) y (ix4 b j (hd c) (pl c)) * val_main_v48 (F := Ideal) x y gq gk (ix4 b (hd c) t j) := by
    pointwise [val_main_v51, val_main_v50, val_main_v49, hd, pl]
  rw [e]
  simp only [weight_ref, score_ref, value_ref]
  exact Finset.sum_congr rfl fun j _ => mul_comm _ _

/-- The reference's composed term is `REF`. -/
theorem ref_eq (x : FVec Ideal S4x4096x2048 .bf16) (y : FVec Ideal S4x256x2048 .bf16) (gq gk : FVec Ideal S256 .f32) :
    val_main_v54 (F := Ideal) x y gq gk = REF x y gq gk := by
  funext i
  idx_vars i
  have e : val_main_v54 (F := Ideal) x y gq gk (ix3 i0 i1 i2)
      = val_main_v51 (F := Ideal) x y gq gk (ix3 i0 i1 i2)
        * (x (ix3 i0 i1 ⟨1024 + i2.val, by omega⟩) * Ideal.logistic (x (ix3 i0 i1 ⟨1024 + i2.val, by omega⟩))) := by
    pointwise [val_main_v54, val_main_v53, val_main_v52, val_main_call0_v5, val_main_call0_v4, val_main_call0_v3, val_main_call0_v2, val_main_call0_v1, val_main_call0_v0, val_main_call0_cst, val_main_call0_cst_0, val_main_v2, val_main_v0]
    rfl
  rw [e, mix_ref, ← hi_hd i2]
  rfl

end Cert.KernelMemAttnIdeal.MemRef

end
-- ==== Proof.MemAttnValue.lean ====
/- The memory attention: the result array is the reference's term. -/
module

public import proofs.«01_k».proof.Proof.MemRef
public import proofs.«01_k».proof.Proof.Gen.ReferenceMemAttnIdeal.Run
public import proofs.«01_k».proof.Proof.Gen.ReferenceMemAttnIdeal.Read
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelMemAttnIdeal.MemAttnValue

open Cert.KernelMemAttnIdeal Cert.KernelMemAttnIdeal.Gen MemMath MemRef

variable (m : (ℓ : Loc nD τ sig) → Buf (Elt Ideal) ℓ)

/-- The windows' block indices at every grid point. -/
theorem idx : ∀ t : Fin cfg0.N,
    win0_0.index t = ![(grid0.coords t 0).val, (grid0.coords t 1).val, 0]
      ∧ win0_1.index t = ![(grid0.coords t 0).val, 0, 0]
      ∧ win0_2.index t = ![0, 0] ∧ win0_3.index t = ![0, 0]
      ∧ win0_4.index t = ![(grid0.coords t 0).val, (grid0.coords t 1).val, 0] :=
  (by decide +kernel : ∀ t : Fin grid0.N, _)

/-- What the body leaves in the output block. -/
theorem block_at (x : Vec Ideal S1x512x2048 .bf16) (y : Vec Ideal S1x256x2048 .bf16) (gq gk : Vec Ideal S1x256 .f32)
    (r : Fin 512) (h : Fin 4) (d : Fin 256) :
    out0_4 (F := Ideal) x y gq gk (ix3 0 r (ch h d))
      = OUT (fun j => SCORE (fun a => x (ix3 0 r (lo h a))) (fun a => gq (ix2 0 a)) (fun a => y (ix3 0 j (lo h a)))
          (fun a => gk (ix2 0 a))) (fun j => y (ix3 0 j (hi h d))) (x (ix3 0 r (hi h d))) := by
  unfold out0_4
  rw [(tiles _ _ _ _ _ _).1, (tiles _ _ _ _ _ _).2.1, (tiles _ _ _ _ _ _).2.2.1, (tiles _ _ _ _ _ _).2.2.2]
  canon_tiles z e
  all_goals
    have e3 : h.val * 256 + d.val = _ := e2
    obtain rfl : z = ix3 0 r d := by
      idx_vars z
      have q0 : z0 = 0 := Subsingleton.elim _ _
      have q1 : z1 = r := Fin.ext e1.symm
      have q2 : z2 = d := Fin.ext (by omega)
      rw [q0, q1, q2]
    refine (tile_at _ _ _ _ _ _ _ _).trans ?_
    refine OUT_congr (fun j => SCORE_congr ?_ ?_ ?_ ?_) (fun j => ?_) ?_
    all_goals
      try intro a
      pointwise [lo, hi]
      try first
        | (have e4 := Nat.add_right_cancel (show h.val * 256 + d.val = _ + d.val from e2)
           simp only [e4, Nat.reduceAdd]; done)
        | (have e4 := Nat.add_right_cancel (show h.val * 256 + d.val = 0 + d.val from e2.trans (Nat.zero_add _).symm)
           simp only [e4, Nat.add_zero, Nat.zero_add]; done)

/-- The array after the run. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  obtain ⟨r, k, rfl⟩ : ∃ (r : Fin 512) (k : Fin 1024), y = ix3 0 r k :=
    ⟨y 1, y 2, by
      funext a
      fin_cases a
      · exact Subsingleton.elim (α := Fin 1) _ _
      · rfl
      · rfl⟩
  rw [← ch_hd k]
  refine (block_at _ _ _ _ _ _ _).trans ?_
  rw [ch_hd k]
  refine OUT_congr (fun j => SCORE_congr ?_ ?_ ?_ ?_) (fun j => ?_) ?_
  · intro a; blk_point [iblk, V, idx t, hd, lo]
  · intro a; blk_point [iblk, V, idx t]
  · intro a; blk_point [iblk, V, idx t, hd, lo]
  · intro a; blk_point [iblk, V, idx t]
  · blk_point [iblk, V, idx t, hd, pl, hi]
  · blk_point [iblk, V, idx t, hd, pl, hi]

/-- The call computes its reference. -/
theorem algebraic : Cert.algebraic_KernelMemAttnIdeal_ReferenceMemAttnIdeal := by
  pair_intro
  · run_from Cert.KernelMemAttnIdeal.Gen.run_main m g
  · refine θ_run_mono (Cert.ReferenceMemAttnIdeal.Value.run m' g') ?_
    intro r hr c
    obtain ⟨h1, h2⟩ := hr c
    obtain ⟨a0, a1, a2, a3⟩ := hagree c
    rw [Cert.ReferenceMemAttnIdeal.Read.val_main_v54_eq, a0, a1, a2, a3] at h1
    exact ⟨h1.trans ((ref_eq _ _ _ _).trans (final m c).symm), h2⟩

end Cert.KernelMemAttnIdeal.MemAttnValue

end
-- ==== Proof.PostMath.lean ====
/- The recurrence's output norm at an index: one column tile of the kernel's block. -/
module

public import proofs.«01_k».proof.Proof.Gen.KernelPostIdeal.Value
public import proofs.«01_k».proof.Proof.Sums
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelPostIdeal.PostMath

open Cert.KernelPostIdeal Cert.KernelPostIdeal.Gen

/-- Lane `d` of head `hh` in a tile of two heads. -/
def lane (hh : Fin 2) (d : Fin 64) : Fin 128 := ⟨64 * hh.val + d.val, by omega⟩

/-- A sum over the tile's lanes is the sum over the two heads' lanes. -/
theorem sum_lane (f : Fin 128 → EReal) : ∑ k, f k = ∑ d, f (lane 0 d) + ∑ d, f (lane 1 d) := by
  rw [Cert.Sums.sum_parts (a := 2) (b := 64) rfl f, Fin.sum_univ_two]; rfl

/-- The head mask of the ones matrix is one exactly on the lanes of the same head. -/
theorem select_block {α : Type} (hh h' : Fin 2) (d d' : Fin 64) (a b : α) :
    Scalar.select (IntOp.cmpi CmpIPredicate.eq (IntOp.shrsi ArithUnit.vector (BitVec.ofNat 32 (lane h' d').val) 6#32)
        (IntOp.shrsi ArithUnit.vector (BitVec.ofNat 32 (lane hh d).val) 6#32)) a b = if h' = hh then a else b := by
  have h : ∀ hh : Fin 2, ∀ d : Fin 64, IntOp.shrsi ArithUnit.vector (BitVec.ofNat 32 (lane hh d).val) 6#32
      = BitVec.ofNat 32 hh.val := by decide +kernel
  have h2 : ∀ hh h' : Fin 2, IntOp.cmpi CmpIPredicate.eq (BitVec.ofNat 32 h'.val) (BitVec.ofNat 32 hh.val)
      = if h' = hh then 1#1 else 0#1 := by decide +kernel
  rw [h, h, h2]; split <;> rfl

/-- The mean of a head's entries. -/
def MEAN (w : Fin 64 → EReal) : EReal := (∑ d, w d) * ((1 / 64 : ℝ) : EReal)

/-- A head's entries less their mean, over the root of their variance. -/
def NORM (w : Fin 64 → EReal) (d : Fin 64) : EReal :=
  (w d - MEAN w) * Ideal.rsqrt (MEAN (fun k => (w k - MEAN w) * (w k - MEAN w)) + Ideal.ofBits .f32 0x3A27C5AC#32)

/-- The output at an entry, from the head's entries, bonus, gate, gain and offset. -/
def OUT (w : Fin 64 → EReal) (d : Fin 64) (b g l c : EReal) : EReal :=
  (NORM w d * l + c + b) * (g * Ideal.logistic g)

/-- One column tile. -/
def TILE (y0 y1 b : Vec Ideal S1x512x128 .f32) (g : Vec Ideal S1x512x128 .bf16) (l c : Vec Ideal S1x128 .f32) :
    FVec Ideal S1x512x128 .bf16 := k0_pay4 (k0_pay3 y0 y1 l c) g b

/-- One column tile at an index. -/
theorem tile_at (y0 y1 b : Vec Ideal S1x512x128 .f32) (g : Vec Ideal S1x512x128 .bf16) (l c : Vec Ideal S1x128 .f32)
    (r : Fin 512) (hh : Fin 2) (d : Fin 64) :
    TILE y0 y1 b g l c (ix3 0 r (lane hh d))
      = OUT (fun k => y0 (ix3 0 r (lane hh k)) + y1 (ix3 0 r (lane hh k))) d (b (ix3 0 r (lane hh d)))
          (g (ix3 0 r (lane hh d))) (l (ix2 0 (lane hh d))) (c (ix2 0 (lane hh d))) := by
  pointwise [TILE, k0_pay4, k0_pay3, k0_pay2]
  simp only [sum_lane, select_block, Cert.Sums.recip_64, Cert.Sums.lit_one]
  unfold OUT NORM MEAN
  rw [← Cert.Scalars.sigmoid, Cert.Scalars.half]
  by_cases h0 : hh = 0
  · subst h0; simp
  · obtain rfl : hh = 1 := by omega
    simp

/-- The tiles of the block are the one tile at their own columns. -/
theorem tiles (y0 y1 b : Vec Ideal S1x512x128 .f32) (g : Vec Ideal S1x512x128 .bf16) (l c : Vec Ideal S1x128 .f32) :
    k0_pay1 (k0_pay23 g) (k0_pay24 k0_pay2 (k0_pay22 y0) y1 l c b) = TILE y0 y1 b g l c
      ∧ k0_pay21 k0_pay2 (k0_pay19 k0_pay2 y0 y1) (k0_pay20 k0_pay2 y0 y1) l c g b = TILE y0 y1 b g l c
      ∧ k0_pay18 (k0_pay17 k0_pay2 y0 y1) l c g b = TILE y0 y1 b g l c
      ∧ k0_pay16 (k0_pay14 k0_pay2 y0 y1 l c) (k0_pay15 g) b = TILE y0 y1 b g l c
      ∧ k0_pay13 (k0_pay11 k0_pay2 y0 y1 l c) (k0_pay12 g) b = TILE y0 y1 b g l c
      ∧ k0_pay10 k0_pay2 (k0_pay8 y0 y1) (k0_pay9 k0_pay2 y0 y1) (Scalar.ofBits .f32 0x3C800000#32) l c g b = TILE y0 y1 b g l c
      ∧ k0_pay7 (k0_pay5 k0_pay2 y0 y1) (k0_pay6 k0_pay2 y0 y1) l c g b = TILE y0 y1 b g l c :=
  ⟨rfl, rfl, rfl, rfl, rfl, rfl, rfl⟩

end Cert.KernelPostIdeal.PostMath

end
-- ==== Proof.PostValue.lean ====
/- The recurrence's output norm and gate: the result array is the reference's term. -/
module

public import proofs.«01_k».proof.Proof.PostMath
public import proofs.«01_k».proof.Proof.Gen.ReferencePostIdeal.Run
public import proofs.«01_k».proof.Proof.Gen.ReferencePostIdeal.Read
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelPostIdeal.PostValue

open Cert.KernelPostIdeal Cert.KernelPostIdeal.Gen PostMath

variable (m : (ℓ : Loc nD τ sig) → Buf (Elt Ideal) ℓ)

/-- The windows' block indices at every grid point. -/
theorem idx : ∀ t : Fin cfg0.N,
    win0_0.index t = ![(grid0.coords t 0).val, (grid0.coords t 1).val, 0]
      ∧ win0_1.index t = ![(grid0.coords t 0).val, (grid0.coords t 1).val, 0]
      ∧ win0_2.index t = ![(grid0.coords t 0).val, (grid0.coords t 1).val, 0]
      ∧ win0_3.index t = ![(grid0.coords t 0).val, (grid0.coords t 1).val, 0]
      ∧ win0_4.index t = ![0, 0] ∧ win0_5.index t = ![0, 0]
      ∧ win0_6.index t = ![(grid0.coords t 0).val, (grid0.coords t 1).val, 0] :=
  (by decide +kernel : ∀ t : Fin grid0.N, _)

/-- The head of a channel. -/
def hd (c : Fin 1024) : Fin 16 := ⟨c.val / 64, by omega⟩

/-- The place of a channel in its head. -/
def pl (c : Fin 1024) : Fin 64 := ⟨c.val % 64, Nat.mod_lt _ (by decide)⟩

/-- The channel at a place of a head. -/
def ch (h : Fin 16) (d : Fin 64) : Fin 1024 := ⟨h.val * 64 + d.val, by omega⟩

theorem ch_hd (c : Fin 1024) : ch (hd c) (pl c) = c := Fin.ext (Nat.div_add_mod' c.val 64)

/-- The result. -/
def REF (y0 y1 b : FVec Ideal S4x4096x1024 .f32) (g : FVec Ideal S4x4096x1024 .bf16) (l c : FVec Ideal S1024 .f32) :
    FVec Ideal S4x4096x1024 .bf16 :=
  fun i => OUT (fun k => y0 (ix3 (i 0) (i 1) (ch (hd (i 2)) k)) + y1 (ix3 (i 0) (i 1) (ch (hd (i 2)) k))) (pl (i 2))
    (b i) (g i) (l (ix1 (i 2))) (c (ix1 (i 2)))

theorem OUT_congr {w w' : Fin 64 → EReal} {d d' : Fin 64} {b b' g g' l l' c c' : EReal} (hw : ∀ k, w k = w' k)
    (h1 : d = d') (h2 : b = b') (h3 : g = g') (h4 : l = l') (h5 : c = c') :
    OUT w d b g l c = OUT w' d' b' g' l' c' := by
  obtain rfl := funext hw
  subst h1 h2 h3 h4 h5; rfl

/-- The reference's composed term is `REF`. -/
theorem ref_eq (y0 y1 b : FVec Ideal S4x4096x1024 .f32) (g : FVec Ideal S4x4096x1024 .bf16) (l c : FVec Ideal S1024 .f32) :
    Cert.ReferencePostIdeal.Read.val_main_v31 (F := Ideal) y0 y1 b g l c = REF y0 y1 b g l c := by
  funext i
  idx_vars i
  pointwise [Cert.ReferencePostIdeal.Read.val_main_v31, Cert.ReferencePostIdeal.Read.val_main_v30, Cert.ReferencePostIdeal.Read.val_main_v29, Cert.ReferencePostIdeal.Read.val_main_v28, Cert.ReferencePostIdeal.Read.val_main_v27, Cert.ReferencePostIdeal.Read.val_main_v26, Cert.ReferencePostIdeal.Read.val_main_v25, Cert.ReferencePostIdeal.Read.val_main_v24, Cert.ReferencePostIdeal.Read.val_main_v23, Cert.ReferencePostIdeal.Read.val_main_v22, Cert.ReferencePostIdeal.Read.val_main_v21, Cert.ReferencePostIdeal.Read.val_main_v20, Cert.ReferencePostIdeal.Read.val_main_v19, Cert.ReferencePostIdeal.Read.val_main_v18, Cert.ReferencePostIdeal.Read.val_main_v17, Cert.ReferencePostIdeal.Read.val_main_v16, Cert.ReferencePostIdeal.Read.val_main_v15, Cert.ReferencePostIdeal.Read.val_main_v14, Cert.ReferencePostIdeal.Read.val_main_v13, Cert.ReferencePostIdeal.Read.val_main_v12, Cert.ReferencePostIdeal.Read.val_main_v11, Cert.ReferencePostIdeal.Read.val_main_v10, Cert.ReferencePostIdeal.Read.val_main_v9, Cert.ReferencePostIdeal.Read.val_main_v8, Cert.ReferencePostIdeal.Read.val_main_v7, Cert.ReferencePostIdeal.Read.val_main_v6, Cert.ReferencePostIdeal.Read.val_main_v5, Cert.ReferencePostIdeal.Read.val_main_v4, Cert.ReferencePostIdeal.Read.val_main_v3, Cert.ReferencePostIdeal.Read.val_main_v2, Cert.ReferencePostIdeal.Read.val_main_v1, Cert.ReferencePostIdeal.Read.val_main_v0, Cert.ReferencePostIdeal.Read.val_main_call0_v0, Cert.ReferencePostIdeal.Read.val_main_call0_v1, Cert.ReferencePostIdeal.Read.val_main_call0_cst, Cert.ReferencePostIdeal.Read.val_main_call0_v2, Cert.ReferencePostIdeal.Read.val_main_call0_v3, Cert.ReferencePostIdeal.Read.val_main_call0_cst_0, Cert.ReferencePostIdeal.Read.val_main_call0_v4, Cert.ReferencePostIdeal.Read.val_main_call0_v5, Cert.ReferencePostIdeal.Read.val_main_cst, Cert.ReferencePostIdeal.Read.val_main_cst_0, Cert.ReferencePostIdeal.Read.val_main_cst_1, Cert.ReferencePostIdeal.Read.val_main_cst_2, Cert.ReferencePostIdeal.Read.val_main_cst_3, REF, OUT, NORM, MEAN]
  simp only [Cert.Sums.div_64, ch_hd]
  rfl

/-- What the body leaves in the output block. -/
theorem block_at (y0 y1 b : Vec Ideal S1x512x1024 .f32) (g : Vec Ideal S1x512x1024 .bf16) (l c : Vec Ideal S1x1024 .f32)
    (r : Fin 512) (h : Fin 16) (d : Fin 64) :
    out0_6 (F := Ideal) y0 y1 b g l c (ix3 0 r (ch h d))
      = OUT (fun k => y0 (ix3 0 r (ch h k)) + y1 (ix3 0 r (ch h k))) d (b (ix3 0 r (ch h d))) (g (ix3 0 r (ch h d)))
          (l (ix2 0 (ch h d))) (c (ix2 0 (ch h d))) := by
  unfold_out out0_6
  rw [(tiles _ _ _ _ _ _).1, (tiles _ _ _ _ _ _).2.1, (tiles _ _ _ _ _ _).2.2.1, (tiles _ _ _ _ _ _).2.2.2.1,
    (tiles _ _ _ _ _ _).2.2.2.2.1, (tiles _ _ _ _ _ _).2.2.2.2.2.1, (tiles _ _ _ _ _ _).2.2.2.2.2.2]
  canon_tiles x e
  all_goals
    obtain rfl : x = ix3 0 r (lane ⟨h.val % 2, Nat.mod_lt _ (by decide)⟩ d) := by
      idx_vars x
      have q0 : x0 = 0 := Subsingleton.elim _ _
      have q1 : x1 = r := Fin.ext e1.symm
      have q2 : x2 = lane ⟨h.val % 2, Nat.mod_lt _ (by decide)⟩ d := by
        have e3 : h.val * 64 + d.val = _ := e2
        refine Fin.ext ?_
        show x2.val = 64 * (h.val % 2) + d.val
        omega
      rw [q0, q1, q2]
    refine (tile_at _ _ _ _ _ _ _ _ _).trans ?_
    refine OUT_congr (fun k' => congrArg₂ (· + ·) ?_ ?_) rfl ?_ ?_ ?_ ?_
    all_goals
      pointwise [lane, ch]
      first
        | (have e3 : h.val * 64 + d.val = _ + (64 * (h.val % 2) + d.val) := e2
           have e4 := Nat.add_right_cancel ((Nat.add_assoc _ _ _).trans e3.symm)
           simp only [← Nat.add_assoc, e4])
        | (have e4 := Nat.add_right_cancel (show h.val * 64 + d.val = 64 * (h.val % 2) + d.val from e2)
           simp only [← e4])

/-- The array after the run. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  obtain ⟨r, k, rfl⟩ : ∃ (r : Fin 512) (k : Fin 1024), y = ix3 0 r k :=
    ⟨y 1, y 2, by
      funext a
      fin_cases a
      · exact Subsingleton.elim (α := Fin 1) _ _
      · rfl
      · rfl⟩
  rw [← ch_hd k]
  refine (block_at _ _ _ _ _ _ _ _ _).trans ?_
  rw [ch_hd k]
  refine OUT_congr (fun k' => congrArg₂ (· + ·) ?_ ?_) ?_ ?_ ?_ ?_ ?_
  · blk_point [iblk, V, idx t, hd, ch]
  · blk_point [iblk, V, idx t, hd, ch]
  · blk_point [idx t, pl]
  · blk_point [iblk, V, idx t]
  · blk_point [iblk, V, idx t]
  · blk_point [iblk, V, idx t]
  · blk_point [iblk, V, idx t]

/-- The call computes its reference. -/
theorem algebraic : Cert.algebraic_KernelPostIdeal_ReferencePostIdeal := by
  pair_intro
  · run_from Cert.KernelPostIdeal.Gen.run_main m g
  · run_from Cert.ReferencePostIdeal.Value.run m' g'
    · exact (Cert.ReferencePostIdeal.Read.val_main_v31_eq _ _ _ _ _ _).trans ((ref_eq _ _ _ _ _ _).trans (final m c).symm)

end Cert.KernelPostIdeal.PostValue

end
-- ==== Proof.Gelu.lean ====
/- The activation of the spatial gating: the kernel's spelling is the reference's above minus infinity. -/
module

public import proofs.«01_k».proof.Proof.Sums

@[expose] public section

noncomputable section

open Idealize.ShloMosaic

namespace Cert.Gelu

/-- The word of the activation's factor `√(2/π)`. -/
theorem word_c : Ideal.ofBits .f32 0x3F4C422A#32 = ((6693141 / 8388608 : ℝ) : EReal) := by
  simp [Ideal.ofBits, Ideal.ieee, -EReal.coe_mul]; norm_num

/-- The word of the activation's cubic coefficient. -/
theorem word_a : Ideal.ofBits .f32 0x3D372713#32 = ((12003091 / 268435456 : ℝ) : EReal) := by
  simp [Ideal.ofBits, Ideal.ieee, -EReal.coe_mul]; norm_num

/-- The activation as the kernel spells it: the product of the two constants is one constant. -/
def KER (x : EReal) : EReal :=
  ((1 / 2 : ℝ) : EReal) * x + ((1 / 2 : ℝ) : EReal) * x
    * Ideal.tanh (x * (((6693141 / 8388608 : ℝ) : EReal) + ((80338380498831 / 2251799813685248 : ℝ) : EReal) * (x * x)))

/-- The activation as the reference spells it. -/
def GELU (x : EReal) : EReal :=
  x * (((1 / 2 : ℝ) : EReal) * (1 + Ideal.tanh (((6693141 / 8388608 : ℝ) : EReal)
    * (x + ((12003091 / 268435456 : ℝ) : EReal) * (x * x * x)))))

/-- The two spellings agree at every value but minus infinity. -/
theorem ker_eq (x : EReal) (hx : x ≠ ⊥) : KER x = GELU x := by
  unfold KER GELU
  induction x with
  | bot => exact absurd rfl hx
  | top =>
    have h1 : (0 : ℝ) < 1 / 2 := by norm_num
    have h2 : (0 : ℝ) < 80338380498831 / 2251799813685248 := by norm_num
    have h3 : (0 : ℝ) < 12003091 / 268435456 := by norm_num
    have h4 : (0 : ℝ) < 6693141 / 8388608 := by norm_num
    rw [EReal.top_mul_top, EReal.top_mul_top, EReal.coe_mul_top_of_pos h2, EReal.coe_mul_top_of_pos h3,
      EReal.coe_mul_top_of_pos h1, EReal.coe_add_top, EReal.top_add_top, EReal.coe_mul_top_of_pos h4,
      EReal.top_mul_top, Ideal.tanh_top, mul_one, EReal.top_add_top]
    rw [show (1 : EReal) = ((1 : ℝ) : EReal) from rfl, ← EReal.coe_add, ← EReal.coe_mul,
      EReal.top_mul_coe_of_pos (by norm_num)]
  | coe r =>
    rw [show (1 : EReal) = ((1 : ℝ) : EReal) from rfl]
    simp only [← EReal.coe_mul, ← EReal.coe_add, Ideal.tanh_coe]
    rw [show r * (6693141 / 8388608 + 80338380498831 / 2251799813685248 * (r * r))
      = 6693141 / 8388608 * (r + 12003091 / 268435456 * (r * r * r)) by ring]
    congr 1
    ring

end Cert.Gelu

end
-- ==== Proof.SguMath.lean ====
/- The spatial gating at an index: the normalised values, the gate, and one tile of the kernel's block. -/
module

public import proofs.«01_k».proof.Proof.Gen.KernelSguIdeal.Value
public import proofs.«01_k».proof.Proof.Gelu
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelSguIdeal.SguMath

open Cert.KernelSguIdeal Cert.KernelSguIdeal.Gen

/-- The mean of a row's 1024 entries. -/
def MEAN (v : Fin 1024 → EReal) : EReal := Ideal.div (∑ k, v k) (Ideal.ofBits .f32 0x44800000#32)

/-- A row's entry less its mean, over the root of the variance, with its gain and offset. -/
def LN (v : Fin 1024 → EReal) (k : Fin 1024) (g b : EReal) : EReal :=
  (v k - MEAN v) * Ideal.rsqrt (MEAN (fun j => (v j - MEAN v) * (v j - MEAN v)) + Ideal.ofBits .f32 0x3727C5AC#32) * g + b

/-- Column `k` of part `s` of a row: the first part is u, the second v, the third the gate path. -/
def part (s : Fin 3) (k : Fin 1024) : Fin 3072 := ⟨1024 * s.val + k.val, by omega⟩

/-- The factor before the mixing: the activated u and the gate. -/
def GATE (f : EReal → EReal) (x : Fin 3072 → EReal) (k : Fin 1024) : EReal :=
  f (x (part 0 k)) * (x (part 2 k) * Ideal.logistic (x (part 2 k)))

/-- The named constant's value. -/
theorem cubic : Named.named (F := Ideal) κ "gelu_cubic" (φ := .f32) 0x3D122279#32
    = ((80338380498831 / 2251799813685248 : ℝ) : EReal) :=
  IdealRules.named_const.ideal_named_scalar _ _ _ _ rfl

/-- The kernel's normalised values. -/
theorem norm_at (x0 : Vec Ideal S1x512x3072 .bf16) (x1 x2 : Vec Ideal S1x1024 .f32) (x3 : Vec Ideal S8x128x128 .bf16)
    (x4 : Vec Ideal S128x1024 .f32) (r : Fin 512) (k : Fin 1024) :
    k0_pay53 x0 x1 x2 x3 x4 (ix2 r k)
      = LN (fun j => Cert.Gelu.KER (x0 (ix3 0 r (part 1 j)))) k (x1 (ix2 0 k)) (x2 (ix2 0 k)) := by
  pointwise [k0_pay53, k0_pay6, k0_pay51, k0_pay52, k0_pay4, k0_pay5, LN, MEAN, Cert.Gelu.KER, part]
  simp only [cubic, Cert.Gelu.word_c, Cert.Scalars.half]

/-- The kernel's factor before the mixing. -/
theorem gate_at (x0 : Vec Ideal S1x512x3072 .bf16) (x1 x2 : Vec Ideal S1x1024 .f32) (x3 : Vec Ideal S8x128x128 .bf16)
    (x4 : Vec Ideal S128x1024 .f32) (r : Fin 512) (k : Fin 1024) :
    k0_pay54 x0 x1 x2 x3 x4 (ix2 r k) = GATE Cert.Gelu.KER (fun j => x0 (ix3 0 r j)) k := by
  unfold GATE
  rw [← Cert.Scalars.sigmoid]
  pointwise [k0_pay54, k0_pay7, k0_pay49, k0_pay50, k0_pay2, k0_pay3, Cert.Gelu.KER, part]
  simp only [cubic, Cert.Gelu.word_c, Cert.Scalars.half]

/-- One tile, at a place of the rows and columns. -/
def TILE (v : FVec Ideal S512x1024 .bf16) (g : FVec Ideal S512x1024 .f32) (w : Vec Ideal S1x128x128 .bf16)
    (b : Vec Ideal S128x128 .f32) (o : Fin 2 → ℕ) (h : S512x1024.Slices o S128x128) : FVec Ideal S1x128x128 .bf16 :=
  shapeCast S1x128x128
    (truncf .bf16
      (mulf (extractStridedSlice S128x128 o g h)
        (addf
          (matmul dot_S128x128_S128x128_S128x128_1_0_0_1_n_n none
            (shapeCast S128x128 w shapeCasts_S1x128x128_S128x128 : FVec Ideal S128x128 .bf16)
            (extractStridedSlice S128x128 o v h) (constant S128x128 .f32 0x00000000#32))
          (shapeCast S128x128 b shapeCasts_S128x128_S128x128)))
      bitsLt_bf16_f32)
    shapeCasts_S128x128_S1x128x128

/-- One tile at an index. -/
theorem tile_at (v : FVec Ideal S512x1024 .bf16) (g : FVec Ideal S512x1024 .f32) (w : Vec Ideal S1x128x128 .bf16)
    (b : Vec Ideal S128x128 .f32) (r c : ℕ) (h : S512x1024.Slices ![r, c] S128x128) (hr : r + 128 ≤ 512) (hc : c + 128 ≤ 1024)
    (p j : Fin 128) :
    TILE v g w b ![r, c] h (ix3 0 p j)
      = g (ix2 ⟨r + p.val, by omega⟩ ⟨c + j.val, by omega⟩)
        * (∑ q, w (ix3 0 p q) * v (ix2 ⟨r + q.val, by omega⟩ ⟨c + j.val, by omega⟩) + b (ix2 p j)) := by
  pointwise [TILE]

end Cert.KernelSguIdeal.SguMath

end
-- ==== Proof.SguRef.lean ====
/- The spatial gating: the result array is the reference's term. -/
module

public import proofs.«01_k».proof.Proof.SguMath
public import proofs.«01_k».proof.Proof.Gen.ReferenceSguIdeal.Run
public import proofs.«01_k».proof.Proof.Gen.ReferenceSguIdeal.Read

@[expose] public section

set_option maxRecDepth 16384

noncomputable section

open Idealize.ShloMosaic Idealize.ShloMosaic.TcCoe Idealize.SL.Sem

namespace Cert.ReferenceSguIdeal.SguRef

open Cert.KernelSguIdeal.SguMath Cert.Gelu

abbrev Proj := FVec Ideal ⟨3, ![4, 4096, 3072]⟩ .bf16
abbrev Gain := FVec Ideal ⟨1, ![1024]⟩ .f32
abbrev Mix := FVec Ideal ⟨3, ![8, 128, 128]⟩ .f32
abbrev Off := FVec Ideal ⟨2, ![8, 128]⟩ .f32

/-- Place `p` of chunk `n` among the tokens. -/
def tok (n : Fin 32) (p : Fin 128) : Fin 4096 := ⟨n.val * 128 + p.val, by omega⟩

/-- Place `j` of group `g` among the channels. -/
def chn (g : Fin 8) (j : Fin 128) : Fin 1024 := ⟨g.val * 128 + j.val, by omega⟩

/-- The reference's activated v. -/
theorem act_at (x : Proj) (b : Fin 4) (t : Fin 4096) (k : Fin 1024) :
    Cert.ReferenceSguIdeal.Read.val_main_v29 (F := Ideal) x (ix3 b t k) = GELU (x (ix3 b t (part 1 k))) := by
  pointwise [Cert.ReferenceSguIdeal.Read.val_main_v17, Cert.ReferenceSguIdeal.Read.val_main_v18, Cert.ReferenceSguIdeal.Read.val_main_cst_3, Cert.ReferenceSguIdeal.Read.val_main_v19, Cert.ReferenceSguIdeal.Read.val_main_v20, Cert.ReferenceSguIdeal.Read.val_main_v21, Cert.ReferenceSguIdeal.Read.val_main_cst_4, Cert.ReferenceSguIdeal.Read.val_main_v22, Cert.ReferenceSguIdeal.Read.val_main_v23, Cert.ReferenceSguIdeal.Read.val_main_v24, Cert.ReferenceSguIdeal.Read.val_main_cst_5, Cert.ReferenceSguIdeal.Read.val_main_v25, Cert.ReferenceSguIdeal.Read.val_main_v26, Cert.ReferenceSguIdeal.Read.val_main_cst_6, Cert.ReferenceSguIdeal.Read.val_main_v27, Cert.ReferenceSguIdeal.Read.val_main_v28, Cert.ReferenceSguIdeal.Read.val_main_v29, Cert.ReferenceSguIdeal.Read.val_main_v0, Cert.ReferenceSguIdeal.Read.val_main_v2, GELU, part]
  simp only [word_c, word_a, Cert.Scalars.half, Cert.Sums.lit_one]

/-- The reference's normalised v. -/
theorem norm_at (x : Proj) (l c : Gain) (b : Fin 4) (t : Fin 4096) (k : Fin 1024) :
    Cert.ReferenceSguIdeal.Read.val_main_v53 (F := Ideal) x l c (ix3 b t k)
      = LN (fun j => GELU (x (ix3 b t (part 1 j)))) k (l (ix1 k)) (c (ix1 k)) := by
  simp only [← act_at]
  pointwise [Cert.ReferenceSguIdeal.Read.val_main_cst_7, Cert.ReferenceSguIdeal.Read.val_main_v30, Cert.ReferenceSguIdeal.Read.val_main_v31, Cert.ReferenceSguIdeal.Read.val_main_cst_8, Cert.ReferenceSguIdeal.Read.val_main_v32, Cert.ReferenceSguIdeal.Read.val_main_v33, Cert.ReferenceSguIdeal.Read.val_main_v34, Cert.ReferenceSguIdeal.Read.val_main_v35, Cert.ReferenceSguIdeal.Read.val_main_v36, Cert.ReferenceSguIdeal.Read.val_main_cst_9, Cert.ReferenceSguIdeal.Read.val_main_v37, Cert.ReferenceSguIdeal.Read.val_main_v38, Cert.ReferenceSguIdeal.Read.val_main_cst_10, Cert.ReferenceSguIdeal.Read.val_main_v39, Cert.ReferenceSguIdeal.Read.val_main_v40, Cert.ReferenceSguIdeal.Read.val_main_v41, Cert.ReferenceSguIdeal.Read.val_main_v42, Cert.ReferenceSguIdeal.Read.val_main_cst_11, Cert.ReferenceSguIdeal.Read.val_main_v43, Cert.ReferenceSguIdeal.Read.val_main_v44, Cert.ReferenceSguIdeal.Read.val_main_v45, Cert.ReferenceSguIdeal.Read.val_main_v46, Cert.ReferenceSguIdeal.Read.val_main_v47, Cert.ReferenceSguIdeal.Read.val_main_v48, Cert.ReferenceSguIdeal.Read.val_main_v49, Cert.ReferenceSguIdeal.Read.val_main_v50, Cert.ReferenceSguIdeal.Read.val_main_v51, Cert.ReferenceSguIdeal.Read.val_main_v52, Cert.ReferenceSguIdeal.Read.val_main_v53, LN, MEAN]

/-- The reference's mixing. -/
theorem mix_at (x : Proj) (l c : Gain) (w : Mix) (o : Off) (b : Fin 4) (n : Fin 32) (p : Fin 128) (g : Fin 8) (j : Fin 128) :
    Cert.ReferenceSguIdeal.Read.val_main_v62 (F := Ideal) x l c w o (ix3 b (tok n p) (chn g j))
      = ∑ q, w (ix3 g p q) * Cert.ReferenceSguIdeal.Read.val_main_v53 (F := Ideal) x l c (ix3 b (tok n q) (chn g j))
        + o (ix2 g p) := by
  pointwise [Cert.ReferenceSguIdeal.Read.val_main_v54, Cert.ReferenceSguIdeal.Read.val_main_v55, Cert.ReferenceSguIdeal.Read.val_main_v56, Cert.ReferenceSguIdeal.Read.val_main_v57, Cert.ReferenceSguIdeal.Read.val_main_v58, Cert.ReferenceSguIdeal.Read.val_main_v59, Cert.ReferenceSguIdeal.Read.val_main_v60, Cert.ReferenceSguIdeal.Read.val_main_v61, Cert.ReferenceSguIdeal.Read.val_main_v62, tok, chn]
  exact congrArg (· + _) (Finset.sum_congr rfl fun q _ => mul_comm _ _)

/-- Branch B's spatial gating over an activation `f`: the gate of a token and a channel times the mixing, over the token's chunk, of the normalised activations. -/
def SG (f : EReal → EReal) (x : Proj) (l c : Gain) (w : Mix) (o : Off) (b : Fin 4) (n : Fin 32) (p : Fin 128) (g : Fin 8) (j : Fin 128) : EReal :=
  GATE f (fun k => x (ix3 b (tok n p) k)) (chn g j)
    * (∑ q, w (ix3 g p q) * LN (fun k => f (x (ix3 b (tok n q) (part 1 k)))) (chn g j) (l (ix1 (chn g j))) (c (ix1 (chn g j)))
      + o (ix2 g p))

/-- The reference's activated u. -/
theorem u_at (x : Proj) (b : Fin 4) (t : Fin 4096) (k : Fin 1024) :
    Cert.ReferenceSguIdeal.Read.val_main_v16 (F := Ideal) x (ix3 b t k) = GELU (x (ix3 b t (part 0 k))) := by
  pointwise [Cert.ReferenceSguIdeal.Read.val_main_v0, Cert.ReferenceSguIdeal.Read.val_main_v4, Cert.ReferenceSguIdeal.Read.val_main_v5, Cert.ReferenceSguIdeal.Read.val_main_cst, Cert.ReferenceSguIdeal.Read.val_main_v6, Cert.ReferenceSguIdeal.Read.val_main_v7, Cert.ReferenceSguIdeal.Read.val_main_v8, Cert.ReferenceSguIdeal.Read.val_main_cst_0, Cert.ReferenceSguIdeal.Read.val_main_v9, Cert.ReferenceSguIdeal.Read.val_main_v10, Cert.ReferenceSguIdeal.Read.val_main_v11, Cert.ReferenceSguIdeal.Read.val_main_cst_1, Cert.ReferenceSguIdeal.Read.val_main_v12, Cert.ReferenceSguIdeal.Read.val_main_v13, Cert.ReferenceSguIdeal.Read.val_main_cst_2, Cert.ReferenceSguIdeal.Read.val_main_v14, Cert.ReferenceSguIdeal.Read.val_main_v15, Cert.ReferenceSguIdeal.Read.val_main_v16, Cert.ReferenceSguIdeal.Read.val_main_v1, GELU, part]
  simp only [word_c, word_a, Cert.Scalars.half, Cert.Sums.lit_one]

/-- The reference's gate. -/
theorem silu_at (x : Proj) (b : Fin 4) (t : Fin 4096) (k : Fin 1024) :
    Cert.ReferenceSguIdeal.Read.val_main_v64 (F := Ideal) x (ix3 b t k)
      = x (ix3 b t (part 2 k)) * Ideal.logistic (x (ix3 b t (part 2 k))) := by
  pointwise [Cert.ReferenceSguIdeal.Read.val_main_v1, Cert.ReferenceSguIdeal.Read.val_main_v3, Cert.ReferenceSguIdeal.Read.val_main_v64, Cert.ReferenceSguIdeal.Read.val_main_call0_v0, Cert.ReferenceSguIdeal.Read.val_main_call0_v1, Cert.ReferenceSguIdeal.Read.val_main_call0_cst, Cert.ReferenceSguIdeal.Read.val_main_call0_v2, Cert.ReferenceSguIdeal.Read.val_main_call0_v3, Cert.ReferenceSguIdeal.Read.val_main_call0_cst_0, Cert.ReferenceSguIdeal.Read.val_main_call0_v4, Cert.ReferenceSguIdeal.Read.val_main_call0_v5, part]
  rfl

/-- The reference's result. -/
theorem out_at (x : Proj) (l c : Gain) (w : Mix) (o : Off) (b : Fin 4) (n : Fin 32) (p : Fin 128) (g : Fin 8) (j : Fin 128) :
    Cert.ReferenceSguIdeal.Read.val_main_v66 (F := Ideal) x l c w o (ix3 b (tok n p) (chn g j)) = SG GELU x l c w o b n p g j := by
  have h := mix_at x l c w o b n p g j
  simp only [norm_at] at h
  refine (congrArg (fun e => _ * e * _) h).trans ?_
  rw [u_at, silu_at]
  unfold SG GATE
  rw [mul_right_comm]

end Cert.ReferenceSguIdeal.SguRef

end
-- ==== Proof.SguValue.lean ====
/- The spatial gating: the kernel's result array is the reference's term. -/
module

public import proofs.«01_k».proof.Proof.SguRef
public import proofs.«01_k».proof.Proof.Sums
public import proofs.«01_k».proof.Proof.Gen.Pre_above_bottom
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSguIdeal.SguValue

open Cert.KernelSguIdeal Cert.KernelSguIdeal.Gen SguMath Cert.ReferenceSguIdeal.SguRef Cert.Gelu

variable (m : (ℓ : Loc nD τ sig) → Buf (Elt Ideal) ℓ)

/-- The windows' block indices at every grid point. -/
theorem idx : ∀ t : Fin cfg0.N,
    win0_0.index t = ![(grid0.coords t 0).val, (grid0.coords t 1).val, 0]
      ∧ win0_1.index t = ![0, 0] ∧ win0_2.index t = ![0, 0]
      ∧ win0_3.index t = ![0, 0, 0] ∧ win0_4.index t = ![0, 0]
      ∧ win0_5.index t = ![(grid0.coords t 0).val, (grid0.coords t 1).val, 0] :=
  (by decide +kernel : ∀ t : Fin grid0.N, _)

/-- Place `p` of chunk `n` among a block's rows. -/
def row (n : Fin 4) (p : Fin 128) : Fin 512 := ⟨n.val * 128 + p.val, by omega⟩

/-- The kernel's value at a row and a channel of its block. -/
def BLK (x0 : Vec Ideal S1x512x3072 .bf16) (x1 x2 : Vec Ideal S1x1024 .f32) (x3 : Vec Ideal S8x128x128 .bf16)
    (x4 : Vec Ideal S128x1024 .f32) (n : Fin 4) (p : Fin 128) (g : Fin 8) (j : Fin 128) : EReal :=
  GATE KER (fun k => x0 (ix3 0 (row n p) k)) (chn g j)
    * (∑ q, x3 (ix3 g p q) * LN (fun k => KER (x0 (ix3 0 (row n q) (part 1 k)))) (chn g j) (x1 (ix2 0 (chn g j))) (x2 (ix2 0 (chn g j)))
      + x4 (ix2 p (chn g j)))

/-- A tile of the kernel's block, by its chunk and its group. -/
theorem piece_at (x0 : Vec Ideal S1x512x3072 .bf16) (x1 x2 : Vec Ideal S1x1024 .f32) (x3 : Vec Ideal S8x128x128 .bf16)
    (x4 : Vec Ideal S128x1024 .f32) (w : Vec Ideal S1x128x128 .bf16) (o : Vec Ideal S128x128 .f32) (r c : ℕ)
    (h : S512x1024.Slices ![r, c] S128x128) (n : Fin 4) (p : Fin 128) (g : Fin 8) (j : Fin 128)
    (hr : r = n.val * 128) (hc : c = g.val * 128) (hw : ∀ q, w (ix3 0 p q) = x3 (ix3 g p q))
    (ho : o (ix2 p j) = x4 (ix2 p (chn g j))) :
    TILE (k0_pay53 x0 x1 x2 x3 x4) (k0_pay54 x0 x1 x2 x3 x4) w o ![r, c] h (ix3 0 p j) = BLK x0 x1 x2 x3 x4 n p g j := by
  subst hr hc
  refine (tile_at _ _ _ _ _ _ h (by omega) (by omega) p j).trans ?_
  refine congrArg₂ (· * ·) (gate_at _ _ _ _ _ (row n p) (chn g j)) (congrArg₂ (· + ·) ?_ ho)
  exact Finset.sum_congr rfl fun q _ => congrArg₂ (· * ·) (hw q) (norm_at _ _ _ _ _ (row n q) (chn g j))

set_option maxHeartbeats 1000000 in
/-- What the body leaves in the output block. -/
theorem block_at (x : Vec Ideal S1x512x3072 .bf16) (l c : Vec Ideal S1x1024 .f32) (w : Vec Ideal S8x128x128 .bf16)
    (o : Vec Ideal S128x1024 .f32) (n : Fin 4) (p : Fin 128) (g : Fin 8) (j : Fin 128) :
    out0_5 (F := Ideal) x l c w o (ix3 0 (row n p) (chn g j)) = BLK x l c w o n p g j := by
  unfold out0_5
  canon_tiles y e
  all_goals
    have f1 : n.val * 128 + p.val = _ := e1
    have f2 : g.val * 128 + j.val = _ := e2
    idx_vars y
    obtain rfl : y0 = 0 := Subsingleton.elim _ _
    clear e0 e1 e2
    obtain rfl : y1 = p := by
      refine Fin.ext ?_
      omega
    obtain rfl : y2 = j := by
      refine Fin.ext ?_
      omega
    refine piece_at x l c w o _ _ _ _ _ n _ g _ (by omega) (by omega) (fun q => ?_) ?_
    · pointwise
      refine congrArg (fun k => w (ix3 k _ q)) (Fin.ext ?_)
      refine Nat.eq_of_mul_eq_mul_right (show 0 < 128 by decide) (Nat.add_right_cancel (m := y2.val) ?_)
      first
        | exact f2.symm
        | exact (Nat.zero_add _).trans f2.symm
    · pointwise [chn]
      simp only [f2]

/-- The chunk or the group of a place, and the place in it. -/
theorem tok_div (t : Fin 4096) : tok ⟨t.val / 128, by omega⟩ ⟨t.val % 128, Nat.mod_lt _ (by decide)⟩ = t :=
  Fin.ext (Nat.div_add_mod' t.val 128)

theorem chn_div (k : Fin 1024) : chn ⟨k.val / 128, by omega⟩ ⟨k.val % 128, Nat.mod_lt _ (by decide)⟩ = k :=
  Fin.ext (Nat.div_add_mod' k.val 128)

theorem row_div (r : Fin 512) : row ⟨r.val / 128, by omega⟩ ⟨r.val % 128, Nat.mod_lt _ (by decide)⟩ = r :=
  Fin.ext (Nat.div_add_mod' r.val 128)

/-- The result. -/
def REF (f : EReal → EReal) (x : Proj) (l c : Gain) (w : Mix) (o : Off) : FVec Ideal S4x4096x1024 .bf16 :=
  fun i => SG f x l c w o (i 0) ⟨(i 1).val / 128, Nat.div_lt_of_lt_mul (i 1).isLt⟩ ⟨(i 1).val % 128, Nat.mod_lt _ (by decide)⟩
    ⟨(i 2).val / 128, Nat.div_lt_of_lt_mul (i 2).isLt⟩ ⟨(i 2).val % 128, Nat.mod_lt _ (by decide)⟩

theorem REF_at (f : EReal → EReal) (x : Proj) (l c : Gain) (w : Mix) (o : Off) (b : Fin 4) (n : Fin 32) (p : Fin 128)
    (g : Fin 8) (j : Fin 128) : REF f x l c w o (ix3 b (tok n p) (chn g j)) = SG f x l c w o b n p g j := by
  have h1 : (⟨(tok n p).val / 128, by omega⟩ : Fin 32) = n := Fin.ext (by show (n.val * 128 + p.val) / 128 = n.val; omega)
  have h2 : (⟨(tok n p).val % 128, Nat.mod_lt _ (by decide)⟩ : Fin 128) = p :=
    Fin.ext (by show (n.val * 128 + p.val) % 128 = p.val; omega)
  have h3 : (⟨(chn g j).val / 128, by omega⟩ : Fin 8) = g := Fin.ext (by show (g.val * 128 + j.val) / 128 = g.val; omega)
  have h4 : (⟨(chn g j).val % 128, Nat.mod_lt _ (by decide)⟩ : Fin 128) = j :=
    Fin.ext (by show (g.val * 128 + j.val) % 128 = j.val; omega)
  show SG f x l c w o b ⟨(tok n p).val / 128, _⟩ ⟨(tok n p).val % 128, _⟩ ⟨(chn g j).val / 128, _⟩ ⟨(chn g j).val % 128, _⟩ = _
  rw [h1, h2, h3, h4]

/-- The reference's composed term. -/
theorem ref_eq (x : Proj) (l c : Gain) (w : Mix) (o : Off) :
    Cert.ReferenceSguIdeal.Read.val_main_v66 (F := Ideal) x l c w o = REF GELU x l c w o := by
  funext i
  obtain ⟨b, t, k, rfl⟩ : ∃ (b : Fin 4) (t : Fin 4096) (k : Fin 1024), i = ix3 b t k :=
    ⟨i 0, i 1, i 2, by funext a; fin_cases a <;> rfl⟩
  rw [← tok_div t, ← chn_div k]
  exact (out_at _ _ _ _ _ _ _ _ _ _).trans (REF_at _ _ _ _ _ _ _ _ _ _ _).symm

/-- A block's value is the array's, where the blocks are the arrays' parts. -/
theorem BLK_eq (x : Proj) (l c : Gain) (w : Mix) (o : Off) (x0 : Vec Ideal S1x512x3072 .bf16) (x1 x2 : Vec Ideal S1x1024 .f32)
    (x3 : Vec Ideal S8x128x128 .bf16) (x4 : Vec Ideal S128x1024 .f32) (b : Fin 4) (N : Fin 32) (n : Fin 4) (p : Fin 128)
    (g : Fin 8) (j : Fin 128) (h0 : ∀ q k, x0 (ix3 0 (row n q) k) = x (ix3 b (tok N q) k))
    (h1 : x1 (ix2 0 (chn g j)) = l (ix1 (chn g j))) (h2 : x2 (ix2 0 (chn g j)) = c (ix1 (chn g j)))
    (h3 : ∀ q, x3 (ix3 g p q) = w (ix3 g p q)) (h4 : x4 (ix2 p (chn g j)) = o (ix2 g p)) :
    BLK x0 x1 x2 x3 x4 n p g j = SG KER x l c w o b N p g j := by
  unfold BLK SG
  simp only [h0, h1, h2, h3, h4]

/-- The array after the run. -/
theorem final (c : Dev nD) : (dats m 0 c).arrAt 5 (cfgs 0).N
    = REF KER (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, k, rfl⟩ : ∃ (r : Fin 512) (k : Fin 1024), y = ix3 0 r k :=
    ⟨y 1, y 2, by
      funext a
      fin_cases a
      · exact Subsingleton.elim (α := Fin 1) _ _
      · rfl
      · rfl⟩
  obtain ⟨n, p, rfl⟩ : ∃ n p, r = row n p := ⟨_, _, (row_div r).symm⟩
  obtain ⟨g, j, rfl⟩ : ∃ g j, k = chn g j := ⟨_, _, (chn_div k).symm⟩
  refine (block_at _ _ _ _ _ _ _ _ _).trans ?_
  have hb : (grid0.coords t 1).val < 8 := (grid0.coords t 1).isLt
  refine (BLK_eq (m ((c : Thread nD τ).loc main_arg0)) (m ((c : Thread nD τ).loc main_arg1)) (m ((c : Thread nD τ).loc main_arg2))
        (m ((c : Thread nD τ).loc main_arg3)) (m ((c : Thread nD τ).loc main_arg4)) _ _ _ _ _ (grid0.coords t 0)
        ⟨(grid0.coords t 1).val * 4 + n.val, by omega⟩ n p g j (fun q k => ?_) ?_ ?_ (fun q => ?_) ?_).trans
    ((REF_at _ _ _ _ _ _ _ _ _ _ _).symm.trans (congrArg _ ?_))
  · blk_point [iblk, V, idx t, row, tok]
  · blk_point [iblk, V, idx t, chn]
  · blk_point [iblk, V, idx t, chn]
  · blk_point [iblk, V, idx t, chn]
  · blk_point [iblk, V, idx t, chn]
  · generalize REF KER _ _ _ _ _ = X
    blk_point [idx t, row, tok, chn]

/-- At an input above −∞ the two activations agree, so the results do. -/
theorem SG_eq (x : Proj) (l c : Gain) (w : Mix) (o : Off) (h : ∀ b t (s : Fin 2) k, x (ix3 b t (part s.castSucc k)) ≠ ⊥)
    (b : Fin 4) (n : Fin 32) (p : Fin 128) (g : Fin 8) (j : Fin 128) :
    SG KER x l c w o b n p g j = SG GELU x l c w o b n p g j := by
  have h0 : ∀ b t k, KER (x (ix3 b t (part 0 k))) = GELU (x (ix3 b t (part 0 k))) := fun b t k => ker_eq _ (h b t 0 k)
  have h1 : ∀ b t k, KER (x (ix3 b t (part 1 k))) = GELU (x (ix3 b t (part 1 k))) := fun b t k => ker_eq _ (h b t 1 k)
  simp only [SG, GATE, h0, h1]

theorem REF_eq (x : Proj) (l c : Gain) (w : Mix) (o : Off) (h : ∀ b t (s : Fin 2) k, x (ix3 b t (part s.castSucc k)) ≠ ⊥) :
    REF KER x l c w o = REF GELU x l c w o :=
  funext fun i => SG_eq x l c w o h _ _ _ _ _

/-- A value that compares above −∞ is not −∞. -/
theorem ne_bot_of_gt (x : EReal) (h : Ideal.cmp .ogt x (Ideal.ofBits .f32 0xFF800000#32) = 1#1) : x ≠ ⊥ := by
  rintro rfl
  rw [Cert.Sums.neg_inf] at h
  revert h
  simp [Ideal.cmp]

/-- The precondition at an entry. -/
theorem above (x : Proj) (l c : Gain) (w : Mix) (o : Off) (h : ∀ i, Cert.Pre_above_bottom.fn (F := Ideal) x l c w o i = 1#1)
    (b : Fin 4) (t : Fin 4096) (s : Fin 2) (k : Fin 1024) : x (ix3 b t (part s.castSucc k)) ≠ ⊥ := by
  refine ne_bot_of_gt _ ?_
  have h := h (ix3 b t ⟨1024 * s.val + k.val, by omega⟩)
  revert h
  pointwise [Cert.Pre_above_bottom.fn, part]
  exact id

/-- The kernel's literal is the named constant's word. -/
theorem preserves : Cert.preserves_KernelSgu_KernelSguIdeal :=
  IdealRules.named_const.statement Cert.KernelSguIdeal.κ "gelu_cubic" .f32 0x3D122279#32
    ((80338380498831 / 2251799813685248 : ℝ) : EReal) rfl

/-- The call computes its reference. -/
theorem algebraic : Cert.algebraic_KernelSguIdeal_ReferenceSguIdeal_pre_above_bottom := by
  intro m g m' g' hpre hagree
  have hx := fun c : Dev nD => above _ _ _ _ _ (congrFun (hpre c))
  refine ⟨fun c => REF KER (m (c.tc.loc main_arg0)) (m (c.tc.loc main_arg1)) (m (c.tc.loc main_arg2)) (m (c.tc.loc main_arg3))
    (m (c.tc.loc main_arg4)), ?_, ?_⟩
  · refine (θ_run Cert.KernelSguIdeal.defs _ _).mono (fun r h c => ?_) (Cert.KernelSguIdeal.Value.run_blocks m g)
    obtain ⟨h1, h2⟩ := h c
    exact ⟨h1.trans (final m c), h2⟩
  · refine (θ_run Cert.ReferenceSguIdeal.defs _ _).mono (fun r h c => ?_) (Cert.ReferenceSguIdeal.Value.run (F := Ideal) m' g')
    obtain ⟨h1, h2⟩ := h c
    obtain ⟨a0, a1, a2, a3, a4⟩ := hagree c
    rw [Cert.ReferenceSguIdeal.Read.val_main_v66_eq, a0, a1, a2, a3, a4] at h1
    exact ⟨h1.trans ((ref_eq _ _ _ _ _).trans (REF_eq _ _ _ _ _ (hx c)).symm), h2⟩

end Cert.KernelSguIdeal.SguValue

end
-- ==== Proof.lean ====
/- The claims about the calls of one layer: each call and its reference run to the end and leave their
   arguments alone, and each call computes what its reference says.
   A call's value is proved in its own module; the frames of the calls are generated. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_params
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.KernelGatesIdeal.Value
public import proofs.«01_k».proof.Proof.Gen.ReferenceGatesIdeal
public import proofs.«01_k».proof.Proof.Gen.ReferenceGatesIdeal.Run
public import proofs.«01_k».proof.Proof.Gen.ReferenceGatesIdeal.Read
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.ReferenceMergeIdeal.Read
public import proofs.«01_k».proof.Proof.Gen.KernelRkv
public import proofs.«01_k».proof.Proof.Gen.KernelRkv.Skeleton
public import proofs.«01_k».proof.Proof.Gen.KernelRkv.Launch
public import proofs.«01_k».proof.Proof.Gen.KernelRkv.Points
public import proofs.«01_k».proof.Proof.Gen.KernelRkv.Frame
public import proofs.«01_k».proof.Proof.Gen.KernelRkvIdeal
public import proofs.«01_k».proof.Proof.Gen.KernelRkvIdeal.Skeleton
public import proofs.«01_k».proof.Proof.Gen.KernelRkvIdeal.Launch
public import proofs.«01_k».proof.Proof.Gen.KernelRkvIdeal.Points
public import proofs.«01_k».proof.Proof.Gen.KernelRkvIdeal.Frame
public import proofs.«01_k».proof.Proof.Gen.KernelRkvIdeal.Value
public import proofs.«01_k».proof.Proof.Gen.ReferenceRkvIdeal
public import proofs.«01_k».proof.Proof.Gen.ReferenceRkvIdeal.Run
public import proofs.«01_k».proof.Proof.Gen.ReferenceRkvIdeal.Read
public import proofs.«01_k».proof.Proof.Gen.KernelLora
public import proofs.«01_k».proof.Proof.Gen.KernelLora.Skeleton
public import proofs.«01_k».proof.Proof.Gen.KernelLora.Launch
public import proofs.«01_k».proof.Proof.Gen.KernelLora.Points
public import proofs.«01_k».proof.Proof.Gen.KernelLora.Frame
public import proofs.«01_k».proof.Proof.Gen.KernelLoraIdeal
public import proofs.«01_k».proof.Proof.Gen.KernelLoraIdeal.Skeleton
public import proofs.«01_k».proof.Proof.Gen.KernelLoraIdeal.Launch
public import proofs.«01_k».proof.Proof.Gen.KernelLoraIdeal.Points
public import proofs.«01_k».proof.Proof.Gen.KernelLoraIdeal.Frame
public import proofs.«01_k».proof.Proof.Gen.KernelLoraIdeal.Value
public import proofs.«01_k».proof.Proof.Gen.ReferenceLoraIdeal
public import proofs.«01_k».proof.Proof.Gen.ReferenceLoraIdeal.Run
public import proofs.«01_k».proof.Proof.Gen.ReferenceLoraIdeal.Read
public import proofs.«01_k».proof.Proof.Gen.KernelGateA
public import proofs.«01_k».proof.Proof.Gen.KernelGateA.Skeleton
public import proofs.«01_k».proof.Proof.Gen.KernelGateA.Launch
public import proofs.«01_k».proof.Proof.Gen.KernelGateA.Points
public import proofs.«01_k».proof.Proof.Gen.KernelGateA.Frame
public import proofs.«01_k».proof.Proof.Gen.KernelGateAIdeal
public import proofs.«01_k».proof.Proof.Gen.KernelGateAIdeal.Skeleton
public import proofs.«01_k».proof.Proof.Gen.KernelGateAIdeal.Launch
public import proofs.«01_k».proof.Proof.Gen.KernelGateAIdeal.Points
public import proofs.«01_k».proof.Proof.Gen.KernelGateAIdeal.Frame
public import proofs.«01_k».proof.Proof.Gen.KernelGateAIdeal.Value
public import proofs.«01_k».proof.Proof.Gen.ReferenceGateAIdeal
public import proofs.«01_k».proof.Proof.Gen.ReferenceGateAIdeal.Run
public import proofs.«01_k».proof.Proof.Gen.ReferenceGateAIdeal.Read
public import proofs.«01_k».proof.Proof.Gen.KernelBranchB
public import proofs.«01_k».proof.Proof.Gen.KernelBranchB.Skeleton
public import proofs.«01_k».proof.Proof.Gen.KernelBranchB.Launch
public import proofs.«01_k».proof.Proof.Gen.KernelBranchB.Points
public import proofs.«01_k».proof.Proof.Gen.KernelBranchB.Frame
public import proofs.«01_k».proof.Proof.Gen.KernelBranchBIdeal
public import proofs.«01_k».proof.Proof.Gen.KernelBranchBIdeal.Skeleton
public import proofs.«01_k».proof.Proof.Gen.KernelBranchBIdeal.Launch
public import proofs.«01_k».proof.Proof.Gen.KernelBranchBIdeal.Points
public import proofs.«01_k».proof.Proof.Gen.KernelBranchBIdeal.Frame
public import proofs.«01_k».proof.Proof.Gen.KernelBranchBIdeal.Value
public import proofs.«01_k».proof.Proof.Gen.ReferenceBranchBIdeal
public import proofs.«01_k».proof.Proof.Gen.ReferenceBranchBIdeal.Run
public import proofs.«01_k».proof.Proof.Gen.ReferenceBranchBIdeal.Read
public import proofs.«01_k».proof.Proof.Gen.KernelBranchC
public import proofs.«01_k».proof.Proof.Gen.KernelBranchC.Skeleton
public import proofs.«01_k».proof.Proof.Gen.KernelBranchC.Launch
public import proofs.«01_k».proof.Proof.Gen.KernelBranchC.Points
public import proofs.«01_k».proof.Proof.Gen.KernelBranchC.Frame
public import proofs.«01_k».proof.Proof.Gen.KernelBranchCIdeal
public import proofs.«01_k».proof.Proof.Gen.KernelBranchCIdeal.Skeleton
public import proofs.«01_k».proof.Proof.Gen.KernelBranchCIdeal.Launch
public import proofs.«01_k».proof.Proof.Gen.KernelBranchCIdeal.Points
public import proofs.«01_k».proof.Proof.Gen.KernelBranchCIdeal.Frame
public import proofs.«01_k».proof.Proof.Gen.KernelBranchCIdeal.Value
public import proofs.«01_k».proof.Proof.Gen.ReferenceBranchCIdeal
public import proofs.«01_k».proof.Proof.Gen.ReferenceBranchCIdeal.Run
public import proofs.«01_k».proof.Proof.Gen.ReferenceBranchCIdeal.Read
public import proofs.«01_k».proof.Proof.Gen.KernelBranchM
public import proofs.«01_k».proof.Proof.Gen.KernelBranchM.Skeleton
public import proofs.«01_k».proof.Proof.Gen.KernelBranchM.Launch
public import proofs.«01_k».proof.Proof.Gen.KernelBranchM.Points
public import proofs.«01_k».proof.Proof.Gen.KernelBranchM.Frame
public import proofs.«01_k».proof.Proof.Gen.KernelBranchMIdeal
public import proofs.«01_k».proof.Proof.Gen.KernelBranchMIdeal.Skeleton
public import proofs.«01_k».proof.Proof.Gen.KernelBranchMIdeal.Launch
public import proofs.«01_k».proof.Proof.Gen.KernelBranchMIdeal.Points
public import proofs.«01_k».proof.Proof.Gen.KernelBranchMIdeal.Frame
public import proofs.«01_k».proof.Proof.Gen.KernelBranchMIdeal.Value
public import proofs.«01_k».proof.Proof.Gen.ReferenceBranchMIdeal
public import proofs.«01_k».proof.Proof.Gen.ReferenceBranchMIdeal.Run
public import proofs.«01_k».proof.Proof.Gen.ReferenceBranchMIdeal.Read
public import proofs.«01_k».proof.Proof.Gen.KernelMemKv
public import proofs.«01_k».proof.Proof.Gen.KernelMemKv.Skeleton
public import proofs.«01_k».proof.Proof.Gen.KernelMemKv.Launch
public import proofs.«01_k».proof.Proof.Gen.KernelMemKv.Points
public import proofs.«01_k».proof.Proof.Gen.KernelMemKv.Frame
public import proofs.«01_k».proof.Proof.Gen.KernelMemKvIdeal
public import proofs.«01_k».proof.Proof.Gen.KernelMemKvIdeal.Skeleton
public import proofs.«01_k».proof.Proof.Gen.KernelMemKvIdeal.Launch
public import proofs.«01_k».proof.Proof.Gen.KernelMemKvIdeal.Points
public import proofs.«01_k».proof.Proof.Gen.KernelMemKvIdeal.Frame
public import proofs.«01_k».proof.Proof.Gen.KernelMemKvIdeal.Value
public import proofs.«01_k».proof.Proof.Gen.ReferenceMemKvIdeal
public import proofs.«01_k».proof.Proof.Gen.ReferenceMemKvIdeal.Run
public import proofs.«01_k».proof.Proof.Gen.ReferenceMemKvIdeal.Read
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.ReferenceNormIdeal.Read
public import proofs.«01_k».proof.Proof.Gen.KernelNormMem
public import proofs.«01_k».proof.Proof.Gen.KernelNormMem.Skeleton
public import proofs.«01_k».proof.Proof.Gen.KernelNormMem.Launch
public import proofs.«01_k».proof.Proof.Gen.KernelNormMem.Points
public import proofs.«01_k».proof.Proof.Gen.KernelNormMem.Frame
public import proofs.«01_k».proof.Proof.Gen.KernelNormMemIdeal
public import proofs.«01_k».proof.Proof.Gen.KernelNormMemIdeal.Skeleton
public import proofs.«01_k».proof.Proof.Gen.KernelNormMemIdeal.Launch
public import proofs.«01_k».proof.Proof.Gen.KernelNormMemIdeal.Points
public import proofs.«01_k».proof.Proof.Gen.KernelNormMemIdeal.Frame
public import proofs.«01_k».proof.Proof.Gen.KernelNormMemIdeal.Value
public import proofs.«01_k».proof.Proof.Gen.ReferenceNormMemIdeal
public import proofs.«01_k».proof.Proof.Gen.ReferenceNormMemIdeal.Run
public import proofs.«01_k».proof.Proof.Gen.ReferenceNormMemIdeal.Read
public import proofs.«01_k».proof.Proof.Gen.KernelMemAttn
public import proofs.«01_k».proof.Proof.Gen.KernelMemAttn.Skeleton
public import proofs.«01_k».proof.Proof.Gen.KernelMemAttn.Launch
public import proofs.«01_k».proof.Proof.Gen.KernelMemAttn.Points
public import proofs.«01_k».proof.Proof.Gen.KernelMemAttn.Frame
public import proofs.«01_k».proof.Proof.Gen.KernelMemAttnIdeal
public import proofs.«01_k».proof.Proof.Gen.KernelMemAttnIdeal.Skeleton
public import proofs.«01_k».proof.Proof.Gen.KernelMemAttnIdeal.Launch
public import proofs.«01_k».proof.Proof.Gen.KernelMemAttnIdeal.Points
public import proofs.«01_k».proof.Proof.Gen.KernelMemAttnIdeal.Frame
public import proofs.«01_k».proof.Proof.Gen.KernelMemAttnIdeal.Value
public import proofs.«01_k».proof.Proof.Gen.ReferenceMemAttnIdeal
public import proofs.«01_k».proof.Proof.Gen.ReferenceMemAttnIdeal.Run
public import proofs.«01_k».proof.Proof.Gen.ReferenceMemAttnIdeal.Read
public import proofs.«01_k».proof.Proof.Gen.KernelPost
public import proofs.«01_k».proof.Proof.Gen.KernelPost.Skeleton
public import proofs.«01_k».proof.Proof.Gen.KernelPost.Launch
public import proofs.«01_k».proof.Proof.Gen.KernelPost.Points
public import proofs.«01_k».proof.Proof.Gen.KernelPost.Frame
public import proofs.«01_k».proof.Proof.Gen.KernelPostIdeal
public import proofs.«01_k».proof.Proof.Gen.KernelPostIdeal.Skeleton
public import proofs.«01_k».proof.Proof.Gen.KernelPostIdeal.Launch
public import proofs.«01_k».proof.Proof.Gen.KernelPostIdeal.Points
public import proofs.«01_k».proof.Proof.Gen.KernelPostIdeal.Frame
public import proofs.«01_k».proof.Proof.Gen.KernelPostIdeal.Value
public import proofs.«01_k».proof.Proof.Gen.ReferencePostIdeal
public import proofs.«01_k».proof.Proof.Gen.ReferencePostIdeal.Run
public import proofs.«01_k».proof.Proof.Gen.ReferencePostIdeal.Read
public import proofs.«01_k».proof.Proof.Gen.KernelSgu
public import proofs.«01_k».proof.Proof.Gen.KernelSgu.Skeleton
public import proofs.«01_k».proof.Proof.Gen.KernelSgu.Launch
public import proofs.«01_k».proof.Proof.Gen.KernelSgu.Points
public import proofs.«01_k».proof.Proof.Gen.KernelSgu.Frame
public import proofs.«01_k».proof.Proof.Gen.KernelSguIdeal
public import proofs.«01_k».proof.Proof.Gen.KernelSguIdeal.Skeleton
public import proofs.«01_k».proof.Proof.Gen.KernelSguIdeal.Launch
public import proofs.«01_k».proof.Proof.Gen.KernelSguIdeal.Points
public import proofs.«01_k».proof.Proof.Gen.KernelSguIdeal.Frame
public import proofs.«01_k».proof.Proof.Gen.KernelSguIdeal.Value
public import proofs.«01_k».proof.Proof.Gen.ReferenceSguIdeal
public import proofs.«01_k».proof.Proof.Gen.ReferenceSguIdeal.Run
public import proofs.«01_k».proof.Proof.Gen.ReferenceSguIdeal.Read
public import proofs.«01_k».proof.Proof.Gen.Pre_above_bottom
public import proofs.«01_k».proof.Proof.NattenClaim
public import proofs.«01_k».proof.Proof.OutValue
public import proofs.«01_k».proof.Proof.GatesValue
public import proofs.«01_k».proof.Proof.MergeValue
public import proofs.«01_k».proof.Proof.RkvValue
public import proofs.«01_k».proof.Proof.LoraValue
public import proofs.«01_k».proof.Proof.GateAValue
public import proofs.«01_k».proof.Proof.BranchBValue
public import proofs.«01_k».proof.Proof.BranchCValue
public import proofs.«01_k».proof.Proof.BranchMValue
public import proofs.«01_k».proof.Proof.MemKvValue
public import proofs.«01_k».proof.Proof.NormValue
public import proofs.«01_k».proof.Proof.NormMemValue
public import proofs.«01_k».proof.Proof.MemAttnValue
public import proofs.«01_k».proof.Proof.PostValue
public import proofs.«01_k».proof.Proof.SguValue
public import Idealize.ShloMosaic.Adequacy
public import Idealize.ShloMosaic.Init

@[expose] public section

noncomputable section

namespace Cert.Proof

open Idealize.ShloMosaic Idealize.SL.Sem

/-- The reference `Reference` runs to the end and leaves its arguments alone; it has no semaphores. -/
theorem frame_Reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference `ReferenceOut` runs to the end and leaves its arguments alone; it has no semaphores. -/
theorem frame_ReferenceOut : Cert.quiescent_ReferenceOutIdeal := fun m ρ _ =>
  (θ_run Cert.ReferenceOutIdeal.defs _ _).mono
    (fun r h => ⟨fun c => (h c).2, sem_eq_zero_of_no_sems (by decide) r.2⟩)
    (Cert.ReferenceOutIdeal.Value.run (F := Ideal) m ρ)

/-- The reference `ReferenceGates` runs to the end and leaves its arguments alone; it has no semaphores. -/
theorem frame_ReferenceGates : Cert.quiescent_ReferenceGatesIdeal := fun m ρ _ =>
  (θ_run Cert.ReferenceGatesIdeal.defs _ _).mono
    (fun r h => ⟨fun c => (h c).2.2, sem_eq_zero_of_no_sems (by decide) r.2⟩)
    (Cert.ReferenceGatesIdeal.Value.run (F := Ideal) m ρ)

/-- The reference `ReferenceMerge` runs to the end and leaves its arguments alone; it has no semaphores. -/
theorem frame_ReferenceMerge : Cert.quiescent_ReferenceMergeIdeal := fun m ρ _ =>
  (θ_run Cert.ReferenceMergeIdeal.defs _ _).mono
    (fun r h => ⟨fun c => (h c).2, sem_eq_zero_of_no_sems (by decide) r.2⟩)
    (Cert.ReferenceMergeIdeal.Value.run (F := Ideal) m ρ)

/-- The reference `ReferenceRkv` runs to the end and leaves its arguments alone; it has no semaphores. -/
theorem frame_ReferenceRkv : Cert.quiescent_ReferenceRkvIdeal := fun m ρ _ =>
  (θ_run Cert.ReferenceRkvIdeal.defs _ _).mono
    (fun r h => ⟨fun c => (h c).2, sem_eq_zero_of_no_sems (by decide) r.2⟩)
    (Cert.ReferenceRkvIdeal.Value.run (F := Ideal) m ρ)

/-- The reference `ReferenceLora` runs to the end and leaves its arguments alone; it has no semaphores. -/
theorem frame_ReferenceLora : Cert.quiescent_ReferenceLoraIdeal := fun m ρ _ =>
  (θ_run Cert.ReferenceLoraIdeal.defs _ _).mono
    (fun r h => ⟨fun c => (h c).2, sem_eq_zero_of_no_sems (by decide) r.2⟩)
    (Cert.ReferenceLoraIdeal.Value.run (F := Ideal) m ρ)

/-- The reference `ReferenceGateA` runs to the end and leaves its arguments alone; it has no semaphores. -/
theorem frame_ReferenceGateA : Cert.quiescent_ReferenceGateAIdeal := fun m ρ _ =>
  (θ_run Cert.ReferenceGateAIdeal.defs _ _).mono
    (fun r h => ⟨fun c => (h c).2.2, sem_eq_zero_of_no_sems (by decide) r.2⟩)
    (Cert.ReferenceGateAIdeal.Value.run (F := Ideal) m ρ)

/-- The reference `ReferenceBranchB` runs to the end and leaves its arguments alone; it has no semaphores. -/
theorem frame_ReferenceBranchB : Cert.quiescent_ReferenceBranchBIdeal := fun m ρ _ =>
  (θ_run Cert.ReferenceBranchBIdeal.defs _ _).mono
    (fun r h => ⟨fun c => (h c).2, sem_eq_zero_of_no_sems (by decide) r.2⟩)
    (Cert.ReferenceBranchBIdeal.Value.run (F := Ideal) m ρ)

/-- The reference `ReferenceBranchC` runs to the end and leaves its arguments alone; it has no semaphores. -/
theorem frame_ReferenceBranchC : Cert.quiescent_ReferenceBranchCIdeal := fun m ρ _ =>
  (θ_run Cert.ReferenceBranchCIdeal.defs _ _).mono
    (fun r h => ⟨fun c => (h c).2.2, sem_eq_zero_of_no_sems (by decide) r.2⟩)
    (Cert.ReferenceBranchCIdeal.Value.run (F := Ideal) m ρ)

/-- The reference `ReferenceBranchM` runs to the end and leaves its arguments alone; it has no semaphores. -/
theorem frame_ReferenceBranchM : Cert.quiescent_ReferenceBranchMIdeal := fun m ρ _ =>
  (θ_run Cert.ReferenceBranchMIdeal.defs _ _).mono
    (fun r h => ⟨fun c => (h c).2.2, sem_eq_zero_of_no_sems (by decide) r.2⟩)
    (Cert.ReferenceBranchMIdeal.Value.run (F := Ideal) m ρ)

/-- The reference `ReferenceMemKv` runs to the end and leaves its arguments alone; it has no semaphores. -/
theorem frame_ReferenceMemKv : Cert.quiescent_ReferenceMemKvIdeal := fun m ρ _ =>
  (θ_run Cert.ReferenceMemKvIdeal.defs _ _).mono
    (fun r h => ⟨fun c => (h c).2, sem_eq_zero_of_no_sems (by decide) r.2⟩)
    (Cert.ReferenceMemKvIdeal.Value.run (F := Ideal) m ρ)

/-- The reference `ReferenceNorm` runs to the end and leaves its arguments alone; it has no semaphores. -/
theorem frame_ReferenceNorm : Cert.quiescent_ReferenceNormIdeal := fun m ρ _ =>
  (θ_run Cert.ReferenceNormIdeal.defs _ _).mono
    (fun r h => ⟨fun c => (h c).2, sem_eq_zero_of_no_sems (by decide) r.2⟩)
    (Cert.ReferenceNormIdeal.Value.run (F := Ideal) m ρ)

/-- The reference `ReferenceNormMem` runs to the end and leaves its arguments alone; it has no semaphores. -/
theorem frame_ReferenceNormMem : Cert.quiescent_ReferenceNormMemIdeal := fun m ρ _ =>
  (θ_run Cert.ReferenceNormMemIdeal.defs _ _).mono
    (fun r h => ⟨fun c => (h c).2, sem_eq_zero_of_no_sems (by decide) r.2⟩)
    (Cert.ReferenceNormMemIdeal.Value.run (F := Ideal) m ρ)

/-- The reference `ReferenceMemAttn` runs to the end and leaves its arguments alone; it has no semaphores. -/
theorem frame_ReferenceMemAttn : Cert.quiescent_ReferenceMemAttnIdeal := fun m ρ _ =>
  (θ_run Cert.ReferenceMemAttnIdeal.defs _ _).mono
    (fun r h => ⟨fun c => (h c).2, sem_eq_zero_of_no_sems (by decide) r.2⟩)
    (Cert.ReferenceMemAttnIdeal.Value.run (F := Ideal) m ρ)

/-- The reference `ReferencePost` runs to the end and leaves its arguments alone; it has no semaphores. -/
theorem frame_ReferencePost : Cert.quiescent_ReferencePostIdeal := fun m ρ _ =>
  (θ_run Cert.ReferencePostIdeal.defs _ _).mono
    (fun r h => ⟨fun c => (h c).2, sem_eq_zero_of_no_sems (by decide) r.2⟩)
    (Cert.ReferencePostIdeal.Value.run (F := Ideal) m ρ)

/-- The reference `ReferenceSgu` runs to the end and leaves its arguments alone; it has no semaphores. -/
theorem frame_ReferenceSgu : Cert.quiescent_ReferenceSguIdeal := fun m ρ _ =>
  (θ_run Cert.ReferenceSguIdeal.defs _ _).mono
    (fun r h => ⟨fun c => (h c).2, sem_eq_zero_of_no_sems (by decide) r.2⟩)
    (Cert.ReferenceSguIdeal.Value.run (F := Ideal) m ρ)

/-- All the claims. -/
theorem claim : Cert.Claim := ⟨Cert.Kernel.Gen.facts,
  Cert.KernelIdeal.Gen.facts,
  Cert.ReferenceIdeal.Gen.facts,
  Cert.KernelOut.Gen.facts,
  Cert.KernelOutIdeal.Gen.facts,
  Cert.ReferenceOutIdeal.Gen.facts,
  Cert.KernelGates.Gen.facts,
  Cert.KernelGatesIdeal.Gen.facts,
  Cert.ReferenceGatesIdeal.Gen.facts,
  Cert.KernelMerge.Gen.facts,
  Cert.KernelMergeIdeal.Gen.facts,
  Cert.ReferenceMergeIdeal.Gen.facts,
  Cert.KernelRkv.Gen.facts,
  Cert.KernelRkvIdeal.Gen.facts,
  Cert.ReferenceRkvIdeal.Gen.facts,
  Cert.KernelLora.Gen.facts,
  Cert.KernelLoraIdeal.Gen.facts,
  Cert.ReferenceLoraIdeal.Gen.facts,
  Cert.KernelGateA.Gen.facts,
  Cert.KernelGateAIdeal.Gen.facts,
  Cert.ReferenceGateAIdeal.Gen.facts,
  Cert.KernelBranchB.Gen.facts,
  Cert.KernelBranchBIdeal.Gen.facts,
  Cert.ReferenceBranchBIdeal.Gen.facts,
  Cert.KernelBranchC.Gen.facts,
  Cert.KernelBranchCIdeal.Gen.facts,
  Cert.ReferenceBranchCIdeal.Gen.facts,
  Cert.KernelBranchM.Gen.facts,
  Cert.KernelBranchMIdeal.Gen.facts,
  Cert.ReferenceBranchMIdeal.Gen.facts,
  Cert.KernelMemKv.Gen.facts,
  Cert.KernelMemKvIdeal.Gen.facts,
  Cert.ReferenceMemKvIdeal.Gen.facts,
  Cert.KernelNorm.Gen.facts,
  Cert.KernelNormIdeal.Gen.facts,
  Cert.ReferenceNormIdeal.Gen.facts,
  Cert.KernelNormMem.Gen.facts,
  Cert.KernelNormMemIdeal.Gen.facts,
  Cert.ReferenceNormMemIdeal.Gen.facts,
  Cert.KernelMemAttn.Gen.facts,
  Cert.KernelMemAttnIdeal.Gen.facts,
  Cert.ReferenceMemAttnIdeal.Gen.facts,
  Cert.KernelPost.Gen.facts,
  Cert.KernelPostIdeal.Gen.facts,
  Cert.ReferencePostIdeal.Gen.facts,
  Cert.KernelSgu.Gen.facts,
  Cert.KernelSguIdeal.Gen.facts,
  Cert.ReferenceSguIdeal.Gen.facts,
  Cert.Pre_finite_params.Gen.facts,
  Cert.Pre_above_bottom.Gen.facts,
  fun m ρ _ => Cert.Kernel.Gen.frame m ρ,
  fun m ρ _ => Cert.KernelIdeal.Gen.frame m ρ,
  fun m ρ _ => Cert.KernelIdeal.Gen.frame m ρ,
  frame_Reference,
  fun m ρ _ => frame_Reference m ρ trivial,
  fun m ρ _ => Cert.KernelOut.Gen.frame m ρ,
  fun m ρ _ => Cert.KernelOutIdeal.Gen.frame m ρ,
  frame_ReferenceOut,
  fun m ρ _ => Cert.KernelGates.Gen.frame m ρ,
  fun m ρ _ => Cert.KernelGatesIdeal.Gen.frame m ρ,
  frame_ReferenceGates,
  fun m ρ _ => Cert.KernelMerge.Gen.frame m ρ,
  fun m ρ _ => Cert.KernelMergeIdeal.Gen.frame m ρ,
  frame_ReferenceMerge,
  fun m ρ _ => Cert.KernelRkv.Gen.frame m ρ,
  fun m ρ _ => Cert.KernelRkvIdeal.Gen.frame m ρ,
  frame_ReferenceRkv,
  fun m ρ _ => Cert.KernelLora.Gen.frame m ρ,
  fun m ρ _ => Cert.KernelLoraIdeal.Gen.frame m ρ,
  frame_ReferenceLora,
  fun m ρ _ => Cert.KernelGateA.Gen.frame m ρ,
  fun m ρ _ => Cert.KernelGateAIdeal.Gen.frame m ρ,
  frame_ReferenceGateA,
  fun m ρ _ => Cert.KernelBranchB.Gen.frame m ρ,
  fun m ρ _ => Cert.KernelBranchBIdeal.Gen.frame m ρ,
  frame_ReferenceBranchB,
  fun m ρ _ => Cert.KernelBranchC.Gen.frame m ρ,
  fun m ρ _ => Cert.KernelBranchCIdeal.Gen.frame m ρ,
  frame_ReferenceBranchC,
  fun m ρ _ => Cert.KernelBranchM.Gen.frame m ρ,
  fun m ρ _ => Cert.KernelBranchMIdeal.Gen.frame m ρ,
  frame_ReferenceBranchM,
  fun m ρ _ => Cert.KernelMemKv.Gen.frame m ρ,
  fun m ρ _ => Cert.KernelMemKvIdeal.Gen.frame m ρ,
  frame_ReferenceMemKv,
  fun m ρ _ => Cert.KernelNorm.Gen.frame m ρ,
  fun m ρ _ => Cert.KernelNormIdeal.Gen.frame m ρ,
  frame_ReferenceNorm,
  fun m ρ _ => Cert.KernelNormMem.Gen.frame m ρ,
  fun m ρ _ => Cert.KernelNormMemIdeal.Gen.frame m ρ,
  frame_ReferenceNormMem,
  fun m ρ _ => Cert.KernelMemAttn.Gen.frame m ρ,
  fun m ρ _ => Cert.KernelMemAttnIdeal.Gen.frame m ρ,
  frame_ReferenceMemAttn,
  fun m ρ _ => Cert.KernelPost.Gen.frame m ρ,
  fun m ρ _ => Cert.KernelPostIdeal.Gen.frame m ρ,
  frame_ReferencePost,
  fun m ρ _ => Cert.KernelSgu.Gen.frame m ρ,
  fun m ρ _ => Cert.KernelSguIdeal.Gen.frame m ρ,
  fun m ρ _ => Cert.KernelSguIdeal.Gen.frame m ρ,
  frame_ReferenceSgu,
  fun m ρ _ => frame_ReferenceSgu m ρ trivial,
  trivial,
  Cert.KernelIdeal.NattenClaim.algebraic,
  trivial,
  Cert.KernelOutIdeal.OutValue.algebraic,
  trivial,
  Cert.KernelGatesIdeal.GatesValue.algebraic,
  trivial,
  Cert.KernelMergeIdeal.MergeValue.algebraic,
  trivial,
  Cert.KernelRkvIdeal.RkvValue.algebraic,
  trivial,
  Cert.KernelLoraIdeal.LoraValue.algebraic,
  trivial,
  Cert.KernelGateAIdeal.GateAValue.algebraic,
  trivial,
  Cert.KernelBranchBIdeal.BranchBValue.algebraic,
  trivial,
  Cert.KernelBranchCIdeal.BranchCValue.algebraic,
  trivial,
  Cert.KernelBranchMIdeal.BranchMValue.algebraic,
  trivial,
  Cert.KernelMemKvIdeal.MemKvValue.algebraic,
  trivial,
  Cert.KernelNormIdeal.NormValue.algebraic,
  trivial,
  Cert.KernelNormMemIdeal.NormMemValue.algebraic,
  trivial,
  Cert.KernelMemAttnIdeal.MemAttnValue.algebraic,
  trivial,
  Cert.KernelPostIdeal.PostValue.algebraic,
  Cert.KernelSguIdeal.SguValue.preserves,
  Cert.KernelSguIdeal.SguValue.algebraic⟩

end Cert.Proof

end
